-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)) (v3 : (c : Dev Cert.Kernel5Ideal.nD) → Buf (Elt Ideal) ((c.tc : Thread Cert.Kernel5Ideal.nD Cert.Kernel5Ideal.τ).loc Cert.Kernel5Ideal.main_v20_3)) (v4 : (c : Dev Cert.Kernel5Ideal.nD) → Buf (Elt Ideal) ((c.tc : Thread Cert.Kernel5Ideal.nD Cert.Kernel5Ideal.τ).loc Cert.Kernel5Ideal.main_v20_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_v20_3) = v3 c
          ∧ r.2.mem ((c.tc : Thread Cert.Kernel5Ideal.nD Cert.Kernel5Ideal.τ).loc Cert.Kernel5Ideal.main_v20_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_v81) = v1 c
          ∧ r.2.mem ((c.tc : Thread Cert.Reference5Ideal.nD Cert.Reference5Ideal.τ).loc Cert.Reference5Ideal.main_v87) = v2 c
          ∧ r.2.mem ((c.tc : Thread Cert.Reference5Ideal.nD Cert.Reference5Ideal.τ).loc Cert.Reference5Ideal.main_v92) = v3 c
          ∧ r.2.mem ((c.tc : Thread Cert.Reference5Ideal.nD Cert.Reference5Ideal.τ).loc Cert.Reference5Ideal.main_v102) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S2x256x4096 : Shape := ⟨3, ![2, 256, 4096]⟩
abbrev S2x256x2048 : Shape := ⟨3, ![2, 256, 2048]⟩
abbrev S2x64x128x4096 : Shape := ⟨4, ![2, 64, 128, 4096]⟩
abbrev S2x64x128x2048 : Shape := ⟨4, ![2, 64, 128, 2048]⟩
abbrev S1x256x256 : Shape := ⟨3, ![1, 256, 256]⟩
abbrev S1x256x512 : Shape := ⟨3, ![1, 256, 512]⟩
abbrev S1x16x128x256 : Shape := ⟨4, ![1, 16, 128, 256]⟩
abbrev S1x16x128x512 : Shape := ⟨4, ![1, 16, 128, 512]⟩
abbrev S2x1x512x256 : Shape := ⟨4, ![2, 1, 512, 256]⟩
abbrev S2x2x64x256 : Shape := ⟨4, ![2, 2, 64, 256]⟩
abbrev S2x512x256 : Shape := ⟨3, ![2, 512, 256]⟩
abbrev S64x64 : Shape := ⟨2, ![64, 64]⟩
abbrev S8x64 : Shape := ⟨2, ![8, 64]⟩
abbrev S1x64x256 : Shape := ⟨3, ![1, 64, 256]⟩
abbrev S64x256 : Shape := ⟨2, ![64, 256]⟩
abbrev S64x512 : Shape := ⟨2, ![64, 512]⟩
abbrev S1x64x512 : Shape := ⟨3, ![1, 64, 512]⟩
abbrev S1x256 : Shape := ⟨2, ![1, 256]⟩
abbrev S1x1x512x256 : Shape := ⟨4, ![1, 1, 512, 256]⟩
abbrev S512x256 : Shape := ⟨2, ![512, 256]⟩
abbrev S1x1x64x256 : Shape := ⟨4, ![1, 1, 64, 256]⟩
abbrev S32x256 : Shape := ⟨2, ![32, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x1x64x512 : Shape := ⟨4, ![1, 1, 64, 512]⟩
abbrev S1x512x256 : Shape := ⟨3, ![1, 512, 256]⟩
abbrev S32x64 : Shape := ⟨2, ![32, 64]⟩
abbrev S16x256 : Shape := ⟨2, ![16, 256]⟩
abbrev S48x256 : Shape := ⟨2, ![48, 256]⟩
abbrev S16x64 : Shape := ⟨2, ![16, 64]⟩
abbrev S8x256 : Shape := ⟨2, ![8, 256]⟩
abbrev S8 : Shape := ⟨1, ![8]⟩
abbrev S8x1 : Shape := ⟨2, ![8, 1]⟩

abbrev nBuf : Space → Nat
  | .hbm => 6
  | .vmem => 31
  | .smem => 0
  | _ => 0

abbrev bufTy : (tb : Table) → Fin (tcTables nBuf tb) → BufTy
  | .hbm, ⟨0, _⟩ => ⟨S2x256x4096, .bf16⟩
  | .hbm, ⟨1, _⟩ => ⟨S2x256x2048, .f32⟩
  | .hbm, ⟨2, _⟩ => ⟨S2x64x128x4096, .bf16⟩
  | .hbm, ⟨3, _⟩ => ⟨S2x64x128x2048, .f32⟩
  | .hbm, ⟨4, _⟩ => ⟨S2x64x128x2048, .bf16⟩
  | .hbm, ⟨5, _⟩ => ⟨S2x64x128x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x16x128x256, .bf16⟩
  | .local _ .vmem, ⟨9, _⟩ => ⟨S1x16x128x256, .bf16⟩
  | .local _ .vmem, ⟨10, _⟩ => ⟨S1x16x128x256, .bf16⟩
  | .local _ .vmem, ⟨11, _⟩ => ⟨S1x16x128x256, .bf16⟩
  | .local _ .vmem, ⟨12, _⟩ => ⟨S1x16x128x512, .bf16⟩
  | .local _ .vmem, ⟨13, _⟩ => ⟨S1x16x128x512, .bf16⟩
  | .local _ .vmem, ⟨14, _⟩ => ⟨S1x16x128x256, .f32⟩
  | .local _ .vmem, ⟨15, _⟩ => ⟨S1x16x128x256, .f32⟩
  | .local _ .vmem, ⟨16, _⟩ => ⟨S1x16x128x256, .bf16⟩
  | .local _ .vmem, ⟨17, _⟩ => ⟨S1x16x128x256, .bf16⟩
  | .local _ .vmem, ⟨18, _⟩ => ⟨S1x16x128x256, .bf16⟩
  | .local _ .vmem, ⟨19, _⟩ => ⟨S1x16x128x256, .bf16⟩
  | .local _ .vmem, ⟨20, _⟩ => ⟨S1x16x128x512, .bf16⟩
  | .local _ .vmem, ⟨21, _⟩ => ⟨S1x16x128x512, .bf16⟩
  | .local _ .vmem, ⟨22, _⟩ => ⟨S1x16x128x256, .f32⟩
  | .local _ .vmem, ⟨23, _⟩ => ⟨S1x16x128x256, .f32⟩
  | .local _ .vmem, ⟨24, _⟩ => ⟨S1x16x128x512, .bf16⟩
  | .local _ .vmem, ⟨25, _⟩ => ⟨S1x16x128x512, .bf16⟩
  | .local _ .vmem, ⟨26, _⟩ => ⟨S1x16x128x512, .bf16⟩
  | .local _ .vmem, ⟨27, _⟩ => ⟨S1x16x128x512, .bf16⟩
  | .local _ .vmem, ⟨28, _⟩ => ⟨S2x1x512x256, .f32⟩
  | .local _ .vmem, ⟨29, _⟩ => ⟨S2x2x64x256, .f32⟩
  | .local _ .vmem, ⟨30, _⟩ => ⟨S2x512x256, .bf16⟩
  | _, _ => ⟨S2x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 4, 5], ![false, false, false]⟩

def k0_cond1 (i : grid0.Coords) : BitVec 1 :=
  let arg2 : BitVec 32 := BitVec.ofNat 32 (i 2).val
  let c0_i32 : BitVec 32 := 0#32
  let v15 : BitVec 1 := Scalar.cmpi .eq arg2 c0_i32
  let v16 : BitVec 32 := Scalar.extui v15
  let c0_i32_3 : BitVec 32 := 0#32
  let v17 : BitVec 1 := Scalar.cmpi .ne v16 c0_i32_3
  v17

@[reducible] def k0_t1_loop : Scf.Loop 32 :=
  let c0_i32_10 : BitVec 32 := 0#32
  let c4_i32 : BitVec 32 := 4#32
  let v25 : BitVec 32 := Scalar.addi c0_i32_10 c4_i32
  let c1_i32 : BitVec 32 := 1#32
  ⟨c0_i32_10, v25, c1_i32⟩
def k0_mult1 (k0_t1 : Fin k0_t1_loop.trips) : BitVec 32 :=
  let c0_i32_10 : BitVec 32 := 0#32
  let c1_i32 : BitVec 32 := 1#32
  let arg20 : BitVec 32 := Scf.iv c0_i32_10 c1_i32 k0_t1
  let c64_i32 : BitVec 32 := 64#32
  let v26 : BitVec 32 := Scalar.muli arg20 c64_i32
  v26
def k0_mult2 (k0_t1 : Fin k0_t1_loop.trips) : BitVec 32 :=
  let c3_i32 : BitVec 32 := 3#32
  let c0_i32_10 : BitVec 32 := 0#32
  let c1_i32 : BitVec 32 := 1#32
  let arg20 : BitVec 32 := Scf.iv c0_i32_10 c1_i32 k0_t1
  let v28 : BitVec 32 := Scalar.subi c3_i32 arg20
  let c64_i32_12 : BitVec 32 := 64#32
  let v29 : BitVec 32 := Scalar.muli v28 c64_i32_12
  v29
def k0_off1 (k0_t1 : Fin k0_t1_loop.trips) : Fin 3 → Nat :=
  let c0_13 : Index := 0#32
  let c0_i32_10 : BitVec 32 := 0#32
  let c1_i32 : BitVec 32 := 1#32
  let arg20 : BitVec 32 := Scf.iv c0_i32_10 c1_i32 k0_t1
  let c64_i32 : BitVec 32 := 64#32
  let v26 : BitVec 32 := Scalar.muli arg20 c64_i32
  let v27 : BitVec 32 := v26
  let v31 : Index := Scalar.indexCast v27
  let c0_14 : Index := 0#32
  ![0, v31.toNat, 0]
def k0_off2 (k0_t1 : Fin k0_t1_loop.trips) : Fin 3 → Nat :=
  let c0_16 : Index := 0#32
  let c3_i32 : BitVec 32 := 3#32
  let c0_i32_10 : BitVec 32 := 0#32
  let c1_i32 : BitVec 32 := 1#32
  let arg20 : BitVec 32 := Scf.iv c0_i32_10 c1_i32 k0_t1
  let v28 : BitVec 32 := Scalar.subi c3_i32 arg20
  let c64_i32_12 : BitVec 32 := 64#32
  let v29 : BitVec 32 := Scalar.muli v28 c64_i32_12
  let v30 : BitVec 32 := v29
  let v43 : Index := Scalar.indexCast v30
  let c0_17 : Index := 0#32
  ![0, v43.toNat, 0]
def k0_off3 (k0_t1 : Fin k0_t1_loop.trips) : Fin 3 → Nat :=
  let c0_21 : Index := 0#32
  let c0_i32_10 : BitVec 32 := 0#32
  let c1_i32 : BitVec 32 := 1#32
  let arg20 : BitVec 32 := Scf.iv c0_i32_10 c1_i32 k0_t1
  let c64_i32 : BitVec 32 := 64#32
  let v26 : BitVec 32 := Scalar.muli arg20 c64_i32
  let v27 : BitVec 32 := v26
  let v58 : Index := Scalar.indexCast v27
  let c0_22 : Index := 0#32
  ![0, v58.toNat, 0]
def k0_off4 (k0_t1 : Fin k0_t1_loop.trips) : Fin 3 → Nat :=
  let c0_34 : Index := 0#32
  let c3_i32 : BitVec 32 := 3#32
  let c0_i32_10 : BitVec 32 := 0#32
  let c1_i32 : BitVec 32 := 1#32
  let arg20 : BitVec 32 := Scf.iv c0_i32_10 c1_i32 k0_t1
  let v28 : BitVec 32 := Scalar.subi c3_i32 arg20
  let c64_i32_12 : BitVec 32 := 64#32
  let v29 : BitVec 32 := Scalar.muli v28 c64_i32_12
  let v30 : BitVec 32 := v29
  let v81 : Index := Scalar.indexCast v30
  let c0_35 : Index := 0#32
  ![0, v81.toNat, 0]
def k0_cond2 (i : grid0.Coords) : BitVec 1 :=
  let arg2 : BitVec 32 := BitVec.ofNat 32 (i 2).val
  let c0_i32_4 : BitVec 32 := 0#32
  let v18 : BitVec 1 := Scalar.cmpi .sgt arg2 c0_i32_4
  let v19 : BitVec 32 := Scalar.extui v18
  let c0_i32_5 : BitVec 32 := 0#32
  let v20 : BitVec 1 := Scalar.cmpi .ne v19 c0_i32_5
  v20

@[reducible] def k0_t2_loop : Scf.Loop 32 :=
  let c1_i32 : BitVec 32 := 1#32
  let c31_i32 : BitVec 32 := 31#32
  let v127 : BitVec 32 := Scalar.addi c1_i32 c31_i32
  let c1_i32_58 : BitVec 32 := 1#32
  ⟨c1_i32, v127, c1_i32_58⟩
def k0_off5 (k0_t2 : Fin k0_t2_loop.trips) : Fin 4 → Nat :=
  let c1_i32 : BitVec 32 := 1#32
  let c1_i32_58 : BitVec 32 := 1#32
  let arg20 : BitVec 32 := Scf.iv c1_i32 c1_i32_58 k0_t2
  let c2_i32 : BitVec 32 := 2#32
  let v151 : BitVec 32 := Scalar.remsi arg20 c2_i32
  let v156 : Index := Scalar.indexCast v151
  let c0_88 : Index := 0#32
  let c0_89 : Index := 0#32
  let c0_90 : Index := 0#32
  ![v156.toNat, 0, 0, 0]
def k0_off6 (k0_t2 : Fin k0_t2_loop.trips) : Fin 4 → Nat :=
  let c1_i32 : BitVec 32 := 1#32
  let c1_i32_58 : BitVec 32 := 1#32
  let arg20 : BitVec 32 := Scf.iv c1_i32 c1_i32_58 k0_t2
  let c2_i32 : BitVec 32 := 2#32
  let v151 : BitVec 32 := Scalar.remsi arg20 c2_i32
  let v159 : Index := Scalar.indexCast v151
  let c1_91 : Index := 1#32
  let c0_92 : Index := 0#32
  let c0_93 : Index := 0#32
  ![v159.toNat, 1, 0, 0]
def k0_mult3 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let c0_i32_96 : BitVec 32 := 0#32
  let v164 : BitVec 1 := Scalar.cmpi .sgt v162 c0_i32_96
  let v165 : BitVec 32 := Scalar.extui v164
  let c0_i32_97 : BitVec 32 := 0#32
  let v166 : BitVec 1 := Scalar.cmpi .slt v162 c0_i32_97
  let v167 : BitVec 32 := Scalar.extui v166
  let v168 : BitVec 32 := Scalar.subi v165 v167
  let c2_i32_95 : BitVec 32 := 2#32
  let c0_i32_98 : BitVec 32 := 0#32
  let v169 : BitVec 1 := Scalar.cmpi .sgt c2_i32_95 c0_i32_98
  let v170 : BitVec 32 := Scalar.extui v169
  let c0_i32_99 : BitVec 32 := 0#32
  let v171 : BitVec 1 := Scalar.cmpi .slt c2_i32_95 c0_i32_99
  let v172 : BitVec 32 := Scalar.extui v171
  let v173 : BitVec 32 := Scalar.subi v170 v172
  let v174 : BitVec 1 := Scalar.cmpi .ne v168 v173
  let v175 : BitVec 32 := Scalar.remsi v162 c2_i32_95
  let c0_i32_100 : BitVec 32 := 0#32
  let v176 : BitVec 1 := Scalar.cmpi .ne v175 c0_i32_100
  let v177 : BitVec 1 := Scalar.andi v174 v176
  let v163 : BitVec 32 := Scalar.divsi v162 c2_i32_95
  let c1_i32_101 : BitVec 32 := 1#32
  let v178 : BitVec 32 := Scalar.subi v163 c1_i32_101
  let v179 : BitVec 32 := Scalar.select v177 v178 v163
  let c2_i32_102 : BitVec 32 := 2#32
  let v180 : BitVec 32 := Scalar.muli v179 c2_i32_102
  let v181 : BitVec 32 := Scalar.subi v162 v180
  let c64_i32 : BitVec 32 := 64#32
  let v182 : BitVec 32 := Scalar.muli v181 c64_i32
  v182
def k0_off7 (k0_t2 : Fin k0_t2_loop.trips) : Fin 4 → Nat :=
  let c0_103 : Index := 0#32
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let c0_i32_96 : BitVec 32 := 0#32
  let v164 : BitVec 1 := Scalar.cmpi .sgt v162 c0_i32_96
  let v165 : BitVec 32 := Scalar.extui v164
  let c0_i32_97 : BitVec 32 := 0#32
  let v166 : BitVec 1 := Scalar.cmpi .slt v162 c0_i32_97
  let v167 : BitVec 32 := Scalar.extui v166
  let v168 : BitVec 32 := Scalar.subi v165 v167
  let c2_i32_95 : BitVec 32 := 2#32
  let c0_i32_98 : BitVec 32 := 0#32
  let v169 : BitVec 1 := Scalar.cmpi .sgt c2_i32_95 c0_i32_98
  let v170 : BitVec 32 := Scalar.extui v169
  let c0_i32_99 : BitVec 32 := 0#32
  let v171 : BitVec 1 := Scalar.cmpi .slt c2_i32_95 c0_i32_99
  let v172 : BitVec 32 := Scalar.extui v171
  let v173 : BitVec 32 := Scalar.subi v170 v172
  let v174 : BitVec 1 := Scalar.cmpi .ne v168 v173
  let v175 : BitVec 32 := Scalar.remsi v162 c2_i32_95
  let c0_i32_100 : BitVec 32 := 0#32
  let v176 : BitVec 1 := Scalar.cmpi .ne v175 c0_i32_100
  let v177 : BitVec 1 := Scalar.andi v174 v176
  let v163 : BitVec 32 := Scalar.divsi v162 c2_i32_95
  let c1_i32_101 : BitVec 32 := 1#32
  let v178 : BitVec 32 := Scalar.subi v163 c1_i32_101
  let v179 : BitVec 32 := Scalar.select v177 v178 v163
  let v184 : Index := Scalar.indexCast v179
  let c2_i32_102 : BitVec 32 := 2#32
  let v180 : BitVec 32 := Scalar.muli v179 c2_i32_102
  let v181 : BitVec 32 := Scalar.subi v162 v180
  let c64_i32 : BitVec 32 := 64#32
  let v182 : BitVec 32 := Scalar.muli v181 c64_i32
  let v183 : BitVec 32 := v182
  let v185 : Index := Scalar.indexCast v183
  let c0_104 : Index := 0#32
  ![0, v184.toNat, v185.toNat, 0]
def k0_mult4 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let c0_i32_111 : BitVec 32 := 0#32
  let v195 : BitVec 1 := Scalar.cmpi .sgt v162 c0_i32_111
  let v196 : BitVec 32 := Scalar.extui v195
  let c0_i32_112 : BitVec 32 := 0#32
  let v197 : BitVec 1 := Scalar.cmpi .slt v162 c0_i32_112
  let v198 : BitVec 32 := Scalar.extui v197
  let v199 : BitVec 32 := Scalar.subi v196 v198
  let c2_i32_110 : BitVec 32 := 2#32
  let c0_i32_113 : BitVec 32 := 0#32
  let v200 : BitVec 1 := Scalar.cmpi .sgt c2_i32_110 c0_i32_113
  let v201 : BitVec 32 := Scalar.extui v200
  let c0_i32_114 : BitVec 32 := 0#32
  let v202 : BitVec 1 := Scalar.cmpi .slt c2_i32_110 c0_i32_114
  let v203 : BitVec 32 := Scalar.extui v202
  let v204 : BitVec 32 := Scalar.subi v201 v203
  let v205 : BitVec 1 := Scalar.cmpi .ne v199 v204
  let v206 : BitVec 32 := Scalar.remsi v162 c2_i32_110
  let c0_i32_115 : BitVec 32 := 0#32
  let v207 : BitVec 1 := Scalar.cmpi .ne v206 c0_i32_115
  let v208 : BitVec 1 := Scalar.andi v205 v207
  let v194 : BitVec 32 := Scalar.divsi v162 c2_i32_110
  let c1_i32_116 : BitVec 32 := 1#32
  let v209 : BitVec 32 := Scalar.subi v194 c1_i32_116
  let v210 : BitVec 32 := Scalar.select v208 v209 v194
  let c2_i32_117 : BitVec 32 := 2#32
  let v211 : BitVec 32 := Scalar.muli v210 c2_i32_117
  let v212 : BitVec 32 := Scalar.subi v162 v211
  let c64_i32_118 : BitVec 32 := 64#32
  let v213 : BitVec 32 := Scalar.muli v212 c64_i32_118
  v213
def k0_mult5 (k0_t2 : Fin k0_t2_loop.trips) : BitVec 32 :=
  let c31_i32_121 : BitVec 32 := 31#32
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let v220 : BitVec 32 := Scalar.subi c31_i32_121 v162
  let c0_i32_123 : BitVec 32 := 0#32
  let v222 : BitVec 1 := Scalar.cmpi .sgt v220 c0_i32_123
  let v223 : BitVec 32 := Scalar.extui v222
  let c0_i32_124 : BitVec 32 := 0#32
  let v224 : BitVec 1 := Scalar.cmpi .slt v220 c0_i32_124
  let v225 : BitVec 32 := Scalar.extui v224
  let v226 : BitVec 32 := Scalar.subi v223 v225
  let c2_i32_122 : BitVec 32 := 2#32
  let c0_i32_125 : BitVec 32 := 0#32
  let v227 : BitVec 1 := Scalar.cmpi .sgt c2_i32_122 c0_i32_125
  let v228 : BitVec 32 := Scalar.extui v227
  let c0_i32_126 : BitVec 32 := 0#32
  let v229 : BitVec 1 := Scalar.cmpi .slt c2_i32_122 c0_i32_126
  let v230 : BitVec 32 := Scalar.extui v229
  let v231 : BitVec 32 := Scalar.subi v228 v230
  let v232 : BitVec 1 := Scalar.cmpi .ne v226 v231
  let v233 : BitVec 32 := Scalar.remsi v220 c2_i32_122
  let c0_i32_127 : BitVec 32 := 0#32
  let v234 : BitVec 1 := Scalar.cmpi .ne v233 c0_i32_127
  let v235 : BitVec 1 := Scalar.andi v232 v234
  let v221 : BitVec 32 := Scalar.divsi v220 c2_i32_122
  let c1_i32_128 : BitVec 32 := 1#32
  let v236 : BitVec 32 := Scalar.subi v221 c1_i32_128
  let v237 : BitVec 32 := Scalar.select v235 v236 v221
  let c2_i32_129 : BitVec 32 := 2#32
  let v238 : BitVec 32 := Scalar.muli v237 c2_i32_129
  let v239 : BitVec 32 := Scalar.subi v220 v238
  let c64_i32_130 : BitVec 32 := 64#32
  let v240 : BitVec 32 := Scalar.muli v239 c64_i32_130
  v240
def k0_off8 (k0_t2 : Fin k0_t2_loop.trips) : Fin 4 → Nat :=
  let c0_131 : Index := 0#32
  let c31_i32_121 : BitVec 32 := 31#32
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let v220 : BitVec 32 := Scalar.subi c31_i32_121 v162
  let c0_i32_123 : BitVec 32 := 0#32
  let v222 : BitVec 1 := Scalar.cmpi .sgt v220 c0_i32_123
  let v223 : BitVec 32 := Scalar.extui v222
  let c0_i32_124 : BitVec 32 := 0#32
  let v224 : BitVec 1 := Scalar.cmpi .slt v220 c0_i32_124
  let v225 : BitVec 32 := Scalar.extui v224
  let v226 : BitVec 32 := Scalar.subi v223 v225
  let c2_i32_122 : BitVec 32 := 2#32
  let c0_i32_125 : BitVec 32 := 0#32
  let v227 : BitVec 1 := Scalar.cmpi .sgt c2_i32_122 c0_i32_125
  let v228 : BitVec 32 := Scalar.extui v227
  let c0_i32_126 : BitVec 32 := 0#32
  let v229 : BitVec 1 := Scalar.cmpi .slt c2_i32_122 c0_i32_126
  let v230 : BitVec 32 := Scalar.extui v229
  let v231 : BitVec 32 := Scalar.subi v228 v230
  let v232 : BitVec 1 := Scalar.cmpi .ne v226 v231
  let v233 : BitVec 32 := Scalar.remsi v220 c2_i32_122
  let c0_i32_127 : BitVec 32 := 0#32
  let v234 : BitVec 1 := Scalar.cmpi .ne v233 c0_i32_127
  let v235 : BitVec 1 := Scalar.andi v232 v234
  let v221 : BitVec 32 := Scalar.divsi v220 c2_i32_122
  let c1_i32_128 : BitVec 32 := 1#32
  let v236 : BitVec 32 := Scalar.subi v221 c1_i32_128
  let v237 : BitVec 32 := Scalar.select v235 v236 v221
  let v242 : Index := Scalar.indexCast v237
  let c2_i32_129 : BitVec 32 := 2#32
  let v238 : BitVec 32 := Scalar.muli v237 c2_i32_129
  let v239 : BitVec 32 := Scalar.subi v220 v238
  let c64_i32_130 : BitVec 32 := 64#32
  let v240 : BitVec 32 := Scalar.muli v239 c64_i32_130
  let v241 : BitVec 32 := v240
  let v243 : Index := Scalar.indexCast v241
  let c0_132 : Index := 0#32
  ![0, v242.toNat, v243.toNat, 0]
def k0_mult6 (k0_t2 : Fin k0_t2_loop.trips) : BitVec 32 :=
  let c31_i32_138 : BitVec 32 := 31#32
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let v252 : BitVec 32 := Scalar.subi c31_i32_138 v162
  let c0_i32_140 : BitVec 32 := 0#32
  let v254 : BitVec 1 := Scalar.cmpi .sgt v252 c0_i32_140
  let v255 : BitVec 32 := Scalar.extui v254
  let c0_i32_141 : BitVec 32 := 0#32
  let v256 : BitVec 1 := Scalar.cmpi .slt v252 c0_i32_141
  let v257 : BitVec 32 := Scalar.extui v256
  let v258 : BitVec 32 := Scalar.subi v255 v257
  let c2_i32_139 : BitVec 32 := 2#32
  let c0_i32_142 : BitVec 32 := 0#32
  let v259 : BitVec 1 := Scalar.cmpi .sgt c2_i32_139 c0_i32_142
  let v260 : BitVec 32 := Scalar.extui v259
  let c0_i32_143 : BitVec 32 := 0#32
  let v261 : BitVec 1 := Scalar.cmpi .slt c2_i32_139 c0_i32_143
  let v262 : BitVec 32 := Scalar.extui v261
  let v263 : BitVec 32 := Scalar.subi v260 v262
  let v264 : BitVec 1 := Scalar.cmpi .ne v258 v263
  let v265 : BitVec 32 := Scalar.remsi v252 c2_i32_139
  let c0_i32_144 : BitVec 32 := 0#32
  let v266 : BitVec 1 := Scalar.cmpi .ne v265 c0_i32_144
  let v267 : BitVec 1 := Scalar.andi v264 v266
  let v253 : BitVec 32 := Scalar.divsi v252 c2_i32_139
  let c1_i32_145 : BitVec 32 := 1#32
  let v268 : BitVec 32 := Scalar.subi v253 c1_i32_145
  let v269 : BitVec 32 := Scalar.select v267 v268 v253
  let c2_i32_146 : BitVec 32 := 2#32
  let v270 : BitVec 32 := Scalar.muli v269 c2_i32_146
  let v271 : BitVec 32 := Scalar.subi v252 v270
  let c64_i32_147 : BitVec 32 := 64#32
  let v272 : BitVec 32 := Scalar.muli v271 c64_i32_147
  v272
def k0_mult7 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c1_i32_150 : BitVec 32 := 1#32
  let v279 : BitVec 32 := Scalar.addi arg20 c1_i32_150
  let c31_i32_151 : BitVec 32 := 31#32
  let v280 : BitVec 32 := Scalar.minsi v279 c31_i32_151
  let c0_i32_154 : BitVec 32 := 0#32
  let v283 : BitVec 1 := Scalar.cmpi .sgt v280 c0_i32_154
  let v284 : BitVec 32 := Scalar.extui v283
  let c0_i32_155 : BitVec 32 := 0#32
  let v285 : BitVec 1 := Scalar.cmpi .slt v280 c0_i32_155
  let v286 : BitVec 32 := Scalar.extui v285
  let v287 : BitVec 32 := Scalar.subi v284 v286
  let c2_i32_153 : BitVec 32 := 2#32
  let c0_i32_156 : BitVec 32 := 0#32
  let v288 : BitVec 1 := Scalar.cmpi .sgt c2_i32_153 c0_i32_156
  let v289 : BitVec 32 := Scalar.extui v288
  let c0_i32_157 : BitVec 32 := 0#32
  let v290 : BitVec 1 := Scalar.cmpi .slt c2_i32_153 c0_i32_157
  let v291 : BitVec 32 := Scalar.extui v290
  let v292 : BitVec 32 := Scalar.subi v289 v291
  let v293 : BitVec 1 := Scalar.cmpi .ne v287 v292
  let v294 : BitVec 32 := Scalar.remsi v280 c2_i32_153
  let c0_i32_158 : BitVec 32 := 0#32
  let v295 : BitVec 1 := Scalar.cmpi .ne v294 c0_i32_158
  let v296 : BitVec 1 := Scalar.andi v293 v295
  let v282 : BitVec 32 := Scalar.divsi v280 c2_i32_153
  let c1_i32_159 : BitVec 32 := 1#32
  let v297 : BitVec 32 := Scalar.subi v282 c1_i32_159
  let v298 : BitVec 32 := Scalar.select v296 v297 v282
  let c2_i32_160 : BitVec 32 := 2#32
  let v299 : BitVec 32 := Scalar.muli v298 c2_i32_160
  let v300 : BitVec 32 := Scalar.subi v280 v299
  let c64_i32_161 : BitVec 32 := 64#32
  let v301 : BitVec 32 := Scalar.muli v300 c64_i32_161
  v301
def k0_off9 (k0_t2 : Fin k0_t2_loop.trips) : Fin 4 → Nat :=
  let c0_162 : Index := 0#32
  let c1_i32 : BitVec 32 := 1#32
  let c1_i32_58 : BitVec 32 := 1#32
  let arg20 : BitVec 32 := Scf.iv c1_i32 c1_i32_58 k0_t2
  let c1_i32_150 : BitVec 32 := 1#32
  let v279 : BitVec 32 := Scalar.addi arg20 c1_i32_150
  let c31_i32_151 : BitVec 32 := 31#32
  let v280 : BitVec 32 := Scalar.minsi v279 c31_i32_151
  let c0_i32_154 : BitVec 32 := 0#32
  let v283 : BitVec 1 := Scalar.cmpi .sgt v280 c0_i32_154
  let v284 : BitVec 32 := Scalar.extui v283
  let c0_i32_155 : BitVec 32 := 0#32
  let v285 : BitVec 1 := Scalar.cmpi .slt v280 c0_i32_155
  let v286 : BitVec 32 := Scalar.extui v285
  let v287 : BitVec 32 := Scalar.subi v284 v286
  let c2_i32_153 : BitVec 32 := 2#32
  let c0_i32_156 : BitVec 32 := 0#32
  let v288 : BitVec 1 := Scalar.cmpi .sgt c2_i32_153 c0_i32_156
  let v289 : BitVec 32 := Scalar.extui v288
  let c0_i32_157 : BitVec 32 := 0#32
  let v290 : BitVec 1 := Scalar.cmpi .slt c2_i32_153 c0_i32_157
  let v291 : BitVec 32 := Scalar.extui v290
  let v292 : BitVec 32 := Scalar.subi v289 v291
  let v293 : BitVec 1 := Scalar.cmpi .ne v287 v292
  let v294 : BitVec 32 := Scalar.remsi v280 c2_i32_153
  let c0_i32_158 : BitVec 32 := 0#32
  let v295 : BitVec 1 := Scalar.cmpi .ne v294 c0_i32_158
  let v296 : BitVec 1 := Scalar.andi v293 v295
  let v282 : BitVec 32 := Scalar.divsi v280 c2_i32_153
  let c1_i32_159 : BitVec 32 := 1#32
  let v297 : BitVec 32 := Scalar.subi v282 c1_i32_159
  let v298 : BitVec 32 := Scalar.select v296 v297 v282
  let v303 : Index := Scalar.indexCast v298
  let c2_i32_160 : BitVec 32 := 2#32
  let v299 : BitVec 32 := Scalar.muli v298 c2_i32_160
  let v300 : BitVec 32 := Scalar.subi v280 v299
  let c64_i32_161 : BitVec 32 := 64#32
  let v301 : BitVec 32 := Scalar.muli v300 c64_i32_161
  let v302 : BitVec 32 := v301
  let v304 : Index := Scalar.indexCast v302
  let c0_163 : Index := 0#32
  ![0, v303.toNat, v304.toNat, 0]
def k0_off10 (k0_t2 : Fin k0_t2_loop.trips) : Fin 4 → Nat :=
  let c1_i32_152 : BitVec 32 := 1#32
  let c1_i32 : BitVec 32 := 1#32
  let c1_i32_58 : BitVec 32 := 1#32
  let arg20 : BitVec 32 := Scf.iv c1_i32 c1_i32_58 k0_t2
  let c2_i32 : BitVec 32 := 2#32
  let v151 : BitVec 32 := Scalar.remsi arg20 c2_i32
  let v281 : BitVec 32 := Scalar.subi c1_i32_152 v151
  let v324 : Index := Scalar.indexCast v281
  let c0_167 : Index := 0#32
  let c0_168 : Index := 0#32
  let c0_169 : Index := 0#32
  ![v324.toNat, 0, 0, 0]
def k0_mult8 (k0_t2 : Fin k0_t2_loop.trips) : BitVec 32 :=
  let c31_i32_170 : BitVec 32 := 31#32
  let c1_i32 : BitVec 32 := 1#32
  let c1_i32_58 : BitVec 32 := 1#32
  let arg20 : BitVec 32 := Scf.iv c1_i32 c1_i32_58 k0_t2
  let c1_i32_150 : BitVec 32 := 1#32
  let v279 : BitVec 32 := Scalar.addi arg20 c1_i32_150
  let c31_i32_151 : BitVec 32 := 31#32
  let v280 : BitVec 32 := Scalar.minsi v279 c31_i32_151
  let v328 : BitVec 32 := Scalar.subi c31_i32_170 v280
  let c0_i32_172 : BitVec 32 := 0#32
  let v330 : BitVec 1 := Scalar.cmpi .sgt v328 c0_i32_172
  let v331 : BitVec 32 := Scalar.extui v330
  let c0_i32_173 : BitVec 32 := 0#32
  let v332 : BitVec 1 := Scalar.cmpi .slt v328 c0_i32_173
  let v333 : BitVec 32 := Scalar.extui v332
  let v334 : BitVec 32 := Scalar.subi v331 v333
  let c2_i32_171 : BitVec 32 := 2#32
  let c0_i32_174 : BitVec 32 := 0#32
  let v335 : BitVec 1 := Scalar.cmpi .sgt c2_i32_171 c0_i32_174
  let v336 : BitVec 32 := Scalar.extui v335
  let c0_i32_175 : BitVec 32 := 0#32
  let v337 : BitVec 1 := Scalar.cmpi .slt c2_i32_171 c0_i32_175
  let v338 : BitVec 32 := Scalar.extui v337
  let v339 : BitVec 32 := Scalar.subi v336 v338
  let v340 : BitVec 1 := Scalar.cmpi .ne v334 v339
  let v341 : BitVec 32 := Scalar.remsi v328 c2_i32_171
  let c0_i32_176 : BitVec 32 := 0#32
  let v342 : BitVec 1 := Scalar.cmpi .ne v341 c0_i32_176
  let v343 : BitVec 1 := Scalar.andi v340 v342
  let v329 : BitVec 32 := Scalar.divsi v328 c2_i32_171
  let c1_i32_177 : BitVec 32 := 1#32
  let v344 : BitVec 32 := Scalar.subi v329 c1_i32_177
  let v345 : BitVec 32 := Scalar.select v343 v344 v329
  let c2_i32_178 : BitVec 32 := 2#32
  let v346 : BitVec 32 := Scalar.muli v345 c2_i32_178
  let v347 : BitVec 32 := Scalar.subi v328 v346
  let c64_i32_179 : BitVec 32 := 64#32
  let v348 : BitVec 32 := Scalar.muli v347 c64_i32_179
  v348
def k0_off11 (k0_t2 : Fin k0_t2_loop.trips) : Fin 4 → Nat :=
  let c0_180 : Index := 0#32
  let c31_i32_170 : BitVec 32 := 31#32
  let c1_i32 : BitVec 32 := 1#32
  let c1_i32_58 : BitVec 32 := 1#32
  let arg20 : BitVec 32 := Scf.iv c1_i32 c1_i32_58 k0_t2
  let c1_i32_150 : BitVec 32 := 1#32
  let v279 : BitVec 32 := Scalar.addi arg20 c1_i32_150
  let c31_i32_151 : BitVec 32 := 31#32
  let v280 : BitVec 32 := Scalar.minsi v279 c31_i32_151
  let v328 : BitVec 32 := Scalar.subi c31_i32_170 v280
  let c0_i32_172 : BitVec 32 := 0#32
  let v330 : BitVec 1 := Scalar.cmpi .sgt v328 c0_i32_172
  let v331 : BitVec 32 := Scalar.extui v330
  let c0_i32_173 : BitVec 32 := 0#32
  let v332 : BitVec 1 := Scalar.cmpi .slt v328 c0_i32_173
  let v333 : BitVec 32 := Scalar.extui v332
  let v334 : BitVec 32 := Scalar.subi v331 v333
  let c2_i32_171 : BitVec 32 := 2#32
  let c0_i32_174 : BitVec 32 := 0#32
  let v335 : BitVec 1 := Scalar.cmpi .sgt c2_i32_171 c0_i32_174
  let v336 : BitVec 32 := Scalar.extui v335
  let c0_i32_175 : BitVec 32 := 0#32
  let v337 : BitVec 1 := Scalar.cmpi .slt c2_i32_171 c0_i32_175
  let v338 : BitVec 32 := Scalar.extui v337
  let v339 : BitVec 32 := Scalar.subi v336 v338
  let v340 : BitVec 1 := Scalar.cmpi .ne v334 v339
  let v341 : BitVec 32 := Scalar.remsi v328 c2_i32_171
  let c0_i32_176 : BitVec 32 := 0#32
  let v342 : BitVec 1 := Scalar.cmpi .ne v341 c0_i32_176
  let v343 : BitVec 1 := Scalar.andi v340 v342
  let v329 : BitVec 32 := Scalar.divsi v328 c2_i32_171
  let c1_i32_177 : BitVec 32 := 1#32
  let v344 : BitVec 32 := Scalar.subi v329 c1_i32_177
  let v345 : BitVec 32 := Scalar.select v343 v344 v329
  let v350 : Index := Scalar.indexCast v345
  let c2_i32_178 : BitVec 32 := 2#32
  let v346 : BitVec 32 := Scalar.muli v345 c2_i32_178
  let v347 : BitVec 32 := Scalar.subi v328 v346
  let c64_i32_179 : BitVec 32 := 64#32
  let v348 : BitVec 32 := Scalar.muli v347 c64_i32_179
  let v349 : BitVec 32 := v348
  let v351 : Index := Scalar.indexCast v349
  let c0_181 : Index := 0#32
  ![0, v350.toNat, v351.toNat, 0]
def k0_off12 (k0_t2 : Fin k0_t2_loop.trips) : Fin 4 → Nat :=
  let c1_i32_152 : BitVec 32 := 1#32
  let c1_i32 : BitVec 32 := 1#32
  let c1_i32_58 : BitVec 32 := 1#32
  let arg20 : BitVec 32 := Scf.iv c1_i32 c1_i32_58 k0_t2
  let c2_i32 : BitVec 32 := 2#32
  let v151 : BitVec 32 := Scalar.remsi arg20 c2_i32
  let v281 : BitVec 32 := Scalar.subi c1_i32_152 v151
  let v371 : Index := Scalar.indexCast v281
  let c1_185 : Index := 1#32
  let c0_186 : Index := 0#32
  let c0_187 : Index := 0#32
  ![v371.toNat, 1, 0, 0]
def k0_mult9 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c0_i32_190 : BitVec 32 := 0#32
  let v381 : BitVec 1 := Scalar.cmpi .sgt arg20 c0_i32_190
  let v382 : BitVec 32 := Scalar.extui v381
  let c0_i32_191 : BitVec 32 := 0#32
  let v383 : BitVec 1 := Scalar.cmpi .slt arg20 c0_i32_191
  let v384 : BitVec 32 := Scalar.extui v383
  let v385 : BitVec 32 := Scalar.subi v382 v384
  let c2_i32_189 : BitVec 32 := 2#32
  let c0_i32_192 : BitVec 32 := 0#32
  let v386 : BitVec 1 := Scalar.cmpi .sgt c2_i32_189 c0_i32_192
  let v387 : BitVec 32 := Scalar.extui v386
  let c0_i32_193 : BitVec 32 := 0#32
  let v388 : BitVec 1 := Scalar.cmpi .slt c2_i32_189 c0_i32_193
  let v389 : BitVec 32 := Scalar.extui v388
  let v390 : BitVec 32 := Scalar.subi v387 v389
  let v391 : BitVec 1 := Scalar.cmpi .ne v385 v390
  let v392 : BitVec 32 := Scalar.remsi arg20 c2_i32_189
  let c0_i32_194 : BitVec 32 := 0#32
  let v393 : BitVec 1 := Scalar.cmpi .ne v392 c0_i32_194
  let v394 : BitVec 1 := Scalar.andi v391 v393
  let v380 : BitVec 32 := Scalar.divsi arg20 c2_i32_189
  let c1_i32_195 : BitVec 32 := 1#32
  let v395 : BitVec 32 := Scalar.subi v380 c1_i32_195
  let v396 : BitVec 32 := Scalar.select v394 v395 v380
  let c2_i32_196 : BitVec 32 := 2#32
  let v397 : BitVec 32 := Scalar.muli v396 c2_i32_196
  let v398 : BitVec 32 := Scalar.subi arg20 v397
  let c64_i32_197 : BitVec 32 := 64#32
  let v399 : BitVec 32 := Scalar.muli v398 c64_i32_197
  v399
def k0_off13 (k0_t2 : Fin k0_t2_loop.trips) : Fin 4 → Nat :=
  let c0_198 : Index := 0#32
  let c1_i32 : BitVec 32 := 1#32
  let c1_i32_58 : BitVec 32 := 1#32
  let arg20 : BitVec 32 := Scf.iv c1_i32 c1_i32_58 k0_t2
  let c0_i32_190 : BitVec 32 := 0#32
  let v381 : BitVec 1 := Scalar.cmpi .sgt arg20 c0_i32_190
  let v382 : BitVec 32 := Scalar.extui v381
  let c0_i32_191 : BitVec 32 := 0#32
  let v383 : BitVec 1 := Scalar.cmpi .slt arg20 c0_i32_191
  let v384 : BitVec 32 := Scalar.extui v383
  let v385 : BitVec 32 := Scalar.subi v382 v384
  let c2_i32_189 : BitVec 32 := 2#32
  let c0_i32_192 : BitVec 32 := 0#32
  let v386 : BitVec 1 := Scalar.cmpi .sgt c2_i32_189 c0_i32_192
  let v387 : BitVec 32 := Scalar.extui v386
  let c0_i32_193 : BitVec 32 := 0#32
  let v388 : BitVec 1 := Scalar.cmpi .slt c2_i32_189 c0_i32_193
  let v389 : BitVec 32 := Scalar.extui v388
  let v390 : BitVec 32 := Scalar.subi v387 v389
  let v391 : BitVec 1 := Scalar.cmpi .ne v385 v390
  let v392 : BitVec 32 := Scalar.remsi arg20 c2_i32_189
  let c0_i32_194 : BitVec 32 := 0#32
  let v393 : BitVec 1 := Scalar.cmpi .ne v392 c0_i32_194
  let v394 : BitVec 1 := Scalar.andi v391 v393
  let v380 : BitVec 32 := Scalar.divsi arg20 c2_i32_189
  let c1_i32_195 : BitVec 32 := 1#32
  let v395 : BitVec 32 := Scalar.subi v380 c1_i32_195
  let v396 : BitVec 32 := Scalar.select v394 v395 v380
  let v401 : Index := Scalar.indexCast v396
  let c2_i32_196 : BitVec 32 := 2#32
  let v397 : BitVec 32 := Scalar.muli v396 c2_i32_196
  let v398 : BitVec 32 := Scalar.subi arg20 v397
  let c64_i32_197 : BitVec 32 := 64#32
  let v399 : BitVec 32 := Scalar.muli v398 c64_i32_197
  let v400 : BitVec 32 := v399
  let v402 : Index := Scalar.indexCast v400
  let c0_199 : Index := 0#32
  ![0, v401.toNat, v402.toNat, 0]
def k0_mult10 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c0_i32_201 : BitVec 32 := 0#32
  let v406 : BitVec 1 := Scalar.cmpi .sgt arg20 c0_i32_201
  let v407 : BitVec 32 := Scalar.extui v406
  let c0_i32_202 : BitVec 32 := 0#32
  let v408 : BitVec 1 := Scalar.cmpi .slt arg20 c0_i32_202
  let v409 : BitVec 32 := Scalar.extui v408
  let v410 : BitVec 32 := Scalar.subi v407 v409
  let c2_i32_200 : BitVec 32 := 2#32
  let c0_i32_203 : BitVec 32 := 0#32
  let v411 : BitVec 1 := Scalar.cmpi .sgt c2_i32_200 c0_i32_203
  let v412 : BitVec 32 := Scalar.extui v411
  let c0_i32_204 : BitVec 32 := 0#32
  let v413 : BitVec 1 := Scalar.cmpi .slt c2_i32_200 c0_i32_204
  let v414 : BitVec 32 := Scalar.extui v413
  let v415 : BitVec 32 := Scalar.subi v412 v414
  let v416 : BitVec 1 := Scalar.cmpi .ne v410 v415
  let v417 : BitVec 32 := Scalar.remsi arg20 c2_i32_200
  let c0_i32_205 : BitVec 32 := 0#32
  let v418 : BitVec 1 := Scalar.cmpi .ne v417 c0_i32_205
  let v419 : BitVec 1 := Scalar.andi v416 v418
  let v405 : BitVec 32 := Scalar.divsi arg20 c2_i32_200
  let c1_i32_206 : BitVec 32 := 1#32
  let v420 : BitVec 32 := Scalar.subi v405 c1_i32_206
  let v421 : BitVec 32 := Scalar.select v419 v420 v405
  let c2_i32_207 : BitVec 32 := 2#32
  let v422 : BitVec 32 := Scalar.muli v421 c2_i32_207
  let v423 : BitVec 32 := Scalar.subi arg20 v422
  let c64_i32_208 : BitVec 32 := 64#32
  let v424 : BitVec 32 := Scalar.muli v423 c64_i32_208
  v424
def k0_mult11 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c0_i32_212 : BitVec 32 := 0#32
  let v431 : BitVec 1 := Scalar.cmpi .sgt arg20 c0_i32_212
  let v432 : BitVec 32 := Scalar.extui v431
  let c0_i32_213 : BitVec 32 := 0#32
  let v433 : BitVec 1 := Scalar.cmpi .slt arg20 c0_i32_213
  let v434 : BitVec 32 := Scalar.extui v433
  let v435 : BitVec 32 := Scalar.subi v432 v434
  let c2_i32_211 : BitVec 32 := 2#32
  let c0_i32_214 : BitVec 32 := 0#32
  let v436 : BitVec 1 := Scalar.cmpi .sgt c2_i32_211 c0_i32_214
  let v437 : BitVec 32 := Scalar.extui v436
  let c0_i32_215 : BitVec 32 := 0#32
  let v438 : BitVec 1 := Scalar.cmpi .slt c2_i32_211 c0_i32_215
  let v439 : BitVec 32 := Scalar.extui v438
  let v440 : BitVec 32 := Scalar.subi v437 v439
  let v441 : BitVec 1 := Scalar.cmpi .ne v435 v440
  let v442 : BitVec 32 := Scalar.remsi arg20 c2_i32_211
  let c0_i32_216 : BitVec 32 := 0#32
  let v443 : BitVec 1 := Scalar.cmpi .ne v442 c0_i32_216
  let v444 : BitVec 1 := Scalar.andi v441 v443
  let v430 : BitVec 32 := Scalar.divsi arg20 c2_i32_211
  let c1_i32_217 : BitVec 32 := 1#32
  let v445 : BitVec 32 := Scalar.subi v430 c1_i32_217
  let v446 : BitVec 32 := Scalar.select v444 v445 v430
  let c2_i32_218 : BitVec 32 := 2#32
  let v447 : BitVec 32 := Scalar.muli v446 c2_i32_218
  let v448 : BitVec 32 := Scalar.subi arg20 v447
  let c64_i32_219 : BitVec 32 := 64#32
  let v449 : BitVec 32 := Scalar.muli v448 c64_i32_219
  v449
def k0_off14 (k0_t2 : Fin k0_t2_loop.trips) : Fin 4 → Nat :=
  let c0_220 : Index := 0#32
  let c1_i32 : BitVec 32 := 1#32
  let c1_i32_58 : BitVec 32 := 1#32
  let arg20 : BitVec 32 := Scf.iv c1_i32 c1_i32_58 k0_t2
  let c0_i32_212 : BitVec 32 := 0#32
  let v431 : BitVec 1 := Scalar.cmpi .sgt arg20 c0_i32_212
  let v432 : BitVec 32 := Scalar.extui v431
  let c0_i32_213 : BitVec 32 := 0#32
  let v433 : BitVec 1 := Scalar.cmpi .slt arg20 c0_i32_213
  let v434 : BitVec 32 := Scalar.extui v433
  let v435 : BitVec 32 := Scalar.subi v432 v434
  let c2_i32_211 : BitVec 32 := 2#32
  let c0_i32_214 : BitVec 32 := 0#32
  let v436 : BitVec 1 := Scalar.cmpi .sgt c2_i32_211 c0_i32_214
  let v437 : BitVec 32 := Scalar.extui v436
  let c0_i32_215 : BitVec 32 := 0#32
  let v438 : BitVec 1 := Scalar.cmpi .slt c2_i32_211 c0_i32_215
  let v439 : BitVec 32 := Scalar.extui v438
  let v440 : BitVec 32 := Scalar.subi v437 v439
  let v441 : BitVec 1 := Scalar.cmpi .ne v435 v440
  let v442 : BitVec 32 := Scalar.remsi arg20 c2_i32_211
  let c0_i32_216 : BitVec 32 := 0#32
  let v443 : BitVec 1 := Scalar.cmpi .ne v442 c0_i32_216
  let v444 : BitVec 1 := Scalar.andi v441 v443
  let v430 : BitVec 32 := Scalar.divsi arg20 c2_i32_211
  let c1_i32_217 : BitVec 32 := 1#32
  let v445 : BitVec 32 := Scalar.subi v430 c1_i32_217
  let v446 : BitVec 32 := Scalar.select v444 v445 v430
  let v451 : Index := Scalar.indexCast v446
  let c2_i32_218 : BitVec 32 := 2#32
  let v447 : BitVec 32 := Scalar.muli v446 c2_i32_218
  let v448 : BitVec 32 := Scalar.subi arg20 v447
  let c64_i32_219 : BitVec 32 := 64#32
  let v449 : BitVec 32 := Scalar.muli v448 c64_i32_219
  let v450 : BitVec 32 := v449
  let v452 : Index := Scalar.indexCast v450
  let c0_221 : Index := 0#32
  ![0, v451.toNat, v452.toNat, 0]
def k0_mult12 (k0_t2 : Fin k0_t2_loop.trips) : BitVec 32 :=
  let c31_i32_222 : BitVec 32 := 31#32
  let c1_i32 : BitVec 32 := 1#32
  let c1_i32_58 : BitVec 32 := 1#32
  let arg20 : BitVec 32 := Scf.iv c1_i32 c1_i32_58 k0_t2
  let v455 : BitVec 32 := Scalar.subi c31_i32_222 arg20
  let c0_i32_224 : BitVec 32 := 0#32
  let v457 : BitVec 1 := Scalar.cmpi .sgt v455 c0_i32_224
  let v458 : BitVec 32 := Scalar.extui v457
  let c0_i32_225 : BitVec 32 := 0#32
  let v459 : BitVec 1 := Scalar.cmpi .slt v455 c0_i32_225
  let v460 : BitVec 32 := Scalar.extui v459
  let v461 : BitVec 32 := Scalar.subi v458 v460
  let c2_i32_223 : BitVec 32 := 2#32
  let c0_i32_226 : BitVec 32 := 0#32
  let v462 : BitVec 1 := Scalar.cmpi .sgt c2_i32_223 c0_i32_226
  let v463 : BitVec 32 := Scalar.extui v462
  let c0_i32_227 : BitVec 32 := 0#32
  let v464 : BitVec 1 := Scalar.cmpi .slt c2_i32_223 c0_i32_227
  let v465 : BitVec 32 := Scalar.extui v464
  let v466 : BitVec 32 := Scalar.subi v463 v465
  let v467 : BitVec 1 := Scalar.cmpi .ne v461 v466
  let v468 : BitVec 32 := Scalar.remsi v455 c2_i32_223
  let c0_i32_228 : BitVec 32 := 0#32
  let v469 : BitVec 1 := Scalar.cmpi .ne v468 c0_i32_228
  let v470 : BitVec 1 := Scalar.andi v467 v469
  let v456 : BitVec 32 := Scalar.divsi v455 c2_i32_223
  let c1_i32_229 : BitVec 32 := 1#32
  let v471 : BitVec 32 := Scalar.subi v456 c1_i32_229
  let v472 : BitVec 32 := Scalar.select v470 v471 v456
  let c2_i32_230 : BitVec 32 := 2#32
  let v473 : BitVec 32 := Scalar.muli v472 c2_i32_230
  let v474 : BitVec 32 := Scalar.subi v455 v473
  let c64_i32_231 : BitVec 32 := 64#32
  let v475 : BitVec 32 := Scalar.muli v474 c64_i32_231
  v475
def k0_off15 (k0_t2 : Fin k0_t2_loop.trips) : Fin 4 → Nat :=
  let c0_232 : Index := 0#32
  let c31_i32_222 : BitVec 32 := 31#32
  let c1_i32 : BitVec 32 := 1#32
  let c1_i32_58 : BitVec 32 := 1#32
  let arg20 : BitVec 32 := Scf.iv c1_i32 c1_i32_58 k0_t2
  let v455 : BitVec 32 := Scalar.subi c31_i32_222 arg20
  let c0_i32_224 : BitVec 32 := 0#32
  let v457 : BitVec 1 := Scalar.cmpi .sgt v455 c0_i32_224
  let v458 : BitVec 32 := Scalar.extui v457
  let c0_i32_225 : BitVec 32 := 0#32
  let v459 : BitVec 1 := Scalar.cmpi .slt v455 c0_i32_225
  let v460 : BitVec 32 := Scalar.extui v459
  let v461 : BitVec 32 := Scalar.subi v458 v460
  let c2_i32_223 : BitVec 32 := 2#32
  let c0_i32_226 : BitVec 32 := 0#32
  let v462 : BitVec 1 := Scalar.cmpi .sgt c2_i32_223 c0_i32_226
  let v463 : BitVec 32 := Scalar.extui v462
  let c0_i32_227 : BitVec 32 := 0#32
  let v464 : BitVec 1 := Scalar.cmpi .slt c2_i32_223 c0_i32_227
  let v465 : BitVec 32 := Scalar.extui v464
  let v466 : BitVec 32 := Scalar.subi v463 v465
  let v467 : BitVec 1 := Scalar.cmpi .ne v461 v466
  let v468 : BitVec 32 := Scalar.remsi v455 c2_i32_223
  let c0_i32_228 : BitVec 32 := 0#32
  let v469 : BitVec 1 := Scalar.cmpi .ne v468 c0_i32_228
  let v470 : BitVec 1 := Scalar.andi v467 v469
  let v456 : BitVec 32 := Scalar.divsi v455 c2_i32_223
  let c1_i32_229 : BitVec 32 := 1#32
  let v471 : BitVec 32 := Scalar.subi v456 c1_i32_229
  let v472 : BitVec 32 := Scalar.select v470 v471 v456
  let v477 : Index := Scalar.indexCast v472
  let c2_i32_230 : BitVec 32 := 2#32
  let v473 : BitVec 32 := Scalar.muli v472 c2_i32_230
  let v474 : BitVec 32 := Scalar.subi v455 v473
  let c64_i32_231 : BitVec 32 := 64#32
  let v475 : BitVec 32 := Scalar.muli v474 c64_i32_231
  let v476 : BitVec 32 := v475
  let v478 : Index := Scalar.indexCast v476
  let c0_233 : Index := 0#32
  ![0, v477.toNat, v478.toNat, 0]
def k0_mult13 (k0_t2 : Fin k0_t2_loop.trips) : BitVec 32 :=
  let c31_i32_234 : BitVec 32 := 31#32
  let c1_i32 : BitVec 32 := 1#32
  let c1_i32_58 : BitVec 32 := 1#32
  let arg20 : BitVec 32 := Scf.iv c1_i32 c1_i32_58 k0_t2
  let v481 : BitVec 32 := Scalar.subi c31_i32_234 arg20
  let c0_i32_236 : BitVec 32 := 0#32
  let v483 : BitVec 1 := Scalar.cmpi .sgt v481 c0_i32_236
  let v484 : BitVec 32 := Scalar.extui v483
  let c0_i32_237 : BitVec 32 := 0#32
  let v485 : BitVec 1 := Scalar.cmpi .slt v481 c0_i32_237
  let v486 : BitVec 32 := Scalar.extui v485
  let v487 : BitVec 32 := Scalar.subi v484 v486
  let c2_i32_235 : BitVec 32 := 2#32
  let c0_i32_238 : BitVec 32 := 0#32
  let v488 : BitVec 1 := Scalar.cmpi .sgt c2_i32_235 c0_i32_238
  let v489 : BitVec 32 := Scalar.extui v488
  let c0_i32_239 : BitVec 32 := 0#32
  let v490 : BitVec 1 := Scalar.cmpi .slt c2_i32_235 c0_i32_239
  let v491 : BitVec 32 := Scalar.extui v490
  let v492 : BitVec 32 := Scalar.subi v489 v491
  let v493 : BitVec 1 := Scalar.cmpi .ne v487 v492
  let v494 : BitVec 32 := Scalar.remsi v481 c2_i32_235
  let c0_i32_240 : BitVec 32 := 0#32
  let v495 : BitVec 1 := Scalar.cmpi .ne v494 c0_i32_240
  let v496 : BitVec 1 := Scalar.andi v493 v495
  let v482 : BitVec 32 := Scalar.divsi v481 c2_i32_235
  let c1_i32_241 : BitVec 32 := 1#32
  let v497 : BitVec 32 := Scalar.subi v482 c1_i32_241
  let v498 : BitVec 32 := Scalar.select v496 v497 v482
  let c2_i32_242 : BitVec 32 := 2#32
  let v499 : BitVec 32 := Scalar.muli v498 c2_i32_242
  let v500 : BitVec 32 := Scalar.subi v481 v499
  let c64_i32_243 : BitVec 32 := 64#32
  let v501 : BitVec 32 := Scalar.muli v500 c64_i32_243
  v501
def k0_mult14 (k0_t2 : Fin k0_t2_loop.trips) : BitVec 32 :=
  let c31_i32_246 : BitVec 32 := 31#32
  let c1_i32 : BitVec 32 := 1#32
  let c1_i32_58 : BitVec 32 := 1#32
  let arg20 : BitVec 32 := Scf.iv c1_i32 c1_i32_58 k0_t2
  let v507 : BitVec 32 := Scalar.subi c31_i32_246 arg20
  let c0_i32_248 : BitVec 32 := 0#32
  let v509 : BitVec 1 := Scalar.cmpi .sgt v507 c0_i32_248
  let v510 : BitVec 32 := Scalar.extui v509
  let c0_i32_249 : BitVec 32 := 0#32
  let v511 : BitVec 1 := Scalar.cmpi .slt v507 c0_i32_249
  let v512 : BitVec 32 := Scalar.extui v511
  let v513 : BitVec 32 := Scalar.subi v510 v512
  let c2_i32_247 : BitVec 32 := 2#32
  let c0_i32_250 : BitVec 32 := 0#32
  let v514 : BitVec 1 := Scalar.cmpi .sgt c2_i32_247 c0_i32_250
  let v515 : BitVec 32 := Scalar.extui v514
  let c0_i32_251 : BitVec 32 := 0#32
  let v516 : BitVec 1 := Scalar.cmpi .slt c2_i32_247 c0_i32_251
  let v517 : BitVec 32 := Scalar.extui v516
  let v518 : BitVec 32 := Scalar.subi v515 v517
  let v519 : BitVec 1 := Scalar.cmpi .ne v513 v518
  let v520 : BitVec 32 := Scalar.remsi v507 c2_i32_247
  let c0_i32_252 : BitVec 32 := 0#32
  let v521 : BitVec 1 := Scalar.cmpi .ne v520 c0_i32_252
  let v522 : BitVec 1 := Scalar.andi v519 v521
  let v508 : BitVec 32 := Scalar.divsi v507 c2_i32_247
  let c1_i32_253 : BitVec 32 := 1#32
  let v523 : BitVec 32 := Scalar.subi v508 c1_i32_253
  let v524 : BitVec 32 := Scalar.select v522 v523 v508
  let c2_i32_254 : BitVec 32 := 2#32
  let v525 : BitVec 32 := Scalar.muli v524 c2_i32_254
  let v526 : BitVec 32 := Scalar.subi v507 v525
  let c64_i32_255 : BitVec 32 := 64#32
  let v527 : BitVec 32 := Scalar.muli v526 c64_i32_255
  v527
def k0_off16 (k0_t2 : Fin k0_t2_loop.trips) : Fin 4 → Nat :=
  let c0_256 : Index := 0#32
  let c31_i32_246 : BitVec 32 := 31#32
  let c1_i32 : BitVec 32 := 1#32
  let c1_i32_58 : BitVec 32 := 1#32
  let arg20 : BitVec 32 := Scf.iv c1_i32 c1_i32_58 k0_t2
  let v507 : BitVec 32 := Scalar.subi c31_i32_246 arg20
  let c0_i32_248 : BitVec 32 := 0#32
  let v509 : BitVec 1 := Scalar.cmpi .sgt v507 c0_i32_248
  let v510 : BitVec 32 := Scalar.extui v509
  let c0_i32_249 : BitVec 32 := 0#32
  let v511 : BitVec 1 := Scalar.cmpi .slt v507 c0_i32_249
  let v512 : BitVec 32 := Scalar.extui v511
  let v513 : BitVec 32 := Scalar.subi v510 v512
  let c2_i32_247 : BitVec 32 := 2#32
  let c0_i32_250 : BitVec 32 := 0#32
  let v514 : BitVec 1 := Scalar.cmpi .sgt c2_i32_247 c0_i32_250
  let v515 : BitVec 32 := Scalar.extui v514
  let c0_i32_251 : BitVec 32 := 0#32
  let v516 : BitVec 1 := Scalar.cmpi .slt c2_i32_247 c0_i32_251
  let v517 : BitVec 32 := Scalar.extui v516
  let v518 : BitVec 32 := Scalar.subi v515 v517
  let v519 : BitVec 1 := Scalar.cmpi .ne v513 v518
  let v520 : BitVec 32 := Scalar.remsi v507 c2_i32_247
  let c0_i32_252 : BitVec 32 := 0#32
  let v521 : BitVec 1 := Scalar.cmpi .ne v520 c0_i32_252
  let v522 : BitVec 1 := Scalar.andi v519 v521
  let v508 : BitVec 32 := Scalar.divsi v507 c2_i32_247
  let c1_i32_253 : BitVec 32 := 1#32
  let v523 : BitVec 32 := Scalar.subi v508 c1_i32_253
  let v524 : BitVec 32 := Scalar.select v522 v523 v508
  let v529 : Index := Scalar.indexCast v524
  let c2_i32_254 : BitVec 32 := 2#32
  let v525 : BitVec 32 := Scalar.muli v524 c2_i32_254
  let v526 : BitVec 32 := Scalar.subi v507 v525
  let c64_i32_255 : BitVec 32 := 64#32
  let v527 : BitVec 32 := Scalar.muli v526 c64_i32_255
  let v528 : BitVec 32 := v527
  let v530 : Index := Scalar.indexCast v528
  let c0_257 : Index := 0#32
  ![0, v529.toNat, v530.toNat, 0]
def k0_off17 (k0_t2 : Fin k0_t2_loop.trips) : Fin 4 → Nat :=
  let c1_i32 : BitVec 32 := 1#32
  let c1_i32_58 : BitVec 32 := 1#32
  let arg20 : BitVec 32 := Scf.iv c1_i32 c1_i32_58 k0_t2
  let c2_i32 : BitVec 32 := 2#32
  let v151 : BitVec 32 := Scalar.remsi arg20 c2_i32
  let v156 : Index := Scalar.indexCast v151
  let c0_88 : Index := 0#32
  let c0_89 : Index := 0#32
  let c0_90 : Index := 0#32
  ![v156.toNat, 0, 0, 0]
def k0_off18 (k0_t2 : Fin k0_t2_loop.trips) : Fin 4 → Nat :=
  let c1_i32 : BitVec 32 := 1#32
  let c1_i32_58 : BitVec 32 := 1#32
  let arg20 : BitVec 32 := Scf.iv c1_i32 c1_i32_58 k0_t2
  let c2_i32 : BitVec 32 := 2#32
  let v151 : BitVec 32 := Scalar.remsi arg20 c2_i32
  let v159 : Index := Scalar.indexCast v151
  let c1_91 : Index := 1#32
  let c0_92 : Index := 0#32
  let c0_93 : Index := 0#32
  ![v159.toNat, 1, 0, 0]
def k0_mult15 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let c0_i32_96 : BitVec 32 := 0#32
  let v164 : BitVec 1 := Scalar.cmpi .sgt v162 c0_i32_96
  let v165 : BitVec 32 := Scalar.extui v164
  let c0_i32_97 : BitVec 32 := 0#32
  let v166 : BitVec 1 := Scalar.cmpi .slt v162 c0_i32_97
  let v167 : BitVec 32 := Scalar.extui v166
  let v168 : BitVec 32 := Scalar.subi v165 v167
  let c2_i32_95 : BitVec 32 := 2#32
  let c0_i32_98 : BitVec 32 := 0#32
  let v169 : BitVec 1 := Scalar.cmpi .sgt c2_i32_95 c0_i32_98
  let v170 : BitVec 32 := Scalar.extui v169
  let c0_i32_99 : BitVec 32 := 0#32
  let v171 : BitVec 1 := Scalar.cmpi .slt c2_i32_95 c0_i32_99
  let v172 : BitVec 32 := Scalar.extui v171
  let v173 : BitVec 32 := Scalar.subi v170 v172
  let v174 : BitVec 1 := Scalar.cmpi .ne v168 v173
  let v175 : BitVec 32 := Scalar.remsi v162 c2_i32_95
  let c0_i32_100 : BitVec 32 := 0#32
  let v176 : BitVec 1 := Scalar.cmpi .ne v175 c0_i32_100
  let v177 : BitVec 1 := Scalar.andi v174 v176
  let v163 : BitVec 32 := Scalar.divsi v162 c2_i32_95
  let c1_i32_101 : BitVec 32 := 1#32
  let v178 : BitVec 32 := Scalar.subi v163 c1_i32_101
  let v179 : BitVec 32 := Scalar.select v177 v178 v163
  let c2_i32_102 : BitVec 32 := 2#32
  let v180 : BitVec 32 := Scalar.muli v179 c2_i32_102
  let v181 : BitVec 32 := Scalar.subi v162 v180
  let c64_i32 : BitVec 32 := 64#32
  let v182 : BitVec 32 := Scalar.muli v181 c64_i32
  v182
def k0_off19 (k0_t2 : Fin k0_t2_loop.trips) : Fin 4 → Nat :=
  let c0_103 : Index := 0#32
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let c0_i32_96 : BitVec 32 := 0#32
  let v164 : BitVec 1 := Scalar.cmpi .sgt v162 c0_i32_96
  let v165 : BitVec 32 := Scalar.extui v164
  let c0_i32_97 : BitVec 32 := 0#32
  let v166 : BitVec 1 := Scalar.cmpi .slt v162 c0_i32_97
  let v167 : BitVec 32 := Scalar.extui v166
  let v168 : BitVec 32 := Scalar.subi v165 v167
  let c2_i32_95 : BitVec 32 := 2#32
  let c0_i32_98 : BitVec 32 := 0#32
  let v169 : BitVec 1 := Scalar.cmpi .sgt c2_i32_95 c0_i32_98
  let v170 : BitVec 32 := Scalar.extui v169
  let c0_i32_99 : BitVec 32 := 0#32
  let v171 : BitVec 1 := Scalar.cmpi .slt c2_i32_95 c0_i32_99
  let v172 : BitVec 32 := Scalar.extui v171
  let v173 : BitVec 32 := Scalar.subi v170 v172
  let v174 : BitVec 1 := Scalar.cmpi .ne v168 v173
  let v175 : BitVec 32 := Scalar.remsi v162 c2_i32_95
  let c0_i32_100 : BitVec 32 := 0#32
  let v176 : BitVec 1 := Scalar.cmpi .ne v175 c0_i32_100
  let v177 : BitVec 1 := Scalar.andi v174 v176
  let v163 : BitVec 32 := Scalar.divsi v162 c2_i32_95
  let c1_i32_101 : BitVec 32 := 1#32
  let v178 : BitVec 32 := Scalar.subi v163 c1_i32_101
  let v179 : BitVec 32 := Scalar.select v177 v178 v163
  let v184 : Index := Scalar.indexCast v179
  let c2_i32_102 : BitVec 32 := 2#32
  let v180 : BitVec 32 := Scalar.muli v179 c2_i32_102
  let v181 : BitVec 32 := Scalar.subi v162 v180
  let c64_i32 : BitVec 32 := 64#32
  let v182 : BitVec 32 := Scalar.muli v181 c64_i32
  let v183 : BitVec 32 := v182
  let v185 : Index := Scalar.indexCast v183
  let c0_104 : Index := 0#32
  ![0, v184.toNat, v185.toNat, 0]
def k0_mult16 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let c0_i32_111 : BitVec 32 := 0#32
  let v195 : BitVec 1 := Scalar.cmpi .sgt v162 c0_i32_111
  let v196 : BitVec 32 := Scalar.extui v195
  let c0_i32_112 : BitVec 32 := 0#32
  let v197 : BitVec 1 := Scalar.cmpi .slt v162 c0_i32_112
  let v198 : BitVec 32 := Scalar.extui v197
  let v199 : BitVec 32 := Scalar.subi v196 v198
  let c2_i32_110 : BitVec 32 := 2#32
  let c0_i32_113 : BitVec 32 := 0#32
  let v200 : BitVec 1 := Scalar.cmpi .sgt c2_i32_110 c0_i32_113
  let v201 : BitVec 32 := Scalar.extui v200
  let c0_i32_114 : BitVec 32 := 0#32
  let v202 : BitVec 1 := Scalar.cmpi .slt c2_i32_110 c0_i32_114
  let v203 : BitVec 32 := Scalar.extui v202
  let v204 : BitVec 32 := Scalar.subi v201 v203
  let v205 : BitVec 1 := Scalar.cmpi .ne v199 v204
  let v206 : BitVec 32 := Scalar.remsi v162 c2_i32_110
  let c0_i32_115 : BitVec 32 := 0#32
  let v207 : BitVec 1 := Scalar.cmpi .ne v206 c0_i32_115
  let v208 : BitVec 1 := Scalar.andi v205 v207
  let v194 : BitVec 32 := Scalar.divsi v162 c2_i32_110
  let c1_i32_116 : BitVec 32 := 1#32
  let v209 : BitVec 32 := Scalar.subi v194 c1_i32_116
  let v210 : BitVec 32 := Scalar.select v208 v209 v194
  let c2_i32_117 : BitVec 32 := 2#32
  let v211 : BitVec 32 := Scalar.muli v210 c2_i32_117
  let v212 : BitVec 32 := Scalar.subi v162 v211
  let c64_i32_118 : BitVec 32 := 64#32
  let v213 : BitVec 32 := Scalar.muli v212 c64_i32_118
  v213
def k0_mult17 (k0_t2 : Fin k0_t2_loop.trips) : BitVec 32 :=
  let c31_i32_121 : BitVec 32 := 31#32
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let v220 : BitVec 32 := Scalar.subi c31_i32_121 v162
  let c0_i32_123 : BitVec 32 := 0#32
  let v222 : BitVec 1 := Scalar.cmpi .sgt v220 c0_i32_123
  let v223 : BitVec 32 := Scalar.extui v222
  let c0_i32_124 : BitVec 32 := 0#32
  let v224 : BitVec 1 := Scalar.cmpi .slt v220 c0_i32_124
  let v225 : BitVec 32 := Scalar.extui v224
  let v226 : BitVec 32 := Scalar.subi v223 v225
  let c2_i32_122 : BitVec 32 := 2#32
  let c0_i32_125 : BitVec 32 := 0#32
  let v227 : BitVec 1 := Scalar.cmpi .sgt c2_i32_122 c0_i32_125
  let v228 : BitVec 32 := Scalar.extui v227
  let c0_i32_126 : BitVec 32 := 0#32
  let v229 : BitVec 1 := Scalar.cmpi .slt c2_i32_122 c0_i32_126
  let v230 : BitVec 32 := Scalar.extui v229
  let v231 : BitVec 32 := Scalar.subi v228 v230
  let v232 : BitVec 1 := Scalar.cmpi .ne v226 v231
  let v233 : BitVec 32 := Scalar.remsi v220 c2_i32_122
  let c0_i32_127 : BitVec 32 := 0#32
  let v234 : BitVec 1 := Scalar.cmpi .ne v233 c0_i32_127
  let v235 : BitVec 1 := Scalar.andi v232 v234
  let v221 : BitVec 32 := Scalar.divsi v220 c2_i32_122
  let c1_i32_128 : BitVec 32 := 1#32
  let v236 : BitVec 32 := Scalar.subi v221 c1_i32_128
  let v237 : BitVec 32 := Scalar.select v235 v236 v221
  let c2_i32_129 : BitVec 32 := 2#32
  let v238 : BitVec 32 := Scalar.muli v237 c2_i32_129
  let v239 : BitVec 32 := Scalar.subi v220 v238
  let c64_i32_130 : BitVec 32 := 64#32
  let v240 : BitVec 32 := Scalar.muli v239 c64_i32_130
  v240
def k0_off20 (k0_t2 : Fin k0_t2_loop.trips) : Fin 4 → Nat :=
  let c0_131 : Index := 0#32
  let c31_i32_121 : BitVec 32 := 31#32
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let v220 : BitVec 32 := Scalar.subi c31_i32_121 v162
  let c0_i32_123 : BitVec 32 := 0#32
  let v222 : BitVec 1 := Scalar.cmpi .sgt v220 c0_i32_123
  let v223 : BitVec 32 := Scalar.extui v222
  let c0_i32_124 : BitVec 32 := 0#32
  let v224 : BitVec 1 := Scalar.cmpi .slt v220 c0_i32_124
  let v225 : BitVec 32 := Scalar.extui v224
  let v226 : BitVec 32 := Scalar.subi v223 v225
  let c2_i32_122 : BitVec 32 := 2#32
  let c0_i32_125 : BitVec 32 := 0#32
  let v227 : BitVec 1 := Scalar.cmpi .sgt c2_i32_122 c0_i32_125
  let v228 : BitVec 32 := Scalar.extui v227
  let c0_i32_126 : BitVec 32 := 0#32
  let v229 : BitVec 1 := Scalar.cmpi .slt c2_i32_122 c0_i32_126
  let v230 : BitVec 32 := Scalar.extui v229
  let v231 : BitVec 32 := Scalar.subi v228 v230
  let v232 : BitVec 1 := Scalar.cmpi .ne v226 v231
  let v233 : BitVec 32 := Scalar.remsi v220 c2_i32_122
  let c0_i32_127 : BitVec 32 := 0#32
  let v234 : BitVec 1 := Scalar.cmpi .ne v233 c0_i32_127
  let v235 : BitVec 1 := Scalar.andi v232 v234
  let v221 : BitVec 32 := Scalar.divsi v220 c2_i32_122
  let c1_i32_128 : BitVec 32 := 1#32
  let v236 : BitVec 32 := Scalar.subi v221 c1_i32_128
  let v237 : BitVec 32 := Scalar.select v235 v236 v221
  let v242 : Index := Scalar.indexCast v237
  let c2_i32_129 : BitVec 32 := 2#32
  let v238 : BitVec 32 := Scalar.muli v237 c2_i32_129
  let v239 : BitVec 32 := Scalar.subi v220 v238
  let c64_i32_130 : BitVec 32 := 64#32
  let v240 : BitVec 32 := Scalar.muli v239 c64_i32_130
  let v241 : BitVec 32 := v240
  let v243 : Index := Scalar.indexCast v241
  let c0_132 : Index := 0#32
  ![0, v242.toNat, v243.toNat, 0]
def k0_mult18 (k0_t2 : Fin k0_t2_loop.trips) : BitVec 32 :=
  let c31_i32_138 : BitVec 32 := 31#32
  let c1_i32 : BitVec 32 := 1#32
  let c1_i32_58 : BitVec 32 := 1#32
  let arg20 : BitVec 32 := Scf.iv c1_i32 c1_i32_58 k0_t2
  let c1_i32_94 : BitVec 32 := 1#32
  let v162 : BitVec 32 := Scalar.subi arg20 c1_i32_94
  let v252 : BitVec 32 := Scalar.subi c31_i32_138 v162
  let c0_i32_140 : BitVec 32 := 0#32
  let v254 : BitVec 1 := Scalar.cmpi .sgt v252 c0_i32_140
  let v255 : BitVec 32 := Scalar.extui v254
  let c0_i32_141 : BitVec 32 := 0#32
  let v256 : BitVec 1 := Scalar.cmpi .slt v252 c0_i32_141
  let v257 : BitVec 32 := Scalar.extui v256
  let v258 : BitVec 32 := Scalar.subi v255 v257
  let c2_i32_139 : BitVec 32 := 2#32
  let c0_i32_142 : BitVec 32 := 0#32
  let v259 : BitVec 1 := Scalar.cmpi .sgt c2_i32_139 c0_i32_142
  let v260 : BitVec 32 := Scalar.extui v259
  let c0_i32_143 : BitVec 32 := 0#32
  let v261 : BitVec 1 := Scalar.cmpi .slt c2_i32_139 c0_i32_143
  let v262 : BitVec 32 := Scalar.extui v261
  let v263 : BitVec 32 := Scalar.subi v260 v262
  let v264 : BitVec 1 := Scalar.cmpi .ne v258 v263
  let v265 : BitVec 32 := Scalar.remsi v252 c2_i32_139
  let c0_i32_144 : BitVec 32 := 0#32
  let v266 : BitVec 1 := Scalar.cmpi .ne v265 c0_i32_144
  let v267 : BitVec 1 := Scalar.andi v264 v266
  let v253 : BitVec 32 := Scalar.divsi v252 c2_i32_139
  let c1_i32_145 : BitVec 32 := 1#32
  let v268 : BitVec 32 := Scalar.subi v253 c1_i32_145
  let v269 : BitVec 32 := Scalar.select v267 v268 v253
  let c2_i32_146 : BitVec 32 := 2#32
  let v270 : BitVec 32 := Scalar.muli v269 c2_i32_146
  let v271 : BitVec 32 := Scalar.subi v252 v270
  let c64_i32_147 : BitVec 32 := 64#32
  let v272 : BitVec 32 := Scalar.muli v271 c64_i32_147
  v272
def k0_mult19 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c1_i32_150 : BitVec 32 := 1#32
  let v279 : BitVec 32 := Scalar.addi arg20 c1_i32_150
  let c31_i32_151 : BitVec 32 := 31#32
  let v280 : BitVec 32 := Scalar.minsi v279 c31_i32_151
  let c0_i32_154 : BitVec 32 := 0#32
  let v283 : BitVec 1 := Scalar.cmpi .sgt v280 c0_i32_154
  let v284 : BitVec 32 := Scalar.extui v283
  let c0_i32_155 : BitVec 32 := 0#32
  let v285 : BitVec 1 := Scalar.cmpi .slt v280 c0_i32_155
  let v286 : BitVec 32 := Scalar.extui v285
  let v287 : BitVec 32 := Scalar.subi v284 v286
  let c2_i32_153 : BitVec 32 := 2#32
  let c0_i32_156 : BitVec 32 := 0#32
  let v288 : BitVec 1 := Scalar.cmpi .sgt c2_i32_153 c0_i32_156
  let v289 : BitVec 32 := Scalar.extui v288
  let c0_i32_157 : BitVec 32 := 0#32
  let v290 : BitVec 1 := Scalar.cmpi .slt c2_i32_153 c0_i32_157
  let v291 : BitVec 32 := Scalar.extui v290
  let v292 : BitVec 32 := Scalar.subi v289 v291
  let v293 : BitVec 1 := Scalar.cmpi .ne v287 v292
  let v294 : BitVec 32 := Scalar.remsi v280 c2_i32_153
  let c0_i32_158 : BitVec 32 := 0#32
  let v295 : BitVec 1 := Scalar.cmpi .ne v294 c0_i32_158
  let v296 : BitVec 1 := Scalar.andi v293 v295
  let v282 : BitVec 32 := Scalar.divsi v280 c2_i32_153
  let c1_i32_159 : BitVec 32 := 1#32
  let v297 : BitVec 32 := Scalar.subi v282 c1_i32_159
  let v298 : BitVec 32 := Scalar.select v296 v297 v282
  let c2_i32_160 : BitVec 32 := 2#32
  let v299 : BitVec 32 := Scalar.muli v298 c2_i32_160
  let v300 : BitVec 32 := Scalar.subi v280 v299
  let c64_i32_161 : BitVec 32 := 64#32
  let v301 : BitVec 32 := Scalar.muli v300 c64_i32_161
  v301
def k0_off21 (k0_t2 : Fin k0_t2_loop.trips) : Fin 4 → Nat :=
  let c0_162 : Index := 0#32
  let c1_i32 : BitVec 32 := 1#32
  let c1_i32_58 : BitVec 32 := 1#32
  let arg20 : BitVec 32 := Scf.iv c1_i32 c1_i32_58 k0_t2
  let c1_i32_150 : BitVec 32 := 1#32
  let v279 : BitVec 32 := Scalar.addi arg20 c1_i32_150
  let c31_i32_151 : BitVec 32 := 31#32
  let v280 : BitVec 32 := Scalar.minsi v279 c31_i32_151
  let c0_i32_154 : BitVec 32 := 0#32
  let v283 : BitVec 1 := Scalar.cmpi .sgt v280 c0_i32_154
  let v284 : BitVec 32 := Scalar.extui v283
  let c0_i32_155 : BitVec 32 := 0#32
  let v285 : BitVec 1 := Scalar.cmpi .slt v280 c0_i32_155
  let v286 : BitVec 32 := Scalar.extui v285
  let v287 : BitVec 32 := Scalar.subi v284 v286
  let c2_i32_153 : BitVec 32 := 2#32
  let c0_i32_156 : BitVec 32 := 0#32
  let v288 : BitVec 1 := Scalar.cmpi .sgt c2_i32_153 c0_i32_156
  let v289 : BitVec 32 := Scalar.extui v288
  let c0_i32_157 : BitVec 32 := 0#32
  let v290 : BitVec 1 := Scalar.cmpi .slt c2_i32_153 c0_i32_157
  let v291 : BitVec 32 := Scalar.extui v290
  let v292 : BitVec 32 := Scalar.subi v289 v291
  let v293 : BitVec 1 := Scalar.cmpi .ne v287 v292
  let v294 : BitVec 32 := Scalar.remsi v280 c2_i32_153
  let c0_i32_158 : BitVec 32 := 0#32
  let v295 : BitVec 1 := Scalar.cmpi .ne v294 c0_i32_158
  let v296 : BitVec 1 := Scalar.andi v293 v295
  let v282 : BitVec 32 := Scalar.divsi v280 c2_i32_153
  let c1_i32_159 : BitVec 32 := 1#32
  let v297 : BitVec 32 := Scalar.subi v282 c1_i32_159
  let v298 : BitVec 32 := Scalar.select v296 v297 v282
  let v303 : Index := Scalar.indexCast v298
  let c2_i32_160 : BitVec 32 := 2#32
  let v299 : BitVec 32 := Scalar.muli v298 c2_i32_160
  let v300 : BitVec 32 := Scalar.subi v280 v299
  let c64_i32_161 : BitVec 32 := 64#32
  let v301 : BitVec 32 := Scalar.muli v300 c64_i32_161
  let v302 : BitVec 32 := v301
  let v304 : Index := Scalar.indexCast v302
  let c0_163 : Index := 0#32
  ![0, v303.toNat, v304.toNat, 0]
def k0_off22 (k0_t2 : Fin k0_t2_loop.trips) : Fin 4 → Nat :=
  let c1_i32_152 : BitVec 32 := 1#32
  let c1_i32 : BitVec 32 := 1#32
  let c1_i32_58 : BitVec 32 := 1#32
  let arg20 : BitVec 32 := Scf.iv c1_i32 c1_i32_58 k0_t2
  let c2_i32 : BitVec 32 := 2#32
  let v151 : BitVec 32 := Scalar.remsi arg20 c2_i32
  let v281 : BitVec 32 := Scalar.subi c1_i32_152 v151
  let v324 : Index := Scalar.indexCast v281
  let c0_167 : Index := 0#32
  let c0_168 : Index := 0#32
  let c0_169 : Index := 0#32
  ![v324.toNat, 0, 0, 0]
def k0_mult20 (k0_t2 : Fin k0_t2_loop.trips) : BitVec 32 :=
  let c31_i32_170 : BitVec 32 := 31#32
  let c1_i32 : BitVec 32 := 1#32
  let c1_i32_58 : BitVec 32 := 1#32
  let arg20 : BitVec 32 := Scf.iv c1_i32 c1_i32_58 k0_t2
  let c1_i32_150 : BitVec 32 := 1#32
  let v279 : BitVec 32 := Scalar.addi arg20 c1_i32_150
  let c31_i32_151 : BitVec 32 := 31#32
  let v280 : BitVec 32 := Scalar.minsi v279 c31_i32_151
  let v328 : BitVec 32 := Scalar.subi c31_i32_170 v280
  let c0_i32_172 : BitVec 32 := 0#32
  let v330 : BitVec 1 := Scalar.cmpi .sgt v328 c0_i32_172
  let v331 : BitVec 32 := Scalar.extui v330
  let c0_i32_173 : BitVec 32 := 0#32
  let v332 : BitVec 1 := Scalar.cmpi .slt v328 c0_i32_173
  let v333 : BitVec 32 := Scalar.extui v332
  let v334 : BitVec 32 := Scalar.subi v331 v333
  let c2_i32_171 : BitVec 32 := 2#32
  let c0_i32_174 : BitVec 32 := 0#32
  let v335 : BitVec 1 := Scalar.cmpi .sgt c2_i32_171 c0_i32_174
  let v336 : BitVec 32 := Scalar.extui v335
  let c0_i32_175 : BitVec 32 := 0#32
  let v337 : BitVec 1 := Scalar.cmpi .slt c2_i32_171 c0_i32_175
  let v338 : BitVec 32 := Scalar.extui v337
  let v339 : BitVec 32 := Scalar.subi v336 v338
  let v340 : BitVec 1 := Scalar.cmpi .ne v334 v339
  let v341 : BitVec 32 := Scalar.remsi v328 c2_i32_171
  let c0_i32_176 : BitVec 32 := 0#32
  let v342 : BitVec 1 := Scalar.cmpi .ne v341 c0_i32_176
  let v343 : BitVec 1 := Scalar.andi v340 v342
  let v329 : BitVec 32 := Scalar.divsi v328 c2_i32_171
  let c1_i32_177 : BitVec 32 := 1#32
  let v344 : BitVec 32 := Scalar.subi v329 c1_i32_177
  let v345 : BitVec 32 := Scalar.select v343 v344 v329
  let c2_i32_178 : BitVec 32 := 2#32
  let v346 : BitVec 32 := Scalar.muli v345 c2_i32_178
  let v347 : BitVec 32 := Scalar.subi v328 v346
  let c64_i32_179 : BitVec 32 := 64#32
  let v348 : BitVec 32 := Scalar.muli v347 c64_i32_179
  v348
def k0_off23 (k0_t2 : Fin k0_t2_loop.trips) : Fin 4 → Nat :=
  let c0_180 : Index := 0#32
  let c31_i32_170 : BitVec 32 := 31#32
  let c1_i32 : BitVec 32 := 1#32
  let c1_i32_58 : BitVec 32 := 1#32
  let arg20 : BitVec 32 := Scf.iv c1_i32 c1_i32_58 k0_t2
  let c1_i32_150 : BitVec 32 := 1#32
  let v279 : BitVec 32 := Scalar.addi arg20 c1_i32_150
  let c31_i32_151 : BitVec 32 := 31#32
  let v280 : BitVec 32 := Scalar.minsi v279 c31_i32_151
  let v328 : BitVec 32 := Scalar.subi c31_i32_170 v280
  let c0_i32_172 : BitVec 32 := 0#32
  let v330 : BitVec 1 := Scalar.cmpi .sgt v328 c0_i32_172
  let v331 : BitVec 32 := Scalar.extui v330
  let c0_i32_173 : BitVec 32 := 0#32
  let v332 : BitVec 1 := Scalar.cmpi .slt v328 c0_i32_173
  let v333 : BitVec 32 := Scalar.extui v332
  let v334 : BitVec 32 := Scalar.subi v331 v333
  let c2_i32_171 : BitVec 32 := 2#32
  let c0_i32_174 : BitVec 32 := 0#32
  let v335 : BitVec 1 := Scalar.cmpi .sgt c2_i32_171 c0_i32_174
  let v336 : BitVec 32 := Scalar.extui v335
  let c0_i32_175 : BitVec 32 := 0#32
  let v337 : BitVec 1 := Scalar.cmpi .slt c2_i32_171 c0_i32_175
  let v338 : BitVec 32 := Scalar.extui v337
  let v339 : BitVec 32 := Scalar.subi v336 v338
  let v340 : BitVec 1 := Scalar.cmpi .ne v334 v339
  let v341 : BitVec 32 := Scalar.remsi v328 c2_i32_171
  let c0_i32_176 : BitVec 32 := 0#32
  let v342 : BitVec 1 := Scalar.cmpi .ne v341 c0_i32_176
  let v343 : BitVec 1 := Scalar.andi v340 v342
  let v329 : BitVec 32 := Scalar.divsi v328 c2_i32_171
  let c1_i32_177 : BitVec 32 := 1#32
  let v344 : BitVec 32 := Scalar.subi v329 c1_i32_177
  let v345 : BitVec 32 := Scalar.select v343 v344 v329
  let v350 : Index := Scalar.indexCast v345
  let c2_i32_178 : BitVec 32 := 2#32
  let v346 : BitVec 32 := Scalar.muli v345 c2_i32_178
  let v347 : BitVec 32 := Scalar.subi v328 v346
  let c64_i32_179 : BitVec 32 := 64#32
  let v348 : BitVec 32 := Scalar.muli v347 c64_i32_179
  let v349 : BitVec 32 := v348
  let v351 : Index := Scalar.indexCast v349
  let c0_181 : Index := 0#32
  ![0, v350.toNat, v351.toNat, 0]
def k0_off24 (k0_t2 : Fin k0_t2_loop.trips) : Fin 4 → Nat :=
  let c1_i32_152 : BitVec 32 := 1#32
  let c1_i32 : BitVec 32 := 1#32
  let c1_i32_58 : BitVec 32 := 1#32
  let arg20 : BitVec 32 := Scf.iv c1_i32 c1_i32_58 k0_t2
  let c2_i32 : BitVec 32 := 2#32
  let v151 : BitVec 32 := Scalar.remsi arg20 c2_i32
  let v281 : BitVec 32 := Scalar.subi c1_i32_152 v151
  let v371 : Index := Scalar.indexCast v281
  let c1_185 : Index := 1#32
  let c0_186 : Index := 0#32
  let c0_187 : Index := 0#32
  ![v371.toNat, 1, 0, 0]
def k0_mult21 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c0_i32_190 : BitVec 32 := 0#32
  let v381 : BitVec 1 := Scalar.cmpi .sgt arg20 c0_i32_190
  let v382 : BitVec 32 := Scalar.extui v381
  let c0_i32_191 : BitVec 32 := 0#32
  let v383 : BitVec 1 := Scalar.cmpi .slt arg20 c0_i32_191
  let v384 : BitVec 32 := Scalar.extui v383
  let v385 : BitVec 32 := Scalar.subi v382 v384
  let c2_i32_189 : BitVec 32 := 2#32
  let c0_i32_192 : BitVec 32 := 0#32
  let v386 : BitVec 1 := Scalar.cmpi .sgt c2_i32_189 c0_i32_192
  let v387 : BitVec 32 := Scalar.extui v386
  let c0_i32_193 : BitVec 32 := 0#32
  let v388 : BitVec 1 := Scalar.cmpi .slt c2_i32_189 c0_i32_193
  let v389 : BitVec 32 := Scalar.extui v388
  let v390 : BitVec 32 := Scalar.subi v387 v389
  let v391 : BitVec 1 := Scalar.cmpi .ne v385 v390
  let v392 : BitVec 32 := Scalar.remsi arg20 c2_i32_189
  let c0_i32_194 : BitVec 32 := 0#32
  let v393 : BitVec 1 := Scalar.cmpi .ne v392 c0_i32_194
  let v394 : BitVec 1 := Scalar.andi v391 v393
  let v380 : BitVec 32 := Scalar.divsi arg20 c2_i32_189
  let c1_i32_195 : BitVec 32 := 1#32
  let v395 : BitVec 32 := Scalar.subi v380 c1_i32_195
  let v396 : BitVec 32 := Scalar.select v394 v395 v380
  let c2_i32_196 : BitVec 32 := 2#32
  let v397 : BitVec 32 := Scalar.muli v396 c2_i32_196
  let v398 : BitVec 32 := Scalar.subi arg20 v397
  let c64_i32_197 : BitVec 32 := 64#32
  let v399 : BitVec 32 := Scalar.muli v398 c64_i32_197
  v399
def k0_off25 (k0_t2 : Fin k0_t2_loop.trips) : Fin 4 → Nat :=
  let c0_198 : Index := 0#32
  let c1_i32 : BitVec 32 := 1#32
  let c1_i32_58 : BitVec 32 := 1#32
  let arg20 : BitVec 32 := Scf.iv c1_i32 c1_i32_58 k0_t2
  let c0_i32_190 : BitVec 32 := 0#32
  let v381 : BitVec 1 := Scalar.cmpi .sgt arg20 c0_i32_190
  let v382 : BitVec 32 := Scalar.extui v381
  let c0_i32_191 : BitVec 32 := 0#32
  let v383 : BitVec 1 := Scalar.cmpi .slt arg20 c0_i32_191
  let v384 : BitVec 32 := Scalar.extui v383
  let v385 : BitVec 32 := Scalar.subi v382 v384
  let c2_i32_189 : BitVec 32 := 2#32
  let c0_i32_192 : BitVec 32 := 0#32
  let v386 : BitVec 1 := Scalar.cmpi .sgt c2_i32_189 c0_i32_192
  let v387 : BitVec 32 := Scalar.extui v386
  let c0_i32_193 : BitVec 32 := 0#32
  let v388 : BitVec 1 := Scalar.cmpi .slt c2_i32_189 c0_i32_193
  let v389 : BitVec 32 := Scalar.extui v388
  let v390 : BitVec 32 := Scalar.subi v387 v389
  let v391 : BitVec 1 := Scalar.cmpi .ne v385 v390
  let v392 : BitVec 32 := Scalar.remsi arg20 c2_i32_189
  let c0_i32_194 : BitVec 32 := 0#32
  let v393 : BitVec 1 := Scalar.cmpi .ne v392 c0_i32_194
  let v394 : BitVec 1 := Scalar.andi v391 v393
  let v380 : BitVec 32 := Scalar.divsi arg20 c2_i32_189
  let c1_i32_195 : BitVec 32 := 1#32
  let v395 : BitVec 32 := Scalar.subi v380 c1_i32_195
  let v396 : BitVec 32 := Scalar.select v394 v395 v380
  let v401 : Index := Scalar.indexCast v396
  let c2_i32_196 : BitVec 32 := 2#32
  let v397 : BitVec 32 := Scalar.muli v396 c2_i32_196
  let v398 : BitVec 32 := Scalar.subi arg20 v397
  let c64_i32_197 : BitVec 32 := 64#32
  let v399 : BitVec 32 := Scalar.muli v398 c64_i32_197
  let v400 : BitVec 32 := v399
  let v402 : Index := Scalar.indexCast v400
  let c0_199 : Index := 0#32
  ![0, v401.toNat, v402.toNat, 0]
def k0_mult22 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c0_i32_201 : BitVec 32 := 0#32
  let v406 : BitVec 1 := Scalar.cmpi .sgt arg20 c0_i32_201
  let v407 : BitVec 32 := Scalar.extui v406
  let c0_i32_202 : BitVec 32 := 0#32
  let v408 : BitVec 1 := Scalar.cmpi .slt arg20 c0_i32_202
  let v409 : BitVec 32 := Scalar.extui v408
  let v410 : BitVec 32 := Scalar.subi v407 v409
  let c2_i32_200 : BitVec 32 := 2#32
  let c0_i32_203 : BitVec 32 := 0#32
  let v411 : BitVec 1 := Scalar.cmpi .sgt c2_i32_200 c0_i32_203
  let v412 : BitVec 32 := Scalar.extui v411
  let c0_i32_204 : BitVec 32 := 0#32
  let v413 : BitVec 1 := Scalar.cmpi .slt c2_i32_200 c0_i32_204
  let v414 : BitVec 32 := Scalar.extui v413
  let v415 : BitVec 32 := Scalar.subi v412 v414
  let v416 : BitVec 1 := Scalar.cmpi .ne v410 v415
  let v417 : BitVec 32 := Scalar.remsi arg20 c2_i32_200
  let c0_i32_205 : BitVec 32 := 0#32
  let v418 : BitVec 1 := Scalar.cmpi .ne v417 c0_i32_205
  let v419 : BitVec 1 := Scalar.andi v416 v418
  let v405 : BitVec 32 := Scalar.divsi arg20 c2_i32_200
  let c1_i32_206 : BitVec 32 := 1#32
  let v420 : BitVec 32 := Scalar.subi v405 c1_i32_206
  let v421 : BitVec 32 := Scalar.select v419 v420 v405
  let c2_i32_207 : BitVec 32 := 2#32
  let v422 : BitVec 32 := Scalar.muli v421 c2_i32_207
  let v423 : BitVec 32 := Scalar.subi arg20 v422
  let c64_i32_208 : BitVec 32 := 64#32
  let v424 : BitVec 32 := Scalar.muli v423 c64_i32_208
  v424
def k0_mult23 (k0_t2 : Fin k0_t2_loop.trips) : BitVec 32 :=
  let c1_i32 : BitVec 32 := 1#32
  let c1_i32_58 : BitVec 32 := 1#32
  let arg20 : BitVec 32 := Scf.iv c1_i32 c1_i32_58 k0_t2
  let c0_i32_212 : BitVec 32 := 0#32
  let v431 : BitVec 1 := Scalar.cmpi .sgt arg20 c0_i32_212
  let v432 : BitVec 32 := Scalar.extui v431
  let c0_i32_213 : BitVec 32 := 0#32
  let v433 : BitVec 1 := Scalar.cmpi .slt arg20 c0_i32_213
  let v434 : BitVec 32 := Scalar.extui v433
  let v435 : BitVec 32 := Scalar.subi v432 v434
  let c2_i32_211 : BitVec 32 := 2#32
  let c0_i32_214 : BitVec 32 := 0#32
  let v436 : BitVec 1 := Scalar.cmpi .sgt c2_i32_211 c0_i32_214
  let v437 : BitVec 32 := Scalar.extui v436
  let c0_i32_215 : BitVec 32 := 0#32
  let v438 : BitVec 1 := Scalar.cmpi .slt c2_i32_211 c0_i32_215
  let v439 : BitVec 32 := Scalar.extui v438
  let v440 : BitVec 32 := Scalar.subi v437 v439
  let v441 : BitVec 1 := Scalar.cmpi .ne v435 v440
  let v442 : BitVec 32 := Scalar.remsi arg20 c2_i32_211
  let c0_i32_216 : BitVec 32 := 0#32
  let v443 : BitVec 1 := Scalar.cmpi .ne v442 c0_i32_216
  let v444 : BitVec 1 := Scalar.andi v441 v443
  let v430 : BitVec 32 := Scalar.divsi arg20 c2_i32_211
  let c1_i32_217 : BitVec 32 := 1#32
  let v445 : BitVec 32 := Scalar.subi v430 c1_i32_217
  let v446 : BitVec 32 := Scalar.select v444 v445 v430
  let c2_i32_218 : BitVec 32 := 2#32
  let v447 : BitVec 32 := Scalar.muli v446 c2_i32_218
  let v448 : BitVec 32 := Scalar.subi arg20 v447
  let c64_i32_219 : BitVec 32 := 64#32
  let v449 : BitVec 32 := Scalar.muli v448 c64_i32_219
  v449
def k0_off26 (k0_t2 : Fin k0_t2_loop.trips) : Fin 4 → Nat :=
  let c0_220 : Index := 0#32
  let c1_i32 : BitVec 32 := 1#32
  let c1_i32_58 : BitVec 32 := 1#32
  let arg20 : BitVec 32 := Scf.iv c1_i32 c1_i32_58 k0_t2
  let c0_i32_212 : BitVec 32 := 0#32
  let v431 : BitVec 1 := Scalar.cmpi .sgt arg20 c0_i32_212
  let v432 : BitVec 32 := Scalar.extui v431
  let c0_i32_213 : BitVec 32 := 0#32
  let v433 : BitVec 1 := Scalar.cmpi .slt arg20 c0_i32_213
  let v434 : BitVec 32 := Scalar.extui v433
  let v435 : BitVec 32 := Scalar.subi v432 v434
  let c2_i32_211 : BitVec 32 := 2#32
  let c0_i32_214 : BitVec 32 := 0#32
  let v436 : BitVec 1 := Scalar.cmpi .sgt c2_i32_211 c0_i32_214
  let v437 : BitVec 32 := Scalar.extui v436
  let c0_i32_215 : BitVec 32 := 0#32
  let v438 : BitVec 1 := Scalar.cmpi .slt c2_i32_211 c0_i32_215
  let v439 : BitVec 32 := Scalar.extui v438
  let v440 : BitVec 32 := Scalar.subi v437 v439
  let v441 : BitVec 1 := Scalar.cmpi .ne v435 v440
  let v442 : BitVec 32 := Scalar.remsi arg20 c2_i32_211
  let c0_i32_216 : BitVec 32 := 0#32
  let v443 : BitVec 1 := Scalar.cmpi .ne v442 c0_i32_216
  let v444 : BitVec 1 := Scalar.andi v441 v443
  let v430 : BitVec 32 := Scalar.divsi arg20 c2_i32_211
  let c1_i32_217 : BitVec 32 := 1#32
  let v445 : BitVec 32 := Scalar.subi v430 c1_i32_217
  let v446 : BitVec 32 := Scalar.select v444 v445 v430
  let v451 : Index := Scalar.indexCast v446
  let c2_i32_218 : BitVec 32 := 2#32
  let v447 : BitVec 32 := Scalar.muli v446 c2_i32_218
  let v448 : BitVec 32 := Scalar.subi arg20 v447
  let c64_i32_219 : BitVec 32 := 64#32
  let v449 : BitVec 32 := Scalar.muli v448 c64_i32_219
  let v450 : BitVec 32 := v449
  let v452 : Index := Scalar.indexCast v450
  let c0_221 : Index := 0#32
  ![0, v451.toNat, v452.toNat, 0]
def k0_mult24 (k0_t2 : Fin k0_t2_loop.trips) : BitVec 32 :=
  let c31_i32_222 : BitVec 32 := 31#32
  let c1_i32 : BitVec 32 := 1#32
  let c1_i32_58 : BitVec 32 := 1#32
  let arg20 : BitVec 32 := Scf.iv c1_i32 c1_i32_58 k0_t2
  let v455 : BitVec 32 := Scalar.subi c31_i32_222 arg20
  let c0_i32_224 : BitVec 32 := 0#32
  let v457 : BitVec 1 := Scalar.cmpi .sgt v455 c0_i32_224
  let v458 : BitVec 32 := Scalar.extui v457
  let c0_i32_225 : BitVec 32 := 0#32
  let v459 : BitVec 1 := Scalar.cmpi .slt v455 c0_i32_225
  let v460 : BitVec 32 := Scalar.extui v459
  let v461 : BitVec 32 := Scalar.subi v458 v460
  let c2_i32_223 : BitVec 32 := 2#32
  let c0_i32_226 : BitVec 32 := 0#32
  let v462 : BitVec 1 := Scalar.cmpi .sgt c2_i32_223 c0_i32_226
  let v463 : BitVec 32 := Scalar.extui v462
  let c0_i32_227 : BitVec 32 := 0#32
  let v464 : BitVec 1 := Scalar.cmpi .slt c2_i32_223 c0_i32_227
  let v465 : BitVec 32 := Scalar.extui v464
  let v466 : BitVec 32 := Scalar.subi v463 v465
  let v467 : BitVec 1 := Scalar.cmpi .ne v461 v466
  let v468 : BitVec 32 := Scalar.remsi v455 c2_i32_223
  let c0_i32_228 : BitVec 32 := 0#32
  let v469 : BitVec 1 := Scalar.cmpi .ne v468 c0_i32_228
  let v470 : BitVec 1 := Scalar.andi v467 v469
  let v456 : BitVec 32 := Scalar.divsi v455 c2_i32_223
  let c1_i32_229 : BitVec 32 := 1#32
  let v471 : BitVec 32 := Scalar.subi v456 c1_i32_229
  let v472 : BitVec 32 := Scalar.select v470 v471 v456
  let c2_i32_230 : BitVec 32 := 2#32
  let v473 : BitVec 32 := Scalar.muli v472 c2_i32_230
  let v474 : BitVec 32 := Scalar.subi v455 v473
  let c64_i32_231 : BitVec 32 := 64#32
  let v475 : BitVec 32 := Scalar.muli v474 c64_i32_231
  v475
def k0_off27 (k0_t2 : Fin k0_t2_loop.trips) : Fin 4 → Nat :=
  let c0_232 : Index := 0#32
  let c31_i32_222 : BitVec 32 := 31#32
  let c1_i32 : BitVec 32 := 1#32
  let c1_i32_58 : BitVec 32 := 1#32
  let arg20 : BitVec 32 := Scf.iv c1_i32 c1_i32_58 k0_t2
  let v455 : BitVec 32 := Scalar.subi c31_i32_222 arg20
  let c0_i32_224 : BitVec 32 := 0#32
  let v457 : BitVec 1 := Scalar.cmpi .sgt v455 c0_i32_224
  let v458 : BitVec 32 := Scalar.extui v457
  let c0_i32_225 : BitVec 32 := 0#32
  let v459 : BitVec 1 := Scalar.cmpi .slt v455 c0_i32_225
  let v460 : BitVec 32 := Scalar.extui v459
  let v461 : BitVec 32 := Scalar.subi v458 v460
  let c2_i32_223 : BitVec 32 := 2#32
  let c0_i32_226 : BitVec 32 := 0#32
  let v462 : BitVec 1 := Scalar.cmpi .sgt c2_i32_223 c0_i32_226
  let v463 : BitVec 32 := Scalar.extui v462
  let c0_i32_227 : BitVec 32 := 0#32
  let v464 : BitVec 1 := Scalar.cmpi .slt c2_i32_223 c0_i32_227
  let v465 : BitVec 32 := Scalar.extui v464
  let v466 : BitVec 32 := Scalar.subi v463 v465
  let v467 : BitVec 1 := Scalar.cmpi .ne v461 v466
  let v468 : BitVec 32 := Scalar.remsi v455 c2_i32_223
  let c0_i32_228 : BitVec 32 := 0#32
  let v469 : BitVec 1 := Scalar.cmpi .ne v468 c0_i32_228
  let v470 : BitVec 1 := Scalar.andi v467 v469
  let v456 : BitVec 32 := Scalar.divsi v455 c2_i32_223
  let c1_i32_229 : BitVec 32 := 1#32
  let v471 : BitVec 32 := Scalar.subi v456 c1_i32_229
  let v472 : BitVec 32 := Scalar.select v470 v471 v456
  let v477 : Index := Scalar.indexCast v472
  let c2_i32_230 : BitVec 32 := 2#32
  let v473 : BitVec 32 := Scalar.muli v472 c2_i32_230
  let v474 : BitVec 32 := Scalar.subi v455 v473
  let c64_i32_231 : BitVec 32 := 64#32
  let v475 : BitVec 32 := Scalar.muli v474 c64_i32_231
  let v476 : BitVec 32 := v475
  let v478 : Index := Scalar.indexCast v476
  let c0_233 : Index := 0#32
  ![0, v477.toNat, v478.toNat, 0]
def k0_mult25 (k0_t2 : Fin k0_t2_loop.trips) : BitVec 32 :=
  let c31_i32_234 : BitVec 32 := 31#32
  let c1_i32 : BitVec 32 := 1#32
  let c1_i32_58 : BitVec 32 := 1#32
  let arg20 : BitVec 32 := Scf.iv c1_i32 c1_i32_58 k0_t2
  let v481 : BitVec 32 := Scalar.subi c31_i32_234 arg20
  let c0_i32_236 : BitVec 32 := 0#32
  let v483 : BitVec 1 := Scalar.cmpi .sgt v481 c0_i32_236
  let v484 : BitVec 32 := Scalar.extui v483
  let c0_i32_237 : BitVec 32 := 0#32
  let v485 : BitVec 1 := Scalar.cmpi .slt v481 c0_i32_237
  let v486 : BitVec 32 := Scalar.extui v485
  let v487 : BitVec 32 := Scalar.subi v484 v486
  let c2_i32_235 : BitVec 32 := 2#32
  let c0_i32_238 : BitVec 32 := 0#32
  let v488 : BitVec 1 := Scalar.cmpi .sgt c2_i32_235 c0_i32_238
  let v489 : BitVec 32 := Scalar.extui v488
  let c0_i32_239 : BitVec 32 := 0#32
  let v490 : BitVec 1 := Scalar.cmpi .slt c2_i32_235 c0_i32_239
  let v491 : BitVec 32 := Scalar.extui v490
  let v492 : BitVec 32 := Scalar.subi v489 v491
  let v493 : BitVec 1 := Scalar.cmpi .ne v487 v492
  let v494 : BitVec 32 := Scalar.remsi v481 c2_i32_235
  let c0_i32_240 : BitVec 32 := 0#32
  let v495 : BitVec 1 := Scalar.cmpi .ne v494 c0_i32_240
  let v496 : BitVec 1 := Scalar.andi v493 v495
  let v482 : BitVec 32 := Scalar.divsi v481 c2_i32_235
  let c1_i32_241 : BitVec 32 := 1#32
  let v497 : BitVec 32 := Scalar.subi v482 c1_i32_241
  let v498 : BitVec 32 := Scalar.select v496 v497 v482
  let c2_i32_242 : BitVec 32 := 2#32
  let v499 : BitVec 32 := Scalar.muli v498 c2_i32_242
  let v500 : BitVec 32 := Scalar.subi v481 v499
  let c64_i32_243 : BitVec 32 := 64#32
  let v501 : BitVec 32 := Scalar.muli v500 c64_i32_243
  v501
def k0_mult26 (k0_t2 : Fin k0_t2_loop.trips) : BitVec 32 :=
  let c31_i32_246 : BitVec 32 := 31#32
  let c1_i32 : BitVec 32 := 1#32
  let c1_i32_58 : BitVec 32 := 1#32
  let arg20 : BitVec 32 := Scf.iv c1_i32 c1_i32_58 k0_t2
  let v507 : BitVec 32 := Scalar.subi c31_i32_246 arg20
  let c0_i32_248 : BitVec 32 := 0#32
  let v509 : BitVec 1 := Scalar.cmpi .sgt v507 c0_i32_248
  let v510 : BitVec 32 := Scalar.extui v509
  let c0_i32_249 : BitVec 32 := 0#32
  let v511 : BitVec 1 := Scalar.cmpi .slt v507 c0_i32_249
  let v512 : BitVec 32 := Scalar.extui v511
  let v513 : BitVec 32 := Scalar.subi v510 v512
  let c2_i32_247 : BitVec 32 := 2#32
  let c0_i32_250 : BitVec 32 := 0#32
  let v514 : BitVec 1 := Scalar.cmpi .sgt c2_i32_247 c0_i32_250
  let v515 : BitVec 32 := Scalar.extui v514
  let c0_i32_251 : BitVec 32 := 0#32
  let v516 : BitVec 1 := Scalar.cmpi .slt c2_i32_247 c0_i32_251
  let v517 : BitVec 32 := Scalar.extui v516
  let v518 : BitVec 32 := Scalar.subi v515 v517
  let v519 : BitVec 1 := Scalar.cmpi .ne v513 v518
  let v520 : BitVec 32 := Scalar.remsi v507 c2_i32_247
  let c0_i32_252 : BitVec 32 := 0#32
  let v521 : BitVec 1 := Scalar.cmpi .ne v520 c0_i32_252
  let v522 : BitVec 1 := Scalar.andi v519 v521
  let v508 : BitVec 32 := Scalar.divsi v507 c2_i32_247
  let c1_i32_253 : BitVec 32 := 1#32
  let v523 : BitVec 32 := Scalar.subi v508 c1_i32_253
  let v524 : BitVec 32 := Scalar.select v522 v523 v508
  let c2_i32_254 : BitVec 32 := 2#32
  let v525 : BitVec 32 := Scalar.muli v524 c2_i32_254
  let v526 : BitVec 32 := Scalar.subi v507 v525
  let c64_i32_255 : BitVec 32 := 64#32
  let v527 : BitVec 32 := Scalar.muli v526 c64_i32_255
  v527
def k0_off28 (k0_t2 : Fin k0_t2_loop.trips) : Fin 4 → Nat :=
  let c0_256 : Index := 0#32
  let c31_i32_246 : BitVec 32 := 31#32
  let c1_i32 : BitVec 32 := 1#32
  let c1_i32_58 : BitVec 32 := 1#32
  let arg20 : BitVec 32 := Scf.iv c1_i32 c1_i32_58 k0_t2
  let v507 : BitVec 32 := Scalar.subi c31_i32_246 arg20
  let c0_i32_248 : BitVec 32 := 0#32
  let v509 : BitVec 1 := Scalar.cmpi .sgt v507 c0_i32_248
  let v510 : BitVec 32 := Scalar.extui v509
  let c0_i32_249 : BitVec 32 := 0#32
  let v511 : BitVec 1 := Scalar.cmpi .slt v507 c0_i32_249
  let v512 : BitVec 32 := Scalar.extui v511
  let v513 : BitVec 32 := Scalar.subi v510 v512
  let c2_i32_247 : BitVec 32 := 2#32
  let c0_i32_250 : BitVec 32 := 0#32
  let v514 : BitVec 1 := Scalar.cmpi .sgt c2_i32_247 c0_i32_250
  let v515 : BitVec 32 := Scalar.extui v514
  let c0_i32_251 : BitVec 32 := 0#32
  let v516 : BitVec 1 := Scalar.cmpi .slt c2_i32_247 c0_i32_251
  let v517 : BitVec 32 := Scalar.extui v516
  let v518 : BitVec 32 := Scalar.subi v515 v517
  let v519 : BitVec 1 := Scalar.cmpi .ne v513 v518
  let v520 : BitVec 32 := Scalar.remsi v507 c2_i32_247
  let c0_i32_252 : BitVec 32 := 0#32
  let v521 : BitVec 1 := Scalar.cmpi .ne v520 c0_i32_252
  let v522 : BitVec 1 := Scalar.andi v519 v521
  let v508 : BitVec 32 := Scalar.divsi v507 c2_i32_247
  let c1_i32_253 : BitVec 32 := 1#32
  let v523 : BitVec 32 := Scalar.subi v508 c1_i32_253
  let v524 : BitVec 32 := Scalar.select v522 v523 v508
  let v529 : Index := Scalar.indexCast v524
  let c2_i32_254 : BitVec 32 := 2#32
  let v525 : BitVec 32 := Scalar.muli v524 c2_i32_254
  let v526 : BitVec 32 := Scalar.subi v507 v525
  let c64_i32_255 : BitVec 32 := 64#32
  let v527 : BitVec 32 := Scalar.muli v526 c64_i32_255
  let v528 : BitVec 32 := v527
  let v530 : Index := Scalar.indexCast v528
  let c0_257 : Index := 0#32
  ![0, v529.toNat, v530.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let v2 : BitVec 32 := Scalar.addi c0_i32_0 arg1
  let c0_i32_1 : BitVec 32 := 0#32
  let c0_i32_2 : BitVec 32 := 0#32
  ![arg0.toNat, v1.toNat, c0_i32_1.toNat, v2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c4_i32 : BitVec 32 := 4#32
  let v2 : BitVec 32 := Scalar.addi c4_i32 arg1
  let c0_i32_0 : BitVec 32 := 0#32
  let c0_i32_1 : BitVec 32 := 0#32
  ![arg0.toNat, v1.toNat, c0_i32_0.toNat, v2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c4_i32 : BitVec 32 := 4#32
  let v2 : BitVec 32 := Scalar.addi c4_i32 arg1
  let c0_i32_0 : BitVec 32 := 0#32
  let c0_i32_1 : BitVec 32 := 0#32
  ![arg0.toNat, v1.toNat, c0_i32_0.toNat, v2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let v2 : BitVec 32 := Scalar.addi c0_i32_0 arg1
  let c0_i32_1 : BitVec 32 := 0#32
  let c0_i32_2 : BitVec 32 := 0#32
  ![arg0.toNat, v1.toNat, c0_i32_1.toNat, v2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.subi c3_i32 v1
  let c0_i32_0 : BitVec 32 := 0#32
  let v3 : BitVec 32 := Scalar.addi c0_i32_0 arg1
  let c0_i32_1 : BitVec 32 := 0#32
  let c0_i32_2 : BitVec 32 := 0#32
  ![arg0.toNat, v2.toNat, c0_i32_1.toNat, v3.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.subi c3_i32 v1
  let c4_i32 : BitVec 32 := 4#32
  let v3 : BitVec 32 := Scalar.addi c4_i32 arg1
  let c0_i32_0 : BitVec 32 := 0#32
  let c0_i32_1 : BitVec 32 := 0#32
  ![arg0.toNat, v2.toNat, c0_i32_0.toNat, v3.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.subi c3_i32 v1
  let c4_i32 : BitVec 32 := 4#32
  let v3 : BitVec 32 := Scalar.addi c4_i32 arg1
  let c0_i32_0 : BitVec 32 := 0#32
  let c0_i32_1 : BitVec 32 := 0#32
  ![arg0.toNat, v2.toNat, c0_i32_0.toNat, v3.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.subi c3_i32 v1
  let c4_i32 : BitVec 32 := 4#32
  let v3 : BitVec 32 := Scalar.addi c4_i32 arg1
  let c0_i32_0 : BitVec 32 := 0#32
  let c0_i32_1 : BitVec 32 := 0#32
  ![arg0.toNat, v2.toNat, c0_i32_0.toNat, v3.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.subi c3_i32 v1
  let c0_i32_0 : BitVec 32 := 0#32
  let c0_i32_1 : BitVec 32 := 0#32
  ![arg0.toNat, v2.toNat, c0_i32_0.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x16x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x16x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x16x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x16x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x16x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== Kernel2.lean ====
abbrev S16384x2048 : Shape := ⟨2, ![16384, 2048]⟩
abbrev S2x8192x2048 : Shape := ⟨3, ![2, 8192, 2048]⟩
abbrev S8x6144 : Shape := ⟨2, ![8, 6144]⟩
abbrev S1x2048x2048 : Shape := ⟨3, ![1, 2048, 2048]⟩
abbrev S2048 : Shape := ⟨1, ![2048]⟩
abbrev S8x3x2048 : Shape := ⟨3, ![8, 3, 2048]⟩
abbrev S2048x2048 : Shape := ⟨2, ![2048, 2048]⟩
abbrev S1x2048 : Shape := ⟨2, ![1, 2048]⟩
abbrev S512x2048 : Shape := ⟨2, ![512, 2048]⟩
abbrev S1x3x2048 : Shape := ⟨3, ![1, 3, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2x8192x2048, .f32⟩
  | .hbm, ⟨2, _⟩ => ⟨S8x6144, .f32⟩
  | .hbm, ⟨3, _⟩ => ⟨S1x2048x2048, .f32⟩
  | .hbm, ⟨4, _⟩ => ⟨S2048, .f32⟩
  | .hbm, ⟨5, _⟩ => ⟨S8x3x2048, .f32⟩
  | .hbm, ⟨6, _⟩ => ⟨S16384x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x3x2048, .f32⟩
  | .local _ .vmem, ⟨5, _⟩ => ⟨S1x3x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x2048 : Shape := ⟨2, ![16384, 2048]⟩
abbrev S2x8192x2048 : Shape := ⟨3, ![2, 8192, 2048]⟩
abbrev S8x6144 : Shape := ⟨2, ![8, 6144]⟩
abbrev S1x2048x2048 : Shape := ⟨3, ![1, 2048, 2048]⟩
abbrev S2048 : Shape := ⟨1, ![2048]⟩
abbrev S2x6144 : Shape := ⟨2, ![2, 6144]⟩
abbrev S2x2048 : Shape := ⟨2, ![2, 2048]⟩
abbrev S2048x2048 : Shape := ⟨2, ![2048, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x8192x2048, .f32⟩
  | .hbm, ⟨2, _⟩ => ⟨S8x6144, .f32⟩
  | .hbm, ⟨3, _⟩ => ⟨S1x2048x2048, .f32⟩
  | .hbm, ⟨4, _⟩ => ⟨S2048, .f32⟩
  | .hbm, ⟨5, _⟩ => ⟨S2x6144, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S16384x2048, .f32⟩
  | .hbm, ⟨10, _⟩ => ⟨S2x8192x2048, .f32⟩
  | .hbm, ⟨11, _⟩ => ⟨S2048x2048, .f32⟩
  | .hbm, ⟨12, _⟩ => ⟨S2x8192x2048, .f32⟩
  | .hbm, ⟨13, _⟩ => ⟨S2x1x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S2x8192x2048, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x2048, .f32⟩
  | .hbm, ⟨29, _⟩ => ⟨S2x8192x2048, .f32⟩
  | .hbm, ⟨30, _⟩ => ⟨S1x1x2048, .f32⟩
  | .hbm, ⟨31, _⟩ => ⟨S2x8192x2048, .f32⟩
  | .hbm, ⟨32, _⟩ => ⟨S2x8192x2048, .f32⟩
  | .hbm, ⟨33, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel3.lean ====
abbrev S2x8192x2048 : Shape := ⟨3, ![2, 8192, 2048]⟩
abbrev S16384x2048 : Shape := ⟨2, ![16384, 2048]⟩
abbrev S16384x8192 : Shape := ⟨2, ![16384, 8192]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S16384x2048, .bf16⟩
  | .hbm, ⟨3, _⟩ => ⟨S16384x8192, .bf16⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S16384x2048, .bf16⟩
  | .hbm, ⟨8, _⟩ => ⟨S16384x2048, .bf16⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S2048x2048, .bf16⟩
  | .local _ .vmem, ⟨14, _⟩ => ⟨S2048x2048, .bf16⟩
  | .local _ .vmem, ⟨15, _⟩ => ⟨S512x2048, .bf16⟩
  | .local _ .vmem, ⟨16, _⟩ => ⟨S512x2048, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x8192x2048 : Shape := ⟨3, ![2, 8192, 2048]⟩
abbrev S16384x2048 : Shape := ⟨2, ![16384, 2048]⟩
abbrev S16384x8192 : Shape := ⟨2, ![16384, 8192]⟩
abbrev S1x2048 : Shape := ⟨2, ![1, 2048]⟩
abbrev S1x2048x2048 : Shape := ⟨3, ![1, 2048, 2048]⟩
abbrev S2x8192x8192 : Shape := ⟨3, ![2, 8192, 8192]⟩
abbrev S2x8192x16x128 : Shape := ⟨4, ![2, 8192, 16, 128]⟩
abbrev S_ : Shape := ⟨0, ![]⟩
abbrev S2x8192x16 : Shape := ⟨3, ![2, 8192, 16]⟩
abbrev S2x8192x16x1 : Shape := ⟨4, ![2, 8192, 16, 1]⟩
abbrev S2048 : Shape := ⟨1, ![2048]⟩
abbrev S1x1x2048 : Shape := ⟨3, ![1, 1, 2048]⟩
abbrev S2048x2048 : Shape := ⟨2, ![2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S16384x2048, .bf16⟩
  | .hbm, ⟨3, _⟩ => ⟨S16384x8192, .bf16⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S16384x8192, .f32⟩
  | .hbm, ⟨8, _⟩ => ⟨S2x8192x8192, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x16x128, .f32⟩
  | .hbm, ⟨17, _⟩ => ⟨S2x8192x16x128, .f32⟩
  | .hbm, ⟨18, _⟩ => ⟨S_, .f32⟩
  | .hbm, ⟨19, _⟩ => ⟨S2x8192x16, .f32⟩
  | .hbm, ⟨20, _⟩ => ⟨S2x8192x16x1, .f32⟩
  | .hbm, ⟨21, _⟩ => ⟨S_, .f32⟩
  | .hbm, ⟨22, _⟩ => ⟨S2x8192x16x1, .f32⟩
  | .hbm, ⟨23, _⟩ => ⟨S2x8192x16x1, .f32⟩
  | .hbm, ⟨24, _⟩ => ⟨S_, .f32⟩
  | .hbm, ⟨25, _⟩ => ⟨S2x8192x16x1, .f32⟩
  | .hbm, ⟨26, _⟩ => ⟨S2x8192x16x1, .f32⟩
  | .hbm, ⟨27, _⟩ => ⟨S2x8192x16x1, .f32⟩
  | .hbm, ⟨28, _⟩ => ⟨S2x8192x16x128, .f32⟩
  | .hbm, ⟨29, _⟩ => ⟨S2x8192x16x128, .f32⟩
  | .hbm, ⟨30, _⟩ => ⟨S2x8192x2048, .f32⟩
  | .hbm, ⟨31, _⟩ => ⟨S2048, .f32⟩
  | .hbm, ⟨32, _⟩ => ⟨S1x1x2048, .f32⟩
  | .hbm, ⟨33, _⟩ => ⟨S2x8192x2048, .f32⟩
  | .hbm, ⟨34, _⟩ => ⟨S2x8192x2048, .f32⟩
  | .hbm, ⟨35, _⟩ => ⟨S2x8192x2048, .f32⟩
  | .hbm, ⟨36, _⟩ => ⟨S16384x2048, .f32⟩
  | .hbm, ⟨37, _⟩ => ⟨S2x8192x2048, .f32⟩
  | .hbm, ⟨38, _⟩ => ⟨S2048x2048, .f32⟩
  | .hbm, ⟨39, _⟩ => ⟨S2x8192x2048, .f32⟩
  | .hbm, ⟨40, _⟩ => ⟨S2x8192x2048, .f32⟩
  | .hbm, ⟨41, _⟩ => ⟨S2048x2048, .f32⟩
  | .hbm, ⟨42, _⟩ => ⟨S2x8192x2048, .f32⟩
  | .hbm, ⟨43, _⟩ => ⟨S2x8192x2048, .f32⟩
  | .hbm, ⟨44, _⟩ => ⟨S2x8192x2048, .f32⟩
  | .hbm, ⟨45, _⟩ => ⟨S16384x2048, .f32⟩
  | .hbm, ⟨46, _⟩ => ⟨S16384x2048, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel4.lean ====
abbrev S2x64x128x2048 : Shape := ⟨4, ![2, 64, 128, 2048]⟩
abbrev S16384x8192 : Shape := ⟨2, ![16384, 8192]⟩
abbrev S1x2048 : Shape := ⟨2, ![1, 2048]⟩
abbrev S2048 : Shape := ⟨1, ![2048]⟩
abbrev S16384x2048 : Shape := ⟨2, ![16384, 2048]⟩
abbrev S1x64x16x512 : Shape := ⟨4, ![1, 64, 16, 512]⟩
abbrev S1024x512 : Shape := ⟨2, ![1024, 512]⟩
abbrev S1x512 : Shape := ⟨2, ![1, 512]⟩
abbrev S64x16x512 : Shape := ⟨3, ![64, 16, 512]⟩
abbrev S64x16 : Shape := ⟨2, ![64, 16]⟩
abbrev S64x16x1 : Shape := ⟨3, ![64, 16, 1]⟩
abbrev S1x1x512 : Shape := ⟨3, ![1, 1, 512]⟩
abbrev S16x64x512 : Shape := ⟨3, ![16, 64, 512]⟩

abbrev nBuf : Space → Nat
  | .hbm => 7
  | .vmem => 10
  | .smem => 0
  | _ => 0

abbrev bufTy : (tb : Table) → Fin (tcTables nBuf tb) → BufTy
  | .hbm, ⟨0, _⟩ => ⟨S2x64x128x2048, .bf16⟩
  | .hbm, ⟨1, _⟩ => ⟨S2x64x128x2048, .bf16⟩
  | .hbm, ⟨2, _⟩ => ⟨S16384x8192, .bf16⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S16384x2048, .bf16⟩
  | .local _ .vmem, ⟨0, _⟩ => ⟨S1x64x16x512, .bf16⟩
  | .local _ .vmem, ⟨1, _⟩ => ⟨S1x64x16x512, .bf16⟩
  | .local _ .vmem, ⟨2, _⟩ => ⟨S1x64x16x512, .bf16⟩
  | .local _ .vmem, ⟨3, _⟩ => ⟨S1x64x16x512, .bf16⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S2x64x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.addi c4_i32 arg2
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S1x64x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S2x64x128x2048 : Shape := ⟨4, ![2, 64, 128, 2048]⟩
abbrev S16384x8192 : Shape := ⟨2, ![16384, 8192]⟩
abbrev S1x2048 : Shape := ⟨2, ![1, 2048]⟩
abbrev S2x128x64x2048 : Shape := ⟨4, ![2, 128, 64, 2048]⟩
abbrev S2x8192x4x512 : Shape := ⟨4, ![2, 8192, 4, 512]⟩
abbrev S_ : Shape := ⟨0, ![]⟩
abbrev S2x8192x4 : Shape := ⟨3, ![2, 8192, 4]⟩
abbrev S2x8192x4x1 : Shape := ⟨4, ![2, 8192, 4, 1]⟩
abbrev S2x8192x8192 : Shape := ⟨3, ![2, 8192, 8192]⟩
abbrev S2x8192x2048 : Shape := ⟨3, ![2, 8192, 2048]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x64x128x2048, .bf16⟩
  | .hbm, ⟨1, _⟩ => ⟨S2x64x128x2048, .bf16⟩
  | .hbm, ⟨2, _⟩ => ⟨S16384x8192, .bf16⟩
  | .hbm, ⟨3, _⟩ => ⟨S1x2048, .f32⟩
  | .hbm, ⟨4, _⟩ => ⟨S2x64x128x2048, .f32⟩
  | .hbm, ⟨5, _⟩ => ⟨S2x64x128x2048, .f32⟩
  | .hbm, ⟨6, _⟩ => ⟨S2x64x128x2048, .f32⟩
  | .hbm, ⟨7, _⟩ => ⟨S2x128x64x2048, .f32⟩
  | .hbm, ⟨8, _⟩ => ⟨S2x8192x4x512, .f32⟩
  | .hbm, ⟨9, _⟩ => ⟨S2x8192x4x512, .f32⟩
  | .hbm, ⟨10, _⟩ => ⟨S_, .f32⟩
  | .hbm, ⟨11, _⟩ => ⟨S2x8192x4, .f32⟩
  | .hbm, ⟨12, _⟩ => ⟨S2x8192x4x1, .f32⟩
  | .hbm, ⟨13, _⟩ => ⟨S_, .f32⟩
  | .hbm, ⟨14, _⟩ => ⟨S2x8192x4x1, .f32⟩
  | .hbm, ⟨15, _⟩ => ⟨S2x8192x4x1, .f32⟩
  | .hbm, ⟨16, _⟩ => ⟨S_, .f32⟩
  | .hbm, ⟨17, _⟩ => ⟨S2x8192x4x1, .f32⟩
  | .hbm, ⟨18, _⟩ => ⟨S2x8192x4x1, .f32⟩
  | .hbm, ⟨19, _⟩ => ⟨S2x8192x4x1, .f32⟩
  | .hbm, ⟨20, _⟩ => ⟨S2x8192x4x512, .f32⟩
  | .hbm, ⟨21, _⟩ => ⟨S2x8192x4x512, .f32⟩
  | .hbm, ⟨22, _⟩ => ⟨S16384x8192, .f32⟩
  | .hbm, ⟨23, _⟩ => ⟨S2x8192x8192, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S2048, .f32⟩
  | .hbm, ⟨30, _⟩ => ⟨S1x1x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S16384x2048, .f32⟩
  | .hbm, ⟨35, _⟩ => ⟨S16384x2048, .bf16⟩
  | _, _ => ⟨S2x64x128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel5.lean ====
abbrev S2x8192x2048 : Shape := ⟨3, ![2, 8192, 2048]⟩
abbrev S8x6144 : Shape := ⟨2, ![8, 6144]⟩
abbrev S1x2048 : Shape := ⟨2, ![1, 2048]⟩
abbrev S2048x20480 : Shape := ⟨2, ![2048, 20480]⟩
abbrev S2048x128 : Shape := ⟨2, ![2048, 128]⟩
abbrev S1x4096 : Shape := ⟨2, ![1, 4096]⟩
abbrev S1x2x16x1024 : Shape := ⟨4, ![1, 2, 16, 1024]⟩
abbrev S1x2x1024 : Shape := ⟨3, ![1, 2, 1024]⟩
abbrev S_ : Shape := ⟨0, ![]⟩
abbrev S128x2048 : Shape := ⟨2, ![128, 2048]⟩
abbrev S1x1x16x1024 : Shape := ⟨4, ![1, 1, 16, 1024]⟩
abbrev S16x1024 : Shape := ⟨2, ![16, 1024]⟩
abbrev S1 : Shape := ⟨1, ![1]⟩
abbrev S2 : Shape := ⟨1, ![2]⟩
abbrev S2x1024 : Shape := ⟨2, ![2, 1024]⟩
abbrev S16384x2048 : Shape := ⟨2, ![16384, 2048]⟩
abbrev S8x3x2048 : Shape := ⟨3, ![8, 3, 2048]⟩
abbrev S2048 : Shape := ⟨1, ![2048]⟩
abbrev S16384x4096 : Shape := ⟨2, ![16384, 4096]⟩
abbrev S2x64x128x4096 : Shape := ⟨4, ![2, 64, 128, 4096]⟩
abbrev S2x64x128x2048 : Shape := ⟨4, ![2, 64, 128, 2048]⟩
abbrev S16384x8192 : Shape := ⟨2, ![16384, 8192]⟩
abbrev S1024x2048 : Shape := ⟨2, ![1024, 2048]⟩
abbrev S1x3x2048 : Shape := ⟨3, ![1, 3, 2048]⟩
abbrev S2048x1024 : Shape := ⟨2, ![2048, 1024]⟩
abbrev S1x1024 : Shape := ⟨2, ![1, 1024]⟩
abbrev S128x512 : Shape := ⟨2, ![128, 512]⟩
abbrev S1x512 : Shape := ⟨2, ![1, 512]⟩
abbrev S1024x1024 : Shape := ⟨2, ![1024, 1024]⟩
abbrev S1x64x16x1024 : Shape := ⟨4, ![1, 64, 16, 1024]⟩
abbrev S1x64x16x512 : Shape := ⟨4, ![1, 64, 16, 512]⟩
abbrev S1024x128 : Shape := ⟨2, ![1024, 128]⟩
abbrev S128 : Shape := ⟨1, ![128]⟩
abbrev S128x1 : Shape := ⟨2, ![128, 1]⟩
abbrev S1x1x2048 : Shape := ⟨3, ![1, 1, 2048]⟩
abbrev S128x128 : Shape := ⟨2, ![128, 128]⟩
abbrev S128x1024 : Shape := ⟨2, ![128, 1024]⟩
abbrev S1024x512 : Shape := ⟨2, ![1024, 512]⟩
abbrev S16x64x512 : Shape := ⟨3, ![16, 64, 512]⟩
abbrev S64x16x512 : Shape := ⟨3, ![64, 16, 512]⟩
abbrev S16x64x1024 : Shape := ⟨3, ![16, 64, 1024]⟩
abbrev S64x16x1024 : Shape := ⟨3, ![64, 16, 1024]⟩

abbrev nBuf : Space → Nat
  | .hbm => 38
  | .vmem => 25
  | .smem => 0
  | _ => 0

abbrev bufTy : (tb : Table) → Fin (tcTables nBuf tb) → BufTy
  | .hbm, ⟨0, _⟩ => ⟨S2x8192x2048, .f32⟩
  | .hbm, ⟨1, _⟩ => ⟨S8x6144, .f32⟩
  | .hbm, ⟨2, _⟩ => ⟨S1x2048, .f32⟩
  | .hbm, ⟨3, _⟩ => ⟨S2048x20480, .bf16⟩
  | .hbm, ⟨4, _⟩ => ⟨S2048x128, .bf16⟩
  | .hbm, ⟨5, _⟩ => ⟨S1x4096, .f32⟩
  | .hbm, ⟨6, _⟩ => ⟨S1x2x16x1024, .f32⟩
  | .hbm, ⟨7, _⟩ => ⟨S1x2x1024, .f32⟩
  | .hbm, ⟨8, _⟩ => ⟨S_, .f32⟩
  | .hbm, ⟨9, _⟩ => ⟨S128x2048, .f32⟩
  | .hbm, ⟨10, _⟩ => ⟨S1x1x16x1024, .f32⟩
  | .hbm, ⟨11, _⟩ => ⟨S16x1024, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S128x2048, .f32⟩
  | .hbm, ⟨18, _⟩ => ⟨S1x1x16x1024, .f32⟩
  | .hbm, ⟨19, _⟩ => ⟨S16x1024, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S128x2048, .f32⟩
  | .hbm, ⟨26, _⟩ => ⟨S128x2048, .bf16⟩
  | .hbm, ⟨27, _⟩ => ⟨S2x1024, .f32⟩
  | .hbm, ⟨28, _⟩ => ⟨S1x2048, .f32⟩
  | .hbm, ⟨29, _⟩ => ⟨S16384x2048, .f32⟩
  | .hbm, ⟨30, _⟩ => ⟨S8x3x2048, .f32⟩
  | .hbm, ⟨31, _⟩ => ⟨S2048, .f32⟩
  | .hbm, ⟨32, _⟩ => ⟨S1x2048, .f32⟩
  | .hbm, ⟨33, _⟩ => ⟨S16384x4096, .bf16⟩
  | .hbm, ⟨34, _⟩ => ⟨S16384x4096, .f32⟩
  | .hbm, ⟨35, _⟩ => ⟨S2x64x128x4096, .bf16⟩
  | .hbm, ⟨36, _⟩ => ⟨S2x64x128x2048, .f32⟩
  | .hbm, ⟨37, _⟩ => ⟨S16384x8192, .bf16⟩
  | .local _ .vmem, ⟨0, _⟩ => ⟨S1024x2048, .f32⟩
  | .local _ .vmem, ⟨1, _⟩ => ⟨S1x3x2048, .f32⟩
  | .local _ .vmem, ⟨2, _⟩ => ⟨S1x3x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S1x1024, .f32⟩
  | .local _ .vmem, ⟨8, _⟩ => ⟨S1x1024, .f32⟩
  | .local _ .vmem, ⟨9, _⟩ => ⟨S128x512, .bf16⟩
  | .local _ .vmem, ⟨10, _⟩ => ⟨S128x512, .bf16⟩
  | .local _ .vmem, ⟨11, _⟩ => ⟨S1x512, .f32⟩
  | .local _ .vmem, ⟨12, _⟩ => ⟨S1x512, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1x64x16x1024, .bf16⟩
  | .local _ .vmem, ⟨18, _⟩ => ⟨S1x64x16x1024, .bf16⟩
  | .local _ .vmem, ⟨19, _⟩ => ⟨S1x64x16x512, .f32⟩
  | .local _ .vmem, ⟨20, _⟩ => ⟨S1x64x16x512, .f32⟩
  | .local _ .vmem, ⟨21, _⟩ => ⟨S1024x1024, .bf16⟩
  | .local _ .vmem, ⟨22, _⟩ => ⟨S1024x1024, .bf16⟩
  | .local _ .vmem, ⟨23, _⟩ => ⟨S1024x2048, .bf16⟩
  | .local _ .vmem, ⟨24, _⟩ => ⟨S1024x128, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![16, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let c8_i32 : BitVec 32 := 8#32
  let v9 : BitVec 1 := Scalar.cmpi .slt arg1 c8_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c8_i32_5 : BitVec 32 := 8#32
  let v13 : BitVec 1 := Scalar.cmpi .sge arg1 c8_i32_5
  let c12_i32 : BitVec 32 := 12#32
  let v14 : BitVec 1 := Scalar.cmpi .slt arg1 c12_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c12_i32_7 : BitVec 32 := 12#32
  let v18 : BitVec 1 := Scalar.cmpi .sge arg1 c12_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_10 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32_10 : BitVec 32 := 8#32
  let v27 : BitVec 32 := Scalar.subi arg1 c8_i32_10
  let c0_i32_11 : BitVec 32 := 0#32
  let c3_i32 : BitVec 32 := 3#32
  let v28 : BitVec 32 := Scalar.maxsi c0_i32_11 v27
  let v29 : BitVec 32 := Scalar.minsi c3_i32 v28
  let c0_i32_12 : BitVec 32 := 0#32
  let c0_i32_13 : BitVec 32 := 0#32
  ![v16.toNat, c0_i32_12.toNat, v26.toNat, v29.toNat]

def cc0_transform_11 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32_10 : BitVec 32 := 8#32
  let v27 : BitVec 32 := Scalar.subi arg1 c8_i32_10
  let c0_i32_11 : BitVec 32 := 0#32
  let c3_i32 : BitVec 32 := 3#32
  let v28 : BitVec 32 := Scalar.maxsi c0_i32_11 v27
  let v29 : BitVec 32 := Scalar.minsi c3_i32 v28
  let c0_i32_12 : BitVec 32 := 0#32
  let c0_i32_13 : BitVec 32 := 0#32
  ![v16.toNat, c0_i32_12.toNat, v26.toNat, v29.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S2x8192x2048 : Shape := ⟨3, ![2, 8192, 2048]⟩
abbrev S8x6144 : Shape := ⟨2, ![8, 6144]⟩
abbrev S1x2048 : Shape := ⟨2, ![1, 2048]⟩
abbrev S2048x20480 : Shape := ⟨2, ![2048, 20480]⟩
abbrev S2048x128 : Shape := ⟨2, ![2048, 128]⟩
abbrev S1x4096 : Shape := ⟨2, ![1, 4096]⟩
abbrev S1x2x16x1024 : Shape := ⟨4, ![1, 2, 16, 1024]⟩
abbrev S1x2x1024 : Shape := ⟨3, ![1, 2, 1024]⟩
abbrev S2x6144 : Shape := ⟨2, ![2, 6144]⟩
abbrev S2x2048 : Shape := ⟨2, ![2, 2048]⟩
abbrev S_ : Shape := ⟨0, ![]⟩
abbrev S2x8192 : Shape := ⟨2, ![2, 8192]⟩
abbrev S2x8192x1 : Shape := ⟨3, ![2, 8192, 1]⟩
abbrev S2048 : Shape := ⟨1, ![2048]⟩
abbrev S1x1x2048 : Shape := ⟨3, ![1, 1, 2048]⟩
abbrev S2x1x2048 : Shape := ⟨3, ![2, 1, 2048]⟩
abbrev S2x8192x20480 : Shape := ⟨3, ![2, 8192, 20480]⟩
abbrev S2x8192x4096 : Shape := ⟨3, ![2, 8192, 4096]⟩
abbrev S2x8192x1024 : Shape := ⟨3, ![2, 8192, 1024]⟩
abbrev S2x8192x3072 : Shape := ⟨3, ![2, 8192, 3072]⟩
abbrev S2x8192x128 : Shape := ⟨3, ![2, 8192, 128]⟩
abbrev S2x8192x16 : Shape := ⟨3, ![2, 8192, 16]⟩
abbrev S4096 : Shape := ⟨1, ![4096]⟩
abbrev S1x1x4096 : Shape := ⟨3, ![1, 1, 4096]⟩
abbrev S1x1x16x1024 : Shape := ⟨4, ![1, 1, 16, 1024]⟩
abbrev S16x1024 : Shape := ⟨2, ![16, 1024]⟩
abbrev S1x1x1024 : Shape := ⟨3, ![1, 1, 1024]⟩
abbrev S1024 : Shape := ⟨1, ![1024]⟩
abbrev S16384x4096 : Shape := ⟨2, ![16384, 4096]⟩
abbrev S2x128x64x4096 : Shape := ⟨4, ![2, 128, 64, 4096]⟩
abbrev S2x64x128x4096 : Shape := ⟨4, ![2, 64, 128, 4096]⟩
abbrev S2x128x64x2048 : Shape := ⟨4, ![2, 128, 64, 2048]⟩
abbrev S2x64x128x2048 : Shape := ⟨4, ![2, 64, 128, 2048]⟩
abbrev S2x8192x8192 : Shape := ⟨3, ![2, 8192, 8192]⟩
abbrev S16384x8192 : Shape := ⟨2, ![16384, 8192]⟩

abbrev nBuf : Space → Nat
  | .hbm => 163
  | .vmem => 0
  | .smem => 0
  | _ => 0

abbrev hbmTy0_0 (i : Nat) : BufTy := match i % 128 with
  | 0 => ⟨S2x8192x2048, .f32⟩
  | 1 => ⟨S8x6144, .f32⟩
  | 2 => ⟨S1x2048, .f32⟩
  | 3 => ⟨S2048x20480, .bf16⟩
  | 4 => ⟨S2048x128, .bf16⟩
  | 5 => ⟨S1x4096, .f32⟩
  | 6 => ⟨S1x2x16x1024, .f32⟩
  | 7 => ⟨S1x2x1024, .f32⟩
  | 8 => ⟨S2x6144, .f32⟩
  | 9 => ⟨S2x2048, .f32⟩
  | 10 => ⟨S2x2048, .f32⟩
  | 11 => ⟨S2x2048, .f32⟩
  | 12 => ⟨S2x8192x2048, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x2048, .f32⟩
  | 24 => ⟨S2x8192x2048, .f32⟩
  | 25 => ⟨S2048, .f32⟩
  | 26 => ⟨S1x1x2048, .f32⟩
  | 27 => ⟨S2x8192x2048, .f32⟩
  | 28 => ⟨S2x8192x2048, .f32⟩
  | 29 => ⟨S2x1x2048, .f32⟩
  | 30 => ⟨S_, .f32⟩
  | 31 => ⟨S2x1x2048, .f32⟩
  | 32 => ⟨S2x1x2048, .f32⟩
  | 33 => ⟨S2x8192x2048, .f32⟩
  | 34 => ⟨S2x8192x2048, .f32⟩
  | 35 => ⟨S2x1x2048, .f32⟩
  | 36 => ⟨S2x8192x2048, .f32⟩
  | 37 => ⟨S2x8192x2048, .f32⟩
  | 38 => ⟨S2048x20480, .f32⟩
  | 39 => ⟨S2x8192x20480, .f32⟩
  | 40 => ⟨S2x8192x4096, .f32⟩
  | 41 => ⟨S2x8192x4096, .f32⟩
  | 42 => ⟨S2x8192x1024, .f32⟩
  | 43 => ⟨S2x8192x3072, .f32⟩
  | 44 => ⟨S2x8192x4096, .f32⟩
  | 45 => ⟨S2x8192x4096, .f32⟩
  | 46 => ⟨S2048x128, .f32⟩
  | 47 => ⟨S2x8192x128, .f32⟩
  | 48 => ⟨S2x8192x16, .f32⟩
  | 49 => ⟨S2x8192x16, .f32⟩
  | 50 => ⟨S4096, .f32⟩
  | 51 => ⟨S4096, .f32⟩
  | 52 => ⟨S_, .f32⟩
  | 53 => ⟨S4096, .f32⟩
  | 54 => ⟨S4096, .f32⟩
  | 55 => ⟨S2x8192x4096, .f32⟩
  | 56 => ⟨S2x8192x4096, .f32⟩
  | 57 => ⟨S_, .f32⟩
  | 58 => ⟨S2x8192x4096, .f32⟩
  | 59 => ⟨S2x8192x4096, .f32⟩
  | 60 => ⟨S_, .f32⟩
  | 61 => ⟨S2x8192x4096, .f32⟩
  | 62 => ⟨S2x8192x4096, .f32⟩
  | 63 => ⟨S1x1x4096, .f32⟩
  | 64 => ⟨S2x8192x4096, .f32⟩
  | 65 => ⟨S2x8192x4096, .f32⟩
  | 66 => ⟨S1x1x4096, .f32⟩
  | 67 => ⟨S2x8192x4096, .f32⟩
  | 68 => ⟨S2x8192x4096, .f32⟩
  | 69 => ⟨S1x1x16x1024, .f32⟩
  | 70 => ⟨S16x1024, .f32⟩
  | 71 => ⟨S2x8192x1024, .f32⟩
  | 72 => ⟨S1x1x1024, .f32⟩
  | 73 => ⟨S1024, .f32⟩
  | 74 => ⟨S1x1x1024, .f32⟩
  | 75 => ⟨S2x8192x1024, .f32⟩
  | 76 => ⟨S2x8192x1024, .f32⟩
  | 77 => ⟨S2x8192x1024, .f32⟩
  | 78 => ⟨S_, .f32⟩
  | 79 => ⟨S2x8192x1024, .f32⟩
  | 80 => ⟨S2x8192x1024, .f32⟩
  | 81 => ⟨S2x8192x1024, .f32⟩
  | 82 => ⟨S2x8192x1024, .f32⟩
  | 83 => ⟨S2x8192x1024, .i1⟩
  | 84 => ⟨S2x8192x1024, .f32⟩
  | 85 => ⟨S2x8192x1024, .f32⟩
  | 86 => ⟨S2x8192x1024, .f32⟩
  | 87 => ⟨S2x8192x1024, .f32⟩
  | 88 => ⟨S2x8192x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S_, .f32⟩
  | 94 => ⟨S2x8192x1024, .f32⟩
  | 95 => ⟨S2x8192x1024, .f32⟩
  | 96 => ⟨S1x1x16x1024, .f32⟩
  | 97 => ⟨S16x1024, .f32⟩
  | 98 => ⟨S2x8192x1024, .f32⟩
  | 99 => ⟨S1x1x1024, .f32⟩
  | 100 => ⟨S1024, .f32⟩
  | 101 => ⟨S1x1x1024, .f32⟩
  | 102 => ⟨S2x8192x1024, .f32⟩
  | 103 => ⟨S2x8192x1024, .f32⟩
  | 104 => ⟨S2x8192x1024, .f32⟩
  | 105 => ⟨S_, .f32⟩
  | 106 => ⟨S2x8192x1024, .f32⟩
  | 107 => ⟨S2x8192x1024, .f32⟩
  | 108 => ⟨S2x8192x1024, .f32⟩
  | 109 => ⟨S2x8192x1024, .f32⟩
  | 110 => ⟨S2x8192x1024, .i1⟩
  | 111 => ⟨S2x8192x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S2x8192x1024, .f32⟩
  | 117 => ⟨S2x8192x1024, .f32⟩
  | 118 => ⟨S2x8192x1024, .f32⟩
  | 119 => ⟨S2x8192x1024, .f32⟩
  | 120 => ⟨S_, .f32⟩
  | 121 => ⟨S2x8192x1024, .f32⟩
  | 122 => ⟨S2x8192x1024, .f32⟩
  | 123 => ⟨S16384x4096, .f32⟩
  | 124 => ⟨S16384x4096, .bf16⟩
  | 125 => ⟨S2x8192x4096, .f32⟩
  | 126 => ⟨S_, .f32⟩
  | 127 => ⟨S2x8192x4096, .f32⟩
  | _ => ⟨S2x8192x2048, .f32⟩

abbrev hbmTy0_1 (i : Nat) : BufTy := match i % 128 with
  | 0 => ⟨S2x8192x4096, .f32⟩
  | 1 => ⟨S16384x4096, .f32⟩
  | 2 => ⟨S_, .f32⟩
  | 3 => ⟨S2x8192x1024, .f32⟩
  | 4 => ⟨S2x8192x1024, .f32⟩
  | 5 => ⟨S2x8192x4096, .f32⟩
  | 6 => ⟨S2x128x64x4096, .f32⟩
  | 7 => ⟨S2x64x128x4096, .f32⟩
  | 8 => ⟨S2x64x128x4096, .bf16⟩
  | 9 => ⟨S2x8192x2048, .f32⟩
  | 10 => ⟨S_, .f32⟩
  | 11 => ⟨S2x8192x2048, .f32⟩
  | 12 => ⟨S2x8192x2048, .f32⟩
  | 13 => ⟨S2x128x64x2048, .f32⟩
  | 14 => ⟨S2x64x128x2048, .f32⟩
  | 15 => ⟨S2x8192x4096, .f32⟩
  | 16 => ⟨S2x8192x4096, .f32⟩
  | 17 => ⟨S_, .f32⟩
  | 18 => ⟨S2x8192x4096, .f32⟩
  | 19 => ⟨S2x8192x4096, .f32⟩
  | 20 => ⟨S_, .f32⟩
  | 21 => ⟨S2x8192x4096, .f32⟩
  | 22 => ⟨S2x8192x4096, .f32⟩
  | 23 => ⟨S2x8192x4096, .f32⟩
  | 24 => ⟨S2x8192x4096, .f32⟩
  | 25 => ⟨S2x8192x4096, .f32⟩
  | 26 => ⟨S_, .f32⟩
  | 27 => ⟨S2x8192x4096, .f32⟩
  | 28 => ⟨S2x8192x4096, .f32⟩
  | 29 => ⟨S_, .f32⟩
  | 30 => ⟨S2x8192x4096, .f32⟩
  | 31 => ⟨S2x8192x4096, .f32⟩
  | 32 => ⟨S2x8192x8192, .f32⟩
  | 33 => ⟨S16384x8192, .f32⟩
  | 34 => ⟨S16384x8192, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call0_v0 : Ref sig .tc := ⟨.hbm, 77, rfl⟩
abbrev main_call0_call0_cst : Ref sig .tc := ⟨.hbm, 78, rfl⟩
abbrev main_call0_call0_v0 : Ref sig .tc := ⟨.hbm, 79, rfl⟩
abbrev main_call0_call0_v1 : Ref sig .tc := ⟨.hbm, 80, rfl⟩
abbrev main_call0_call0_v2 : Ref sig .tc := ⟨.hbm, 81, rfl⟩
abbrev main_call0_call0_v3 : Ref sig .tc := ⟨.hbm, 82, rfl⟩
abbrev main_call0_call0_v4 : Ref sig .tc := ⟨.hbm, 83, rfl⟩
abbrev main_call0_call0_v5 : Ref sig .tc := ⟨.hbm, 84, rfl⟩
abbrev main_call0_call0_v6 : Ref sig .tc := ⟨.hbm, 85, rfl⟩
abbrev main_call0_call0_v7 : Ref sig .tc := ⟨.hbm, 86, rfl⟩
abbrev main_call0_call0_v8 : Ref sig .tc := ⟨.hbm, 87, rfl⟩
abbrev main_call0_call0_v9 : Ref sig .tc := ⟨.hbm, 88, rfl⟩
abbrev main_call0_call0_v10 : Ref sig .tc := ⟨.hbm, 89, rfl⟩
abbrev main_call0_call0_v11 : Ref sig .tc := ⟨.hbm, 90, rfl⟩
abbrev main_call0_v1 : Ref sig .tc := ⟨.hbm, 91, rfl⟩
abbrev main_v62 : Ref sig .tc := ⟨.hbm, 92, rfl⟩
abbrev main_cst_6 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call1_v0 : Ref sig .tc := ⟨.hbm, 104, rfl⟩
abbrev main_call1_call0_cst : Ref sig .tc := ⟨.hbm, 105, rfl⟩
abbrev main_call1_call0_v0 : Ref sig .tc := ⟨.hbm, 106, rfl⟩
abbrev main_call1_call0_v1 : Ref sig .tc := ⟨.hbm, 107, rfl⟩
abbrev main_call1_call0_v2 : Ref sig .tc := ⟨.hbm, 108, rfl⟩
abbrev main_call1_call0_v3 : Ref sig .tc := ⟨.hbm, 109, rfl⟩
abbrev main_call1_call0_v4 : Ref sig .tc := ⟨.hbm, 110, rfl⟩
abbrev main_call1_call0_v5 : Ref sig .tc := ⟨.hbm, 111, rfl⟩
abbrev main_call1_call0_v6 : Ref sig .tc := ⟨.hbm, 112, rfl⟩
abbrev main_call1_call0_v7 : Ref sig .tc := ⟨.hbm, 113, rfl⟩
abbrev main_call1_call0_v8 : Ref sig .tc := ⟨.hbm, 114, rfl⟩
abbrev main_call1_call0_v9 : Ref sig .tc := ⟨.hbm, 115, rfl⟩
abbrev main_call1_call0_v10 : Ref sig .tc := ⟨.hbm, 116, rfl⟩
abbrev main_call1_call0_v11 : Ref sig .tc := ⟨.hbm, 117, rfl⟩
abbrev main_call1_v1 : Ref sig .tc := ⟨.hbm, 118, rfl⟩
abbrev main_v73 : Ref sig .tc := ⟨.hbm, 119, rfl⟩
abbrev main_cst_7 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_8 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_9 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_10 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_call2_v0 : Ref sig .tc := ⟨.hbm, 143, rfl⟩
abbrev main_call2_v1 : Ref sig .tc := ⟨.hbm, 144, rfl⟩
abbrev main_call2_cst : Ref sig .tc := ⟨.hbm, 145, rfl⟩
abbrev main_call2_v2 : Ref sig .tc := ⟨.hbm, 146, rfl⟩
abbrev main_call2_v3 : Ref sig .tc := ⟨.hbm, 147, rfl⟩
abbrev main_call2_cst_0 : Ref sig .tc := ⟨.hbm, 148, rfl⟩
abbrev main_call2_v4 : Ref sig .tc := ⟨.hbm, 149, rfl⟩
abbrev main_call2_v5 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_11 : Ref sig .tc := ⟨.hbm, 154, rfl⟩
abbrev main_v96 : Ref sig .tc := ⟨.hbm, 155, rfl⟩
abbrev main_v97 : Ref sig .tc := ⟨.hbm, 156, rfl⟩
abbrev main_cst_12 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩

abbrev nD : Nat := 1
abbrev τ : Topo := Topo.v7x

variable {F : FTy → Type} [FloatOps F]
-- ==== Kernel6.lean ====
abbrev S2x2048 : Shape := ⟨2, ![2, 2048]⟩
abbrev S2048 : Shape := ⟨1, ![2048]⟩
abbrev S1x2048x6144 : Shape := ⟨3, ![1, 2048, 6144]⟩
abbrev S1x6144 : Shape := ⟨2, ![1, 6144]⟩
abbrev S_ : Shape := ⟨0, ![]⟩
abbrev S8x2048 : Shape := ⟨2, ![8, 2048]⟩
abbrev S1 : Shape := ⟨1, ![1]⟩
abbrev S2048x6144 : Shape := ⟨2, ![2048, 6144]⟩
abbrev S6144 : Shape := ⟨1, ![6144]⟩
abbrev S8x6144 : Shape := ⟨2, ![8, 6144]⟩
abbrev S2048x768 : Shape := ⟨2, ![2048, 768]⟩
abbrev S1x768 : Shape := ⟨2, ![1, 768]⟩
abbrev S8x768 : Shape := ⟨2, ![8, 768]⟩

abbrev nBuf : Space → Nat
  | .hbm => 16
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S1x2048x6144, .f32⟩
  | .hbm, ⟨3, _⟩ => ⟨S1x6144, .f32⟩
  | .hbm, ⟨4, _⟩ => ⟨S_, .f32⟩
  | .hbm, ⟨5, _⟩ => ⟨S8x2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S_, .i32⟩
  | .hbm, ⟨10, _⟩ => ⟨S1, .i32⟩
  | .hbm, ⟨11, _⟩ => ⟨S8x2048, .f32⟩
  | .hbm, ⟨12, _⟩ => ⟨S2048x6144, .f32⟩
  | .hbm, ⟨13, _⟩ => ⟨S6144, .f32⟩
  | .hbm, ⟨14, _⟩ => ⟨S1x6144, .f32⟩
  | .hbm, ⟨15, _⟩ => ⟨S8x6144, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x2048 : Shape := ⟨2, ![2, 2048]⟩
abbrev S2048 : Shape := ⟨1, ![2048]⟩
abbrev S1x2048x6144 : Shape := ⟨3, ![1, 2048, 6144]⟩
abbrev S1x6144 : Shape := ⟨2, ![1, 6144]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S2048x6144 : Shape := ⟨2, ![2048, 6144]⟩
abbrev S8x6144 : Shape := ⟨2, ![8, 6144]⟩
abbrev S6144 : Shape := ⟨1, ![6144]⟩

abbrev nBuf : Space → Nat
  | .hbm => 23
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S1x2048x6144, .f32⟩
  | .hbm, ⟨3, _⟩ => ⟨S1x6144, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S2048x6144, .f32⟩
  | .hbm, ⟨18, _⟩ => ⟨S8x6144, .f32⟩
  | .hbm, ⟨19, _⟩ => ⟨S6144, .f32⟩
  | .hbm, ⟨20, _⟩ => ⟨S1x6144, .f32⟩
  | .hbm, ⟨21, _⟩ => ⟨S8x6144, .f32⟩
  | .hbm, ⟨22, _⟩ => ⟨S8x6144, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel7.lean ====
abbrev S2x4096 : Shape := ⟨2, ![2, 4096]⟩
abbrev S1x4096 : Shape := ⟨2, ![1, 4096]⟩
abbrev S4096 : Shape := ⟨1, ![4096]⟩

abbrev nBuf : Space → Nat
  | .hbm => 2
  | .vmem => 2
  | .smem => 0
  | _ => 0

abbrev bufTy : (tb : Table) → Fin (tcTables nBuf tb) → BufTy
  | .hbm, ⟨0, _⟩ => ⟨S2x4096, .f32⟩
  | .hbm, ⟨1, _⟩ => ⟨S1x4096, .f32⟩
  | .local _ .vmem, ⟨0, _⟩ => ⟨S2x4096, .f32⟩
  | .local _ .vmem, ⟨1, _⟩ => ⟨S1x4096, .f32⟩
  | _, _ => ⟨S2x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference7Ideal.lean ====
abbrev S2x4096 : Shape := ⟨2, ![2, 4096]⟩
abbrev S_ : Shape := ⟨0, ![]⟩
abbrev S4096 : Shape := ⟨1, ![4096]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S_, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S2x4096, .f32⟩
  | .hbm, ⟨14, _⟩ => ⟨S2x4096, .f32⟩
  | .hbm, ⟨15, _⟩ => ⟨S_, .f32⟩
  | .hbm, ⟨16, _⟩ => ⟨S_, .f32⟩
  | .hbm, ⟨17, _⟩ => ⟨S2x4096, .f32⟩
  | .hbm, ⟨18, _⟩ => ⟨S1x4096, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Offsets.lean ====
/-
  The rectangles the scan's latent loop reads and writes, in closed form of the trip: chunk `c` of a step's 32 chunks is
  the half `c % 2` of column `c / 2` of a block, and the backward direction counts its chunks from the end.
-/
module

public import proofs.«01_k».proof.Proof.Gen.KernelIdeal.Loops
public import proofs.«01_k».proof.Proof.Gen.KernelIdeal.Frame

@[expose] public section

set_option maxRecDepth 16384

noncomputable section

namespace Cert.Scan

open Cert.KernelIdeal Cert.KernelIdeal.Gen
open Idealize.ShloMosaic

/-- The chunk whose decays trip `k` sums ahead: two on, the last one staying put. -/
abbrev ahead (k : ℕ) : ℕ := k + 2 - (k + 2) / 32

theorem off7_eq : ∀ k : Fin k0_t2_loop.trips, k0_off7 k = ![0, k.val / 2, 64 * (k.val % 2), 0] := by decide +kernel
instance closedOff7 (k : Fin k0_t2_loop.trips) : ClosedOff (k0_off7 k) := ⟨_, off7_eq k⟩
theorem off8_eq : ∀ k : Fin k0_t2_loop.trips, k0_off8 k = ![0, (31 - k.val) / 2, 64 * ((31 - k.val) % 2), 0] := by decide +kernel
instance closedOff8 (k : Fin k0_t2_loop.trips) : ClosedOff (k0_off8 k) := ⟨_, off8_eq k⟩
theorem off9_eq : ∀ k : Fin k0_t2_loop.trips, k0_off9 k = ![0, (k.val + 2 - (k.val + 2) / 32) / 2, 64 * ((k.val + 2 - (k.val + 2) / 32) % 2), 0] := by decide +kernel
instance closedOff9 (k : Fin k0_t2_loop.trips) : ClosedOff (k0_off9 k) := ⟨_, off9_eq k⟩
theorem off11_eq : ∀ k : Fin k0_t2_loop.trips, k0_off11 k = ![0, (31 - (k.val + 2 - (k.val + 2) / 32)) / 2, 64 * ((31 - (k.val + 2 - (k.val + 2) / 32)) % 2), 0] := by decide +kernel
instance closedOff11 (k : Fin k0_t2_loop.trips) : ClosedOff (k0_off11 k) := ⟨_, off11_eq k⟩
theorem off13_eq : ∀ k : Fin k0_t2_loop.trips, k0_off13 k = ![0, (k.val + 1) / 2, 64 * ((k.val + 1) % 2), 0] := by decide +kernel
instance closedOff13 (k : Fin k0_t2_loop.trips) : ClosedOff (k0_off13 k) := ⟨_, off13_eq k⟩
theorem off14_eq : ∀ k : Fin k0_t2_loop.trips, k0_off14 k = ![0, (k.val + 1) / 2, 64 * ((k.val + 1) % 2), 0] := by decide +kernel
instance closedOff14 (k : Fin k0_t2_loop.trips) : ClosedOff (k0_off14 k) := ⟨_, off14_eq k⟩
theorem off15_eq : ∀ k : Fin k0_t2_loop.trips, k0_off15 k = ![0, (30 - k.val) / 2, 64 * ((30 - k.val) % 2), 0] := by decide +kernel
instance closedOff15 (k : Fin k0_t2_loop.trips) : ClosedOff (k0_off15 k) := ⟨_, off15_eq k⟩
theorem off16_eq : ∀ k : Fin k0_t2_loop.trips, k0_off16 k = ![0, (30 - k.val) / 2, 64 * ((30 - k.val) % 2), 0] := by decide +kernel
instance closedOff16 (k : Fin k0_t2_loop.trips) : ClosedOff (k0_off16 k) := ⟨_, off16_eq k⟩
theorem off19_eq : ∀ k : Fin k0_t2_loop.trips, k0_off19 k = ![0, k.val / 2, 64 * (k.val % 2), 0] := by decide +kernel
instance closedOff19 (k : Fin k0_t2_loop.trips) : ClosedOff (k0_off19 k) := ⟨_, off19_eq k⟩
theorem off20_eq : ∀ k : Fin k0_t2_loop.trips, k0_off20 k = ![0, (31 - k.val) / 2, 64 * ((31 - k.val) % 2), 0] := by decide +kernel
instance closedOff20 (k : Fin k0_t2_loop.trips) : ClosedOff (k0_off20 k) := ⟨_, off20_eq k⟩
theorem off21_eq : ∀ k : Fin k0_t2_loop.trips, k0_off21 k = ![0, (k.val + 2 - (k.val + 2) / 32) / 2, 64 * ((k.val + 2 - (k.val + 2) / 32) % 2), 0] := by decide +kernel
instance closedOff21 (k : Fin k0_t2_loop.trips) : ClosedOff (k0_off21 k) := ⟨_, off21_eq k⟩
theorem off23_eq : ∀ k : Fin k0_t2_loop.trips, k0_off23 k = ![0, (31 - (k.val + 2 - (k.val + 2) / 32)) / 2, 64 * ((31 - (k.val + 2 - (k.val + 2) / 32)) % 2), 0] := by decide +kernel
instance closedOff23 (k : Fin k0_t2_loop.trips) : ClosedOff (k0_off23 k) := ⟨_, off23_eq k⟩
theorem off25_eq : ∀ k : Fin k0_t2_loop.trips, k0_off25 k = ![0, (k.val + 1) / 2, 64 * ((k.val + 1) % 2), 0] := by decide +kernel
instance closedOff25 (k : Fin k0_t2_loop.trips) : ClosedOff (k0_off25 k) := ⟨_, off25_eq k⟩
theorem off26_eq : ∀ k : Fin k0_t2_loop.trips, k0_off26 k = ![0, (k.val + 1) / 2, 64 * ((k.val + 1) % 2), 0] := by decide +kernel
instance closedOff26 (k : Fin k0_t2_loop.trips) : ClosedOff (k0_off26 k) := ⟨_, off26_eq k⟩
theorem off27_eq : ∀ k : Fin k0_t2_loop.trips, k0_off27 k = ![0, (30 - k.val) / 2, 64 * ((30 - k.val) % 2), 0] := by decide +kernel
instance closedOff27 (k : Fin k0_t2_loop.trips) : ClosedOff (k0_off27 k) := ⟨_, off27_eq k⟩
theorem off28_eq : ∀ k : Fin k0_t2_loop.trips, k0_off28 k = ![0, (30 - k.val) / 2, 64 * ((30 - k.val) % 2), 0] := by decide +kernel
instance closedOff28 (k : Fin k0_t2_loop.trips) : ClosedOff (k0_off28 k) := ⟨_, off28_eq k⟩

end Cert.Scan

end
-- ==== Proof.Trips.lean ====
/-
  The latent loop of a scan step: one trip, run once for each of the two ways the scores are taken, and the loop's
  state by recursion over the trips.
-/
module

public import proofs.«01_k».proof.Proof.Offsets

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop carries: the next chunk's decay bound, and for each direction the scores and the decayed queries. -/
abbrev Acc (F : FTy → Type) : Type := F .f32 × FVec F S64x64 .bf16 × FVec F S64x256 .bf16 × FVec F S64x64 .bf16 × FVec F S64x256 .bf16

/-- Whether a chunk's decays are small enough for the folded scores: its bound is at most 96. -/
abbrev fold (w : F .f32) : BitVec 1 := Scalar.cmpi .ne (Scalar.extui (Scalar.cmpf .ole w (Scalar.ofBits .f32 0x42C00000#32)) : BitVec 32) 0#32

variable (c : Dev nD) (i : grid0.Coords)
  (arg3 : Memref sig .tc .vmem S1x256x256 .bf16) (harg3 : arg3.IsWhole)
  (arg4 : Memref sig .tc .vmem S1x256x512 .bf16) (harg4 : arg4.IsWhole)
  (arg5 : Memref sig .tc .vmem S1x256x256 .f32) (harg5 : arg5.IsWhole)
  (arg6 : Memref sig .tc .vmem S1x256x256 .f32) (harg6 : arg6.IsWhole)
  (arg7 : Memref sig .tc .vmem S1x16x128x256 .bf16) (harg7 : arg7.IsWhole)
  (arg8 : Memref sig .tc .vmem S1x16x128x256 .bf16) (harg8 : arg8.IsWhole)
  (arg9 : Memref sig .tc .vmem S1x16x128x512 .bf16) (harg9 : arg9.IsWhole)
  (arg10 : Memref sig .tc .vmem S1x16x128x256 .f32) (harg10 : arg10.IsWhole)
  (arg11 : Memref sig .tc .vmem S1x16x128x256 .bf16) (harg11 : arg11.IsWhole)
  (arg12 : Memref sig .tc .vmem S1x16x128x256 .bf16) (harg12 : arg12.IsWhole)
  (arg13 : Memref sig .tc .vmem S1x16x128x512 .bf16) (harg13 : arg13.IsWhole)
  (arg14 : Memref sig .tc .vmem S1x16x128x256 .f32) (harg14 : arg14.IsWhole)
  (arg15 : Memref sig .tc .vmem S1x16x128x512 .bf16) (harg15 : arg15.IsWhole)
  (arg16 : Memref sig .tc .vmem S1x16x128x512 .bf16) (harg16 : arg16.IsWhole)
  (arg17 : Memref sig .tc .vmem S2x1x512x256 .f32) (harg17 : arg17.IsWhole)
  (arg18 : Memref sig .tc .vmem S2x2x64x256 .f32) (harg18 : arg18.IsWhole)
  (arg19 : Memref sig .tc .vmem S2x512x256 .bf16) (harg19 : arg19.IsWhole)

/-- The buffers one trip touches. -/
abbrev Trip (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) : sProp 𝕄 :=
  iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19))

/-- One trip of the latent loop, the folded scores: the pieces it stores into the two result blocks, the state, the running sums
    and the rounded state, and the tuple it yields, as functions of what it finds. -/
@[irreducible] def tripT (v2 v3 : IVec S64x64 1) (v8 v13 : FVec F S64x64 .bf16) (v14 : IVec S8x64 32) (h2 : k0_cond2 i = 1#1) (v69 : F .f32) (v71 v73 : FVec F S64x256 .f32) (v92 : FVec F S1x256 .f32)
    (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (k : Fin k0_t2_loop.trips)
    (f17 : BufTy.Contents (Elt F) arg17.view.ty) (f18 : BufTy.Contents (Elt F) arg18.view.ty) (f19 : BufTy.Contents (Elt F) arg19.view.ty)
    (w : F .f32) (p0 : FVec F S64x64 .bf16) (q0 : FVec F S64x256 .bf16) (p1 : FVec F S64x64 .bf16) (q1 : FVec F S64x256 .bf16)
    (hw : fold w = 1#1) :
    Σ' (L15 : List (View.Piece (Elt F) S1x16x128x512 .bf16)) (L16 : List (View.Piece (Elt F) S1x16x128x512 .bf16)) (L17 : List (View.Piece (Elt F) S2x1x512x256 .f32)) (L18 : List (View.Piece (Elt F) S2x2x64x256 .f32)) (L19 : List (View.Piece (Elt F) S2x512x256 .bf16)), { y : Acc F // ∀ (E : Set ℕ) (f15 : BufTy.Contents (Elt F) arg15.view.ty) (f16 : BufTy.Contents (Elt F) arg16.view.ty),
      Trip c arg7 arg8 arg9 arg10 arg11 arg12 arg13 arg14 arg15 arg16 arg17 arg18 arg19 X7 X8 X9 X10 X11 X12 X13 X14 f15 f16 f17 f18 f19
      ⊢ wp frame (wpE (defs₀ (F := F)) Variants.none (c : Thread nD τ) none) E (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 k (w, p0, q0, p1, q1))
          (fun a => iprop(⌜a = y⌝ ∗ Trip c arg7 arg8 arg9 arg10 arg11 arg12 arg13 arg14 arg15 arg16 arg17 arg18 arg19 X7 X8 X9 X10 X11 X12 X13 X14 (arg15.view.writes (Elt F) f15 L15) (arg16.view.writes (Elt F) f16 L16) (arg17.view.writes (Elt F) f17 L17) (arg18.view.writes (Elt F) f18 L18) (arg19.view.writes (Elt F) f19 L19))) } := by
  have hk : k.val < 31 := Nat.lt_of_lt_of_le k.isLt k0_t2_abs.2.1
  refine ⟨?_, ?_, ?_, ?_, ?_, ?_, fun E f15 f16 => ?run⟩
  case run =>
    unfold k0_t2_body
    iintro ⟨H7, H8, H9, H10, H11, H12, H13, H14, H15, H16, H17, H18, H19⟩
    sl_exec_parts
    sl_step
    sl_close

/-- One trip of the latent loop, the exact scores: the pieces it stores into the two result blocks, the state, the running sums
    and the rounded state, and the tuple it yields, as functions of what it finds. -/
@[irreducible] def tripE (v2 v3 : IVec S64x64 1) (v8 v13 : FVec F S64x64 .bf16) (v14 : IVec S8x64 32) (h2 : k0_cond2 i = 1#1) (v69 : F .f32) (v71 v73 : FVec F S64x256 .f32) (v92 : FVec F S1x256 .f32)
    (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (k : Fin k0_t2_loop.trips)
    (f17 : BufTy.Contents (Elt F) arg17.view.ty) (f18 : BufTy.Contents (Elt F) arg18.view.ty) (f19 : BufTy.Contents (Elt F) arg19.view.ty)
    (w : F .f32) (p0 : FVec F S64x64 .bf16) (q0 : FVec F S64x256 .bf16) (p1 : FVec F S64x64 .bf16) (q1 : FVec F S64x256 .bf16)
    (hw : ¬ fold w = 1#1) :
    Σ' (L15 : List (View.Piece (Elt F) S1x16x128x512 .bf16)) (L16 : List (View.Piece (Elt F) S1x16x128x512 .bf16)) (L17 : List (View.Piece (Elt F) S2x1x512x256 .f32)) (L18 : List (View.Piece (Elt F) S2x2x64x256 .f32)) (L19 : List (View.Piece (Elt F) S2x512x256 .bf16)), { y : Acc F // ∀ (E : Set ℕ) (f15 : BufTy.Contents (Elt F) arg15.view.ty) (f16 : BufTy.Contents (Elt F) arg16.view.ty),
      Trip c arg7 arg8 arg9 arg10 arg11 arg12 arg13 arg14 arg15 arg16 arg17 arg18 arg19 X7 X8 X9 X10 X11 X12 X13 X14 f15 f16 f17 f18 f19
      ⊢ wp frame (wpE (defs₀ (F := F)) Variants.none (c : Thread nD τ) none) E (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 k (w, p0, q0, p1, q1))
          (fun a => iprop(⌜a = y⌝ ∗ Trip c arg7 arg8 arg9 arg10 arg11 arg12 arg13 arg14 arg15 arg16 arg17 arg18 arg19 X7 X8 X9 X10 X11 X12 X13 X14 (arg15.view.writes (Elt F) f15 L15) (arg16.view.writes (Elt F) f16 L16) (arg17.view.writes (Elt F) f17 L17) (arg18.view.writes (Elt F) f18 L18) (arg19.view.writes (Elt F) f19 L19))) } := by
  have hk : k.val < 31 := Nat.lt_of_lt_of_le k.isLt k0_t2_abs.2.1
  refine ⟨?_, ?_, ?_, ?_, ?_, ?_, fun E f15 f16 => ?run⟩
  case run =>
    unfold k0_t2_body
    iintro ⟨H7, H8, H9, H10, H11, H12, H13, H14, H15, H16, H17, H18, H19⟩
    sl_exec_parts
    sl_step
    sl_close

end Cert.Scan

end
-- ==== Proof.Loop.lean ====
/-
  The latent loop's state by recursion over its trips, and the loop's invariant.
-/
module

public import proofs.«01_k».proof.Proof.Trips

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
variable (c : Dev nD) (i : grid0.Coords)
  (arg3 : Memref sig .tc .vmem S1x256x256 .bf16) (harg3 : arg3.IsWhole)
  (arg4 : Memref sig .tc .vmem S1x256x512 .bf16) (harg4 : arg4.IsWhole)
  (arg5 : Memref sig .tc .vmem S1x256x256 .f32) (harg5 : arg5.IsWhole)
  (arg6 : Memref sig .tc .vmem S1x256x256 .f32) (harg6 : arg6.IsWhole)
  (arg7 : Memref sig .tc .vmem S1x16x128x256 .bf16) (harg7 : arg7.IsWhole)
  (arg8 : Memref sig .tc .vmem S1x16x128x256 .bf16) (harg8 : arg8.IsWhole)
  (arg9 : Memref sig .tc .vmem S1x16x128x512 .bf16) (harg9 : arg9.IsWhole)
  (arg10 : Memref sig .tc .vmem S1x16x128x256 .f32) (harg10 : arg10.IsWhole)
  (arg11 : Memref sig .tc .vmem S1x16x128x256 .bf16) (harg11 : arg11.IsWhole)
  (arg12 : Memref sig .tc .vmem S1x16x128x256 .bf16) (harg12 : arg12.IsWhole)
  (arg13 : Memref sig .tc .vmem S1x16x128x512 .bf16) (harg13 : arg13.IsWhole)
  (arg14 : Memref sig .tc .vmem S1x16x128x256 .f32) (harg14 : arg14.IsWhole)
  (arg15 : Memref sig .tc .vmem S1x16x128x512 .bf16) (harg15 : arg15.IsWhole)
  (arg16 : Memref sig .tc .vmem S1x16x128x512 .bf16) (harg16 : arg16.IsWhole)
  (arg17 : Memref sig .tc .vmem S2x1x512x256 .f32) (harg17 : arg17.IsWhole)
  (arg18 : Memref sig .tc .vmem S2x2x64x256 .f32) (harg18 : arg18.IsWhole)
  (arg19 : Memref sig .tc .vmem S2x512x256 .bf16) (harg19 : arg19.IsWhole)
/-- The loop's state before a trip: what it carries and what the buffers it writes hold. -/
structure LS where
  acc : Acc F
  f15 : BufTy.Contents (Elt F) arg15.view.ty
  f16 : BufTy.Contents (Elt F) arg16.view.ty
  f17 : BufTy.Contents (Elt F) arg17.view.ty
  f18 : BufTy.Contents (Elt F) arg18.view.ty
  f19 : BufTy.Contents (Elt F) arg19.view.ty

/-- One trip on the loop's state. -/
@[irreducible] def stepL (v2 v3 : IVec S64x64 1) (v8 v13 : FVec F S64x64 .bf16) (v14 : IVec S8x64 32) (h2 : k0_cond2 i = 1#1) (v69 : F .f32) (v71 v73 : FVec F S64x256 .f32) (v92 : FVec F S1x256 .f32)
    (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (k : Fin k0_t2_loop.trips) (s : LS (F := F) arg15 arg16 arg17 arg18 arg19) : LS (F := F) arg15 arg16 arg17 arg18 arg19 :=
  if h : fold s.acc.1 = 1#1 then ⟨(tripT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.2.2.2.1, arg15.view.writes (Elt F) s.f15 (tripT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).1, arg16.view.writes (Elt F) s.f16 (tripT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.1, arg17.view.writes (Elt F) s.f17 (tripT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.1, arg18.view.writes (Elt F) s.f18 (tripT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.2.1, arg19.view.writes (Elt F) s.f19 (tripT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.2.2.1⟩
  else ⟨(tripE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.2.2.2.1, arg15.view.writes (Elt F) s.f15 (tripE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).1, arg16.view.writes (Elt F) s.f16 (tripE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.1, arg17.view.writes (Elt F) s.f17 (tripE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.1, arg18.view.writes (Elt F) s.f18 (tripE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.2.1, arg19.view.writes (Elt F) s.f19 (tripE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.2.2.1⟩

/-- The loop's state before trip `k`. -/
def stL (v2 v3 : IVec S64x64 1) (v8 v13 : FVec F S64x64 .bf16) (v14 : IVec S8x64 32) (h2 : k0_cond2 i = 1#1) (v69 : F .f32) (v71 v73 : FVec F S64x256 .f32) (v92 : FVec F S1x256 .f32)
    (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (s : LS (F := F) arg15 arg16 arg17 arg18 arg19) : ℕ → LS (F := F) arg15 arg16 arg17 arg18 arg19
  | 0 => s
  | k + 1 => if h : k < k0_t2_loop.trips then stepL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 ⟨k, h⟩ (stL v2 v3 v8 v13 v14 h2 v69 v71 v73 v92 X7 X8 X9 X10 X11 X12 X13 X14 s k) else stL v2 v3 v8 v13 v14 h2 v69 v71 v73 v92 X7 X8 X9 X10 X11 X12 X13 X14 s k

theorem stL_succ (v2 v3 : IVec S64x64 1) (v8 v13 : FVec F S64x64 .bf16) (v14 : IVec S8x64 32) (h2 : k0_cond2 i = 1#1) (v69 : F .f32) (v71 v73 : FVec F S64x256 .f32) (v92 : FVec F S1x256 .f32)
    (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (s : LS (F := F) arg15 arg16 arg17 arg18 arg19) (k : Fin k0_t2_loop.trips) :
    stL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 s (k.val + 1) = stepL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k (stL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 s k.val) := by
  rw [stL.eq_2]; exact dif_pos k.isLt

/-- One trip's triple, at the loop's state before it and after it. -/
theorem step_wp (v2 v3 : IVec S64x64 1) (v8 v13 : FVec F S64x64 .bf16) (v14 : IVec S8x64 32) (h2 : k0_cond2 i = 1#1) (v69 : F .f32) (v71 v73 : FVec F S64x256 .f32) (v92 : FVec F S1x256 .f32)
    (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (k : Fin k0_t2_loop.trips) (s : LS (F := F) arg15 arg16 arg17 arg18 arg19) (E : Set ℕ) :
    Trip c arg7 arg8 arg9 arg10 arg11 arg12 arg13 arg14 arg15 arg16 arg17 arg18 arg19 X7 X8 X9 X10 X11 X12 X13 X14 s.f15 s.f16 s.f17 s.f18 s.f19
      ⊢ wp frame (wpE (defs₀ (F := F)) Variants.none (c : Thread nD τ) none) E (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 k s.acc)
          (fun a => iprop(⌜a = (stepL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s).acc⌝ ∗ Trip c arg7 arg8 arg9 arg10 arg11 arg12 arg13 arg14 arg15 arg16 arg17 arg18 arg19 X7 X8 X9 X10 X11 X12 X13 X14 (stepL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s).f15 (stepL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s).f16 (stepL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s).f17 (stepL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s).f18 (stepL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s).f19)) := by
  unfold stepL
  by_cases h : fold s.acc.1 = 1#1
  · rw [dif_pos h]
    exact (tripT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.2.2.2.2 E s.f15 s.f16
  · rw [dif_neg h]
    exact (tripE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k s.f17 s.f18 s.f19 s.acc.1 s.acc.2.1 s.acc.2.2.1 s.acc.2.2.2.1 s.acc.2.2.2.2 h).2.2.2.2.2.2 E s.f15 s.f16

/-- The loop's invariant: before trip `k` the buffers it writes and the carried tuple are the state `stL` at `k`, over
    what they were at entry. -/
@[sl_loop] def loopInv (v2 v3 : IVec S64x64 1) (v8 v13 : FVec F S64x64 .bf16) (v14 : IVec S8x64 32) (h2 : k0_cond2 i = 1#1) (v69 : F .f32) (v71 v73 : FVec F S64x256 .f32) (v92 : FVec F S1x256 .f32)
    (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (init : Acc F) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 init where
  inv k acc := iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, (arg15.view.loc (c : Thread nD τ) ↦[arg15.view.set]{fullShare} f) ∗ ⌜f = (stL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 ⟨init, G15, G16, G17, G18, G19⟩ k).f15⌝) ∗ (∃ f, (arg16.view.loc (c : Thread nD τ) ↦[arg16.view.set]{fullShare} f) ∗ ⌜f = (stL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 ⟨init, G15, G16, G17, G18, G19⟩ k).f16⌝) ∗ (∃ f, (arg17.view.loc (c : Thread nD τ) ↦[arg17.view.set]{fullShare} f) ∗ ⌜f = (stL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 ⟨init, G15, G16, G17, G18, G19⟩ k).f17⌝) ∗ (∃ f, (arg18.view.loc (c : Thread nD τ) ↦[arg18.view.set]{fullShare} f) ∗ ⌜f = (stL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 ⟨init, G15, G16, G17, G18, G19⟩ k).f18⌝) ∗ (∃ f, (arg19.view.loc (c : Thread nD τ) ↦[arg19.view.set]{fullShare} f) ∗ ⌜f = (stL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 ⟨init, G15, G16, G17, G18, G19⟩ k).f19⌝) ∗ ⌜acc = (stL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 ⟨init, G15, G16, G17, G18, G19⟩ k).acc⌝)
  step k acc := by
    iintro ⟨H7, H8, H9, H10, H11, H12, H13, H14, ⟨%f15, H15, %e15⟩, ⟨%f16, H16, %e16⟩, ⟨%f17, H17, %e17⟩, ⟨%f18, H18, %e18⟩, ⟨%f19, H19, %e19⟩, %ea⟩
    subst e15 e16 e17 e18 e19 ea
    rw [stL_succ]
    iapply (wp_wand_r Idealize.ShloMosaic.frame (wpE (defs₀ (F := F)) Variants.none (c : Thread nD τ) none) Set.univ)
    isplitl [H7 H8 H9 H10 H11 H12 H13 H14 H15 H16 H17 H18 H19]
    · iapply (step_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 k (stL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2 v3 v8 v13 v14 h2 v69 v71 v73 v92 X7 X8 X9 X10 X11 X12 X13 X14 ⟨init, G15, G16, G17, G18, G19⟩ k.val) Set.univ)
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · iintro %a ⟨%ha, H7, H8, H9, H10, H11, H12, H13, H14, H15, H16, H17, H18, H19⟩
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · iexists _
        isplitl [H15]
        · iexact H15
        · ipureintro; rfl
      isplitl [H16]
      · iexists _
        isplitl [H16]
        · iexact H16
        · ipureintro; rfl
      isplitl [H17]
      · iexists _
        isplitl [H17]
        · iexact H17
        · ipureintro; rfl
      isplitl [H18]
      · iexists _
        isplitl [H18]
        · iexact H18
        · ipureintro; rfl
      isplitl [H19]
      · iexists _
        isplitl [H19]
        · iexact H19
        · ipureintro; rfl
      ipureintro; exact ha

end Cert.Scan

end
-- ==== Proof.Run.lean ====
/-
  One grid point of the scan kernel, run once for each way its control goes: a head's first point (the context's
  scan), and a later point with its first scores folded or exact.
-/
module

public import proofs.«01_k».proof.Proof.Loop

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg3 : Memref sig .tc .vmem S1x256x256 .bf16) (harg3 : arg3.IsWhole)
  (arg4 : Memref sig .tc .vmem S1x256x512 .bf16) (harg4 : arg4.IsWhole)
  (arg5 : Memref sig .tc .vmem S1x256x256 .f32) (harg5 : arg5.IsWhole)
  (arg6 : Memref sig .tc .vmem S1x256x256 .f32) (harg6 : arg6.IsWhole)
  (arg7 : Memref sig .tc .vmem S1x16x128x256 .bf16) (harg7 : arg7.IsWhole)
  (arg8 : Memref sig .tc .vmem S1x16x128x256 .bf16) (harg8 : arg8.IsWhole)
  (arg9 : Memref sig .tc .vmem S1x16x128x512 .bf16) (harg9 : arg9.IsWhole)
  (arg10 : Memref sig .tc .vmem S1x16x128x256 .f32) (harg10 : arg10.IsWhole)
  (arg11 : Memref sig .tc .vmem S1x16x128x256 .bf16) (harg11 : arg11.IsWhole)
  (arg12 : Memref sig .tc .vmem S1x16x128x256 .bf16) (harg12 : arg12.IsWhole)
  (arg13 : Memref sig .tc .vmem S1x16x128x512 .bf16) (harg13 : arg13.IsWhole)
  (arg14 : Memref sig .tc .vmem S1x16x128x256 .f32) (harg14 : arg14.IsWhole)
  (arg15 : Memref sig .tc .vmem S1x16x128x512 .bf16) (harg15 : arg15.IsWhole)
  (arg16 : Memref sig .tc .vmem S1x16x128x512 .bf16) (harg16 : arg16.IsWhole)
  (arg17 : Memref sig .tc .vmem S2x1x512x256 .f32) (harg17 : arg17.IsWhole)
  (arg18 : Memref sig .tc .vmem S2x2x64x256 .f32) (harg18 : arg18.IsWhole)
  (arg19 : Memref sig .tc .vmem S2x512x256 .bf16) (harg19 : arg19.IsWhole)

/-- The buffers one grid point touches. -/
abbrev Pts (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19))

/-- The decay bound of a block's first chunk pair. -/
abbrev worst0 (X10 : BufTy.Contents (Elt F) arg10.view.ty) (X14 : BufTy.Contents (Elt F) arg14.view.ty) : F .f32 :=
  (k0_pay761 (k0_pay755 (arg10.view.readAt (Elt F) (Rect.unit (s := S1x16x128x256) ![0, 0, 0, 0] S1x1x64x256.size inb_S1x16x128x256_S1x1x64x256_0_0_0_0).toLoadRect X10)) (k0_pay759 (arg14.view.readAt (Elt F) (Rect.unit (s := S1x16x128x256) ![0, 15, 64, 0] S1x1x64x256.size inb_S1x16x128x256_S1x1x64x256_0_15_64_0).toLoadRect X14)))

/-- A head's first point: what it leaves in the buffers it writes, as functions of what it finds. -/
@[irreducible] def runA (h1 : k0_cond1 i = 1#1) (h2 : ¬ k0_cond2 i = 1#1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty)
     :
    Σ' (y15 : BufTy.Contents (Elt F) arg15.view.ty) (y16 : BufTy.Contents (Elt F) arg16.view.ty) (y17 : BufTy.Contents (Elt F) arg17.view.ty) (y18 : BufTy.Contents (Elt F) arg18.view.ty), { y19 : BufTy.Contents (Elt F) arg19.view.ty //
      Pts c arg3 arg4 arg5 arg6 arg7 arg8 arg9 arg10 arg11 arg12 arg13 arg14 arg15 arg16 arg17 arg18 arg19 X3 X4 X5 X6 X7 X8 X9 X10 X11 X12 X13 X14 f15 f16 f17 f18 f19
      ⊢ wp frame (wpE (defs₀ (F := F)) Variants.none (c : Thread nD τ) none) Set.univ (cc0_scan_gla (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Pts c arg3 arg4 arg5 arg6 arg7 arg8 arg9 arg10 arg11 arg12 arg13 arg14 arg15 arg16 arg17 arg18 arg19 X3 X4 X5 X6 X7 X8 X9 X10 X11 X12 X13 X14 y15 y16 y17 y18 y19) } := by
  refine ⟨?_, ?_, ?_, ?_, ?_, ?run⟩
  case run =>
    rw [cc0_scan_gla_eq_skeleton]; unfold cc0_scan_gla_skel
    iintro ⟨H3, H4, H5, H6, H7, H8, H9, H10, H11, H12, H13, H14, H15, H16, H17, H18, H19⟩
    sl_exec_parts
    sl_step
    sl_close

/-- A later point, its first scores folded: what it leaves in the buffers it writes, as functions of what it finds. -/
@[irreducible] def runT (h1 : ¬ k0_cond1 i = 1#1) (h2 : k0_cond2 i = 1#1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty)
    (hw : fold (k0_pay761 (k0_pay755 (arg10.view.readAt (Elt F) (Rect.unit (s := S1x16x128x256) ![0, 0, 0, 0] S1x1x64x256.size inb_S1x16x128x256_S1x1x64x256_0_0_0_0).toLoadRect X10)) (k0_pay759 (arg14.view.readAt (Elt F) (Rect.unit (s := S1x16x128x256) ![0, 15, 64, 0] S1x1x64x256.size inb_S1x16x128x256_S1x1x64x256_0_15_64_0).toLoadRect X14))) = 1#1) :
    Σ' (y15 : BufTy.Contents (Elt F) arg15.view.ty) (y16 : BufTy.Contents (Elt F) arg16.view.ty) (y17 : BufTy.Contents (Elt F) arg17.view.ty) (y18 : BufTy.Contents (Elt F) arg18.view.ty), { y19 : BufTy.Contents (Elt F) arg19.view.ty //
      Pts c arg3 arg4 arg5 arg6 arg7 arg8 arg9 arg10 arg11 arg12 arg13 arg14 arg15 arg16 arg17 arg18 arg19 X3 X4 X5 X6 X7 X8 X9 X10 X11 X12 X13 X14 f15 f16 f17 f18 f19
      ⊢ wp frame (wpE (defs₀ (F := F)) Variants.none (c : Thread nD τ) none) Set.univ (cc0_scan_gla (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Pts c arg3 arg4 arg5 arg6 arg7 arg8 arg9 arg10 arg11 arg12 arg13 arg14 arg15 arg16 arg17 arg18 arg19 X3 X4 X5 X6 X7 X8 X9 X10 X11 X12 X13 X14 y15 y16 y17 y18 y19) } := by
  refine ⟨?_, ?_, ?_, ?_, ?_, ?run⟩
  case run =>
    rw [cc0_scan_gla_eq_skeleton]; unfold cc0_scan_gla_skel
    iintro ⟨H3, H4, H5, H6, H7, H8, H9, H10, H11, H12, H13, H14, H15, H16, H17, H18, H19⟩
    sl_exec_parts
    generalize hg17 : arg17.view.writes (Elt F) arg17.view.junk _ = g17
    generalize hg18 : arg18.view.writes (Elt F) arg18.view.junk _ = g18
    generalize hg19 : arg19.view.writes (Elt F) arg19.view.junk _ = g19
    sl_exec_parts
    subst hg17 hg18 hg19
    sl_step
    sl_close

/-- A later point, its first scores exact: what it leaves in the buffers it writes, as functions of what it finds. -/
@[irreducible] def runE (h1 : ¬ k0_cond1 i = 1#1) (h2 : k0_cond2 i = 1#1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty)
    (hw : ¬ fold (k0_pay761 (k0_pay755 (arg10.view.readAt (Elt F) (Rect.unit (s := S1x16x128x256) ![0, 0, 0, 0] S1x1x64x256.size inb_S1x16x128x256_S1x1x64x256_0_0_0_0).toLoadRect X10)) (k0_pay759 (arg14.view.readAt (Elt F) (Rect.unit (s := S1x16x128x256) ![0, 15, 64, 0] S1x1x64x256.size inb_S1x16x128x256_S1x1x64x256_0_15_64_0).toLoadRect X14))) = 1#1) :
    Σ' (y15 : BufTy.Contents (Elt F) arg15.view.ty) (y16 : BufTy.Contents (Elt F) arg16.view.ty) (y17 : BufTy.Contents (Elt F) arg17.view.ty) (y18 : BufTy.Contents (Elt F) arg18.view.ty), { y19 : BufTy.Contents (Elt F) arg19.view.ty //
      Pts c arg3 arg4 arg5 arg6 arg7 arg8 arg9 arg10 arg11 arg12 arg13 arg14 arg15 arg16 arg17 arg18 arg19 X3 X4 X5 X6 X7 X8 X9 X10 X11 X12 X13 X14 f15 f16 f17 f18 f19
      ⊢ wp frame (wpE (defs₀ (F := F)) Variants.none (c : Thread nD τ) none) Set.univ (cc0_scan_gla (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Pts c arg3 arg4 arg5 arg6 arg7 arg8 arg9 arg10 arg11 arg12 arg13 arg14 arg15 arg16 arg17 arg18 arg19 X3 X4 X5 X6 X7 X8 X9 X10 X11 X12 X13 X14 y15 y16 y17 y18 y19) } := by
  refine ⟨?_, ?_, ?_, ?_, ?_, ?run⟩
  case run =>
    rw [cc0_scan_gla_eq_skeleton]; unfold cc0_scan_gla_skel
    iintro ⟨H3, H4, H5, H6, H7, H8, H9, H10, H11, H12, H13, H14, H15, H16, H17, H18, H19⟩
    sl_exec_parts
    generalize hg17 : arg17.view.writes (Elt F) arg17.view.junk _ = g17
    generalize hg18 : arg18.view.writes (Elt F) arg18.view.junk _ = g18
    generalize hg19 : arg19.view.writes (Elt F) arg19.view.junk _ = g19
    sl_exec_parts
    subst hg17 hg18 hg19
    sl_step
    sl_close

end Cert.Scan

end
-- ==== Proof.Region.lean ====
/-
  The scan kernel at the launch: the body at a grid point as the pipeline calls it, the state carried between points,
  and the launch's run.  What the body leaves is told by two predicates of the caller's: `Inv` of the state a point
  finds, `R12` and `R13` of the two result blocks a point leaves.
-/
module

public import proofs.«01_k».proof.Proof.Run

public import Idealize.ShloMosaic.Lib.Pipeline.DatRel

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline
open Idealize.SL.BI.BIBase Idealize.SL.BI.Laws Idealize.SL.ProofMode Idealize.SL.Sem

variable {F : FTy → Type} [FloatOps F]

local notation "𝕄" => MT nD τ sig Unit (Elt F) ℕ (UR sig nD τ) ℕ

section body
variable (c : Dev nD) (i : grid0.Coords)
  (arg3 : Memref sig .tc .vmem S1x256x256 .bf16) (harg3 : arg3.IsWhole)
  (arg4 : Memref sig .tc .vmem S1x256x512 .bf16) (harg4 : arg4.IsWhole)
  (arg5 : Memref sig .tc .vmem S1x256x256 .f32) (harg5 : arg5.IsWhole)
  (arg6 : Memref sig .tc .vmem S1x256x256 .f32) (harg6 : arg6.IsWhole)
  (arg7 : Memref sig .tc .vmem S1x16x128x256 .bf16) (harg7 : arg7.IsWhole)
  (arg8 : Memref sig .tc .vmem S1x16x128x256 .bf16) (harg8 : arg8.IsWhole)
  (arg9 : Memref sig .tc .vmem S1x16x128x512 .bf16) (harg9 : arg9.IsWhole)
  (arg10 : Memref sig .tc .vmem S1x16x128x256 .f32) (harg10 : arg10.IsWhole)
  (arg11 : Memref sig .tc .vmem S1x16x128x256 .bf16) (harg11 : arg11.IsWhole)
  (arg12 : Memref sig .tc .vmem S1x16x128x256 .bf16) (harg12 : arg12.IsWhole)
  (arg13 : Memref sig .tc .vmem S1x16x128x512 .bf16) (harg13 : arg13.IsWhole)
  (arg14 : Memref sig .tc .vmem S1x16x128x256 .f32) (harg14 : arg14.IsWhole)
  (arg15 : Memref sig .tc .vmem S1x16x128x512 .bf16) (harg15 : arg15.IsWhole)
  (arg16 : Memref sig .tc .vmem S1x16x128x512 .bf16) (harg16 : arg16.IsWhole)
  (arg17 : Memref sig .tc .vmem S2x1x512x256 .f32) (harg17 : arg17.IsWhole)
  (arg18 : Memref sig .tc .vmem S2x2x64x256 .f32) (harg18 : arg18.IsWhole)
  (arg19 : Memref sig .tc .vmem S2x512x256 .bf16) (harg19 : arg19.IsWhole)
/-- What a grid point leaves in the buffers it writes, whichever way its control goes. -/
def Left (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty)
    (y15 : BufTy.Contents (Elt F) arg15.view.ty) (y16 : BufTy.Contents (Elt F) arg16.view.ty) (y17 : BufTy.Contents (Elt F) arg17.view.ty) (y18 : BufTy.Contents (Elt F) arg18.view.ty) (y19 : BufTy.Contents (Elt F) arg19.view.ty) : Prop :=
  (∃ (h1 : k0_cond1 i = 1#1) (h2 : ¬ k0_cond2 i = 1#1), y15 = (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 ).1 ∧ y16 = (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 ).2.1 ∧ y17 = (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 ).2.2.1 ∧ y18 = (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 ).2.2.2.1 ∧ y19 = (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 ).2.2.2.2.1)
  ∨ (∃ (h1 : ¬ k0_cond1 i = 1#1) (h2 : k0_cond2 i = 1#1) (hw : fold (worst0 arg10 arg14 X10 X14) = 1#1), y15 = (runT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).1 ∧ y16 = (runT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.1 ∧ y17 = (runT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.2.1 ∧ y18 = (runT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.2.2.1 ∧ y19 = (runT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.2.2.2.1)
  ∨ (∃ (h1 : ¬ k0_cond1 i = 1#1) (h2 : k0_cond2 i = 1#1) (hw : ¬ fold (worst0 arg10 arg14 X10 X14) = 1#1), y15 = (runE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).1 ∧ y16 = (runE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.1 ∧ y17 = (runE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.2.1 ∧ y18 = (runE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.2.2.1 ∧ y19 = (runE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.2.2.2.1)

/-- The body at a point, whichever way its control goes. -/
theorem body_wp (hc : (k0_cond1 i = 1#1 ∧ ¬ k0_cond2 i = 1#1) ∨ (¬ k0_cond1 i = 1#1 ∧ k0_cond2 i = 1#1))
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    Pts c arg3 arg4 arg5 arg6 arg7 arg8 arg9 arg10 arg11 arg12 arg13 arg14 arg15 arg16 arg17 arg18 arg19 X3 X4 X5 X6 X7 X8 X9 X10 X11 X12 X13 X14 f15 f16 f17 f18 f19
      ⊢ wp frame (wpE (defs₀ (F := F)) Variants.none (c : Thread nD τ) none) Set.univ (cc0_scan_gla (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ y15 y16 y17 y18 y19, ⌜Left c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 f15 f16 f17 f18 f19 y15 y16 y17 y18 y19⌝ ∗ Pts c arg3 arg4 arg5 arg6 arg7 arg8 arg9 arg10 arg11 arg12 arg13 arg14 arg15 arg16 arg17 arg18 arg19 X3 X4 X5 X6 X7 X8 X9 X10 X11 X12 X13 X14 y15 y16 y17 y18 y19)) := by
  rcases hc with ⟨h1, h2⟩ | ⟨h1, h2⟩
  · refine (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19).2.2.2.2.2.trans (wp_mono _ _ _ fun _ => ?_)
    iintro H
    iexists _, _, _, _, _
    isplitr
    · ipureintro; exact Or.inl ⟨h1, h2, rfl, rfl, rfl, rfl, rfl⟩
    · iexact H
  · by_cases hw : fold (worst0 arg10 arg14 X10 X14) = 1#1
    · refine (runT c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.2.2.2.2.trans (wp_mono _ _ _ fun _ => ?_)
      iintro H
      iexists _, _, _, _, _
      isplitr
      · ipureintro; exact Or.inr (Or.inl ⟨h1, h2, hw, rfl, rfl, rfl, rfl, rfl⟩)
      · iexact H
    · refine (runE c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 X3 X4 X5 X6 X7 X8 X9 X10 X11 X12 X13 X14 f15 f16 f17 f18 f19 hw).2.2.2.2.2.trans (wp_mono _ _ _ fun _ => ?_)
      iintro H
      iexists _, _, _, _, _
      isplitr
      · ipureintro; exact Or.inr (Or.inr ⟨h1, h2, hw, rfl, rfl, rfl, rfl, rfl⟩)
      · iexact H
end body

variable (m : (ℓ : Loc nD τ sig) → Buf (Elt F) ℓ) (ρ : Dev nD → PrngReg)

/-- A head's first point is every fifth one. -/
theorem cond1_iff : ∀ t : Fin cfg0.N, k0_cond1 (cfg0.grid.coords t) = 1#1 ↔ t.val % 5 = 0 :=
  (by decide +kernel : ∀ t : Fin grid0.N, k0_cond1 (grid0.coords t) = 1#1 ↔ t.val % 5 = 0)
theorem cond2_iff : ∀ t : Fin cfg0.N, k0_cond2 (cfg0.grid.coords t) = 1#1 ↔ ¬ t.val % 5 = 0 :=
  (by decide +kernel : ∀ t : Fin grid0.N, k0_cond2 (grid0.coords t) = 1#1 ↔ ¬ t.val % 5 = 0)

/-- The state's scratch at a point, and the two result windows' blocks. -/
abbrev St (F : FTy → Type) : Type := S2x1x512x256.Idx → Elt F .f32
abbrev Ob (F : FTy → Type) : Type := S1x16x128x512.Idx → Elt F .bf16

/-- The two result windows. -/
def marked : Fin cfg0.W → Bool := fun | ⟨12, _⟩ => true | ⟨13, _⟩ => true | _ => false

/-- What is said of what the body leaves in a result window. -/
def Rl (R12 R13 : Fin cfg0.N → Ob F → Prop) : (w : Fin cfg0.W) → Fin cfg0.N → ((cfg0.win w).block.Idx → Elt F (cfg0.win w).elt) → Prop :=
  fun | ⟨12, _⟩ => fun t X => R12 t X | ⟨13, _⟩ => fun t X => R13 t X | _ => fun _ _ => True

/-- What a caller shows of a point: from the state it finds, `Inv` of the state it leaves and `R12`, `R13` of the blocks. -/
def Keeps (Inv : Dev nD → ℕ → St F → Prop) (R12 R13 : Dev nD → Fin cfg0.N → Ob F → Prop) : Prop :=
  ∀ (c : Dev nD) (t : Fin cfg0.N) X3 X4 X5 X6 X7 X8 X9 X10 X11 X12 X13 X14 f15 f16 f17 f18 f19 y15 y16 y17 y18 y19,
    (win0_0.stage (cfg0.slots t 0)).view.read (Elt F) X3 = iblk m c 0 t → (win0_1.stage (cfg0.slots t 1)).view.read (Elt F) X4 = iblk m c 1 t → (win0_2.stage (cfg0.slots t 2)).view.read (Elt F) X5 = iblk m c 2 t → (win0_3.stage (cfg0.slots t 3)).view.read (Elt F) X6 = iblk m c 3 t → (win0_4.stage (cfg0.slots t 4)).view.read (Elt F) X7 = iblk m c 4 t → (win0_5.stage (cfg0.slots t 5)).view.read (Elt F) X8 = iblk m c 5 t → (win0_6.stage (cfg0.slots t 6)).view.read (Elt F) X9 = iblk m c 6 t → (win0_7.stage (cfg0.slots t 7)).view.read (Elt F) X10 = iblk m c 7 t → (win0_8.stage (cfg0.slots t 8)).view.read (Elt F) X11 = iblk m c 8 t → (win0_9.stage (cfg0.slots t 9)).view.read (Elt F) X12 = iblk m c 9 t → (win0_10.stage (cfg0.slots t 10)).view.read (Elt F) X13 = iblk m c 10 t → (win0_11.stage (cfg0.slots t 11)).view.read (Elt F) X14 = iblk m c 11 t →
    Inv c t.val ((Memref.whole cc0_scratch0).view.read (Elt F) f17) →
    Left (F := F) c (cfg0.grid.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) X3 X4 X5 X6 X7 X8 X9 X10 X11 X12 X13 X14 f15 f16 f17 f18 f19 y15 y16 y17 y18 y19 →
    Inv c (t.val + 1) ((Memref.whole cc0_scratch0).view.read (Elt F) y17)
      ∧ R12 c t ((win0_12.stage (cfg0.slots t 12)).view.read (Elt F) y15)
      ∧ R13 c t ((win0_13.stage (cfg0.slots t 13)).view.read (Elt F) y16)

variable (Inv : Dev nD → ℕ → St F → Prop) (R12 R13 : Dev nD → Fin cfg0.N → Ob F → Prop)

/-- The state between points: the scratch's at contents `Inv` holds of, the other two scratch buffers at any, the
    generator's register at any. -/
def Phi (c : Dev nD) (t : ℕ) : sProp 𝕄 :=
  iprop((∃ d, ⌜Inv c t d⌝ ∗ owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ ∃ r, prngReg c r)

theorem PhiA_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ ∃ r, prngReg c r) := by
  unfold Pipeline.ΦA
  rw [scopedRest0_eq]; simp only [owns_whole]; try rfl

/-- The proof data: an input window keeps its block; the result windows are told by `Rl`. -/
def dats (c : Dev nD) : Pipeline.Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t | ⟨5, _⟩ => iblk m c 5 t | ⟨6, _⟩ => iblk m c 6 t | ⟨7, _⟩ => iblk m c 7 t | ⟨8, _⟩ => iblk m c 8 t | ⟨9, _⟩ => iblk m c 9 t | ⟨10, _⟩ => iblk m c 10 t | ⟨11, _⟩ => iblk m c 11 t | w => Pipeline.Dat.unnamed (cfg := cfg0) w t
  Φ t := Phi Inv c t.val
  q w := Pipeline.shareOf spec0 w
  owed _ := 0

theorem A_eq (c : Dev nD) (w : Fin cfg0.W) : (dats m Inv c).A w = V m c (Pipeline.arrRef spec0 w) := by dsimp only [dats]

/-- The blocks a point's body is handed and hands back, the state and the core's dues beside them. -/
def bodyPre (c : Dev nD) (t : Fin cfg0.N) : sProp 𝕄 :=
  iprop((dats m Inv c).Φ t.castSucc ∗ (dats m Inv c).owesAt () t.castSucc
    ∗ (∃ d, owns (c : Thread nD τ) (st0_0 t) fullShare ((dats m Inv c).before 0 t d)) ∗ (∃ d, owns (c : Thread nD τ) (st0_1 t) fullShare ((dats m Inv c).before 1 t d)) ∗ (∃ d, owns (c : Thread nD τ) (st0_2 t) fullShare ((dats m Inv c).before 2 t d)) ∗ (∃ d, owns (c : Thread nD τ) (st0_3 t) fullShare ((dats m Inv c).before 3 t d)) ∗ (∃ d, owns (c : Thread nD τ) (st0_4 t) fullShare ((dats m Inv c).before 4 t d)) ∗ (∃ d, owns (c : Thread nD τ) (st0_5 t) fullShare ((dats m Inv c).before 5 t d)) ∗ (∃ d, owns (c : Thread nD τ) (st0_6 t) fullShare ((dats m Inv c).before 6 t d)) ∗ (∃ d, owns (c : Thread nD τ) (st0_7 t) fullShare ((dats m Inv c).before 7 t d)) ∗ (∃ d, owns (c : Thread nD τ) (st0_8 t) fullShare ((dats m Inv c).before 8 t d)) ∗ (∃ d, owns (c : Thread nD τ) (st0_9 t) fullShare ((dats m Inv c).before 9 t d)) ∗ (∃ d, owns (c : Thread nD τ) (st0_10 t) fullShare ((dats m Inv c).before 10 t d)) ∗ (∃ d, owns (c : Thread nD τ) (st0_11 t) fullShare ((dats m Inv c).before 11 t d))
    ∗ (∃ Y, ⌜((dats m Inv c).toRRel marked (Rl (R12 c) (R13 c))).Finds 12 t Y⌝ ∗ owns (c : Thread nD τ) (st0_12 t) fullShare Y)
    ∗ (∃ Y, ⌜((dats m Inv c).toRRel marked (Rl (R12 c) (R13 c))).Finds 13 t Y⌝ ∗ owns (c : Thread nD τ) (st0_13 t) fullShare Y))
def bodyPost (c : Dev nD) (t : Fin cfg0.N) : sProp 𝕄 :=
  iprop((dats m Inv c).Φ t.succ ∗ (dats m Inv c).owesAt () t.succ
    ∗ (owns (c : Thread nD τ) (st0_0 t) fullShare ((dats m Inv c).after 0 t)) ∗ (owns (c : Thread nD τ) (st0_1 t) fullShare ((dats m Inv c).after 1 t)) ∗ (owns (c : Thread nD τ) (st0_2 t) fullShare ((dats m Inv c).after 2 t)) ∗ (owns (c : Thread nD τ) (st0_3 t) fullShare ((dats m Inv c).after 3 t)) ∗ (owns (c : Thread nD τ) (st0_4 t) fullShare ((dats m Inv c).after 4 t)) ∗ (owns (c : Thread nD τ) (st0_5 t) fullShare ((dats m Inv c).after 5 t)) ∗ (owns (c : Thread nD τ) (st0_6 t) fullShare ((dats m Inv c).after 6 t)) ∗ (owns (c : Thread nD τ) (st0_7 t) fullShare ((dats m Inv c).after 7 t)) ∗ (owns (c : Thread nD τ) (st0_8 t) fullShare ((dats m Inv c).after 8 t)) ∗ (owns (c : Thread nD τ) (st0_9 t) fullShare ((dats m Inv c).after 9 t)) ∗ (owns (c : Thread nD τ) (st0_10 t) fullShare ((dats m Inv c).after 10 t)) ∗ (owns (c : Thread nD τ) (st0_11 t) fullShare ((dats m Inv c).after 11 t))
    ∗ (∃ X, ⌜R12 c t X⌝ ∗ owns (c : Thread nD τ) (st0_12 t) fullShare X)
    ∗ (∃ X, ⌜R13 c t X⌝ ∗ owns (c : Thread nD τ) (st0_13 t) fullShare X))

set_option maxHeartbeats 1000000 in
/-- The body at a point, from the point's state to the next one's (seventeen buffers are handed back one by one). -/
theorem sound_body (hk : Keeps m Inv R12 R13) (c : Dev nD) (t : Fin cfg0.N) :
    bodyPre m Inv R12 R13 c t ⊢ wp frame (wpE (defs₀ (F := F)) Variants.none (c : Thread nD τ) none) Set.univ (bodyAt0 t) (fun _ => bodyPost m Inv R12 R13 c t) := by
  unfold bodyPre bodyPost
  rw [show (dats m Inv c).owesAt () t.succ = (dats m Inv c).owesAt () t.castSucc from rfl,
    show (dats m Inv c).Φ t.castSucc = Phi Inv c t.val from rfl, show (dats m Inv c).Φ t.succ = Phi Inv c (t.val + 1) from rfl]
  have hc : (k0_cond1 (cfg0.grid.coords t) = 1#1 ∧ ¬ k0_cond2 (cfg0.grid.coords t) = 1#1) ∨ (¬ k0_cond1 (cfg0.grid.coords t) = 1#1 ∧ k0_cond2 (cfg0.grid.coords t) = 1#1) := by
    rw [cond1_iff, cond2_iff]; omega
  unfold Phi owns
  iintro ⟨⟨⟨%d17, %hI, ⟨%f17, %e17, H17⟩⟩, ⟨%d18, ⟨%f18, -, H18⟩⟩, ⟨%d19, ⟨%f19, -, H19⟩⟩, Hg⟩, HO, ⟨%d3, ⟨%X3, %e3, H3⟩⟩, ⟨%d4, ⟨%X4, %e4, H4⟩⟩, ⟨%d5, ⟨%X5, %e5, H5⟩⟩, ⟨%d6, ⟨%X6, %e6, H6⟩⟩, ⟨%d7, ⟨%X7, %e7, H7⟩⟩, ⟨%d8, ⟨%X8, %e8, H8⟩⟩, ⟨%d9, ⟨%X9, %e9, H9⟩⟩, ⟨%d10, ⟨%X10, %e10, H10⟩⟩, ⟨%d11, ⟨%X11, %e11, H11⟩⟩, ⟨%d12, ⟨%X12, %e12, H12⟩⟩, ⟨%d13, ⟨%X13, %e13, H13⟩⟩, ⟨%d14, ⟨%X14, %e14, H14⟩⟩, ⟨%Y15, -, ⟨%f15, -, H15⟩⟩, ⟨%Y16, -, ⟨%f16, -, H16⟩⟩⟩
  rw [before0_0_of m (dats m Inv c) rfl (fun _ => rfl)] at e3
  rw [before0_1_of m (dats m Inv c) rfl (fun _ => rfl)] at e4
  rw [before0_2_of m (dats m Inv c) rfl (fun _ => rfl)] at e5
  rw [before0_3_of m (dats m Inv c) rfl (fun _ => rfl)] at e6
  rw [before0_4_of m (dats m Inv c) rfl (fun _ => rfl)] at e7
  rw [before0_5_of m (dats m Inv c) rfl (fun _ => rfl)] at e8
  rw [before0_6_of m (dats m Inv c) rfl (fun _ => rfl)] at e9
  rw [before0_7_of m (dats m Inv c) rfl (fun _ => rfl)] at e10
  rw [before0_8_of m (dats m Inv c) rfl (fun _ => rfl)] at e11
  rw [before0_9_of m (dats m Inv c) rfl (fun _ => rfl)] at e12
  rw [before0_10_of m (dats m Inv c) rfl (fun _ => rfl)] at e13
  rw [before0_11_of m (dats m Inv c) rfl (fun _ => rfl)] at e14
  iapply (wp_wand_r Idealize.ShloMosaic.frame (wpE (defs₀ (F := F)) Variants.none (c : Thread nD τ) none) Set.univ)
  isplitl [H3 H4 H5 H6 H7 H8 H9 H10 H11 H12 H13 H14 H15 H16 H17 H18 H19]
  · iapply (body_wp (F := F) c (cfg0.grid.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) hc X3 X4 X5 X6 X7 X8 X9 X10 X11 X12 X13 X14 f15 f16 f17 f18 f19)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro %_ ⟨%y15, %y16, %y17, %y18, %y19, %hL, H3, H4, H5, H6, H7, H8, H9, H10, H11, H12, H13, H14, H15, H16, H17, H18, H19⟩
    have hR := hk c t X3 X4 X5 X6 X7 X8 X9 X10 X11 X12 X13 X14 f15 f16 f17 f18 f19 y15 y16 y17 y18 y19 e3 e4 e5 e6 e7 e8 e9 e10 e11 e12 e13 e14 (by rw [e17]; exact hI) hL
    isplitl [H17 H18 H19 Hg]
    · isplitl [H17]
      · iexists _; isplitr; swap
        · iexists _; isplitr; swap
          · iexact H17
          · ipureintro; rfl
        · ipureintro; exact hR.1
      isplitl [H18]
      · iexists _, _; isplitr; swap
        · iexact H18
        · ipureintro; rfl
      isplitl [H19]
      · iexists _, _; isplitr; swap
        · iexact H19
        · ipureintro; rfl
      iexact Hg
    isplitl [HO]; · iexact HO
    isplitl [H3]
    · iexists _; isplitr; swap
      · iexact H3
      · ipureintro; exact e3
    isplitl [H4]
    · iexists _; isplitr; swap
      · iexact H4
      · ipureintro; exact e4
    isplitl [H5]
    · iexists _; isplitr; swap
      · iexact H5
      · ipureintro; exact e5
    isplitl [H6]
    · iexists _; isplitr; swap
      · iexact H6
      · ipureintro; exact e6
    isplitl [H7]
    · iexists _; isplitr; swap
      · iexact H7
      · ipureintro; exact e7
    isplitl [H8]
    · iexists _; isplitr; swap
      · iexact H8
      · ipureintro; exact e8
    isplitl [H9]
    · iexists _; isplitr; swap
      · iexact H9
      · ipureintro; exact e9
    isplitl [H10]
    · iexists _; isplitr; swap
      · iexact H10
      · ipureintro; exact e10
    isplitl [H11]
    · iexists _; isplitr; swap
      · iexact H11
      · ipureintro; exact e11
    isplitl [H12]
    · iexists _; isplitr; swap
      · iexact H12
      · ipureintro; exact e12
    isplitl [H13]
    · iexists _; isplitr; swap
      · iexact H13
      · ipureintro; exact e13
    isplitl [H14]
    · iexists _; isplitr; swap
      · iexact H14
      · ipureintro; exact e14
    isplitl [H15]
    · iexists _; isplitr; swap
      · iexists _; isplitr; swap
        · iexact H15
        · ipureintro; rfl
      · ipureintro; exact hR.2.1
    · iexists _; isplitr; swap
      · iexists _; isplitr; swap
        · iexact H16
        · ipureintro; rfl
      · ipureintro; exact hR.2.2

theorem defs₀_row (t : Fin cfg0.N) : defs₀ (F := F) .tc cfg0.body (cfg0.bodyArgs t (cfg0.slots t)) = bodyAt0 t := by
  unfold defs₀; rw [Defs.onTc_tc]

theorem body_obligation (hk : Keeps m Inv R12 R13) (c : Dev nD) :
    Pipeline.BodyObligationRel (dats m Inv c) (defs₀ (F := F)) Variants.none () Set.univ marked (Rl (R12 c) (R13 c)) := fun t => by
  rw [bigSep_W0, bigSep_W0, defs₀_row]
  exact triple_restated (sound_body m Inv R12 R13 hk c t) rfl .rfl fun _ => .rfl

set_option backward.isDefEq.respectTransparency.types false in
/-- The launch: every weakly fair run ends, the inputs' arrays as launched and each result's array written block by block
    with blocks that `R12`, `R13` hold of. -/
theorem run_main (hk : Keeps m Inv R12 R13) (h0 : ∀ c d, Inv c 0 d) :
    θ_run defs (onTc (τ := τ) (main (F := F))) (s₀ m ρ)
      (fun r => Pipeline.RDat.FramePost cfg0 (fun c => (dats m Inv c).toRRel marked (Rl (R12 c) (R13 c))) (V m) r ∧ r.2.sem = fun _ => 0) :=
  Pipeline.RDat.θ_run_frame_track_shared (Q' := _) cfgs (0 : Fin 1) launch₀0 defs₀ Variants.none
    (fun c => (dats m Inv c).toRRel marked (Rl (R12 c) (R13 c))) m ρ main
    (hbody := fun c => (body_obligation m Inv R12 R13 hk c).toRRel) (hq := fun _ _ _ => rfl)
    (howed := fun _ _ => rfl) (V := V m) (hmain := hmain m Variants.none) (hA := fun c w => A_eq m Inv c w)
    (hin := fun c => by
      rw [PhiA_eq, show ((dats m Inv c).toRRel marked (Rl (R12 c) (R13 c))).Φ 0 = Phi Inv c 0 from rfl]
      unfold Phi
      iintro ⟨⟨⟨%d, H0⟩, H1, H2⟩, Hg⟩
      isplitl [H0]
      · iexists _; isplitr; swap
        · iexact H0
        · ipureintro; exact h0 c _
      isplitl [H1]; · iexact H1
      isplitl [H2]; · iexact H2
      iexact Hg)
    (hout := fun c => by
      rw [PhiA_eq, show ((dats m Inv c).toRRel marked (Rl (R12 c) (R13 c))).Φ (Fin.last cfg0.N) = Phi Inv c cfg0.N from rfl]
      unfold Phi
      iintro ⟨⟨%d, -, H0⟩, H1, H2, Hg⟩
      isplitr [Hg]; swap; · iexact Hg
      isplitl [H0]; · iexists _; iexact H0
      isplitl [H1]; · iexact H1
      iexact H2)

/-- The arguments end as launched. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(congrFun (Pipeline.RDat.ArrAt_in _ 1 rfl _) _).mp ((h.1 c).1 1), (congrFun (Pipeline.RDat.ArrAt_in _ 3 rfl _) _).mp ((h.1 c).1 3), (congrFun (Pipeline.RDat.ArrAt_in _ 10 rfl _) _).mp ((h.1 c).1 10), (congrFun (Pipeline.RDat.ArrAt_in _ 11 rfl _) _).mp ((h.1 c).1 11)⟩, h.2⟩)
    (run_main m ρ (fun _ _ _ => True) (fun _ _ _ => True) (fun _ _ _ => True) (fun _ _ => by intros; trivial) (fun _ _ => trivial))

end Cert.Scan

end
-- ==== Proof.Final.lean ====
/-
  The value of a call: the output projection, the gated residual and the final norm. What a block holds, what the array holds, and the reference's term.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference2Ideal.Value

open Cert.Reference2Ideal Cert.Reference2Ideal.Gen

/-- The reference's result as a function of its arguments. -/
def ref (y : FVec Ideal S16384x2048 .bf16) (x : FVec Ideal S2x8192x2048 .f32) (mod : FVec Ideal S8x6144 .f32) (w : FVec Ideal S1x2048x2048 .f32) (g : FVec Ideal S2048 .f32) : FVec Ideal S16384x2048 .f32 :=
  shapeCast S16384x2048 (mulf (mulf (addf x (mulf (broadcastInDim S2x8192x2048 ![0, 1, 2] bcast_S2x1x2048_S2x8192x2048_0_1_2 (broadcastInDim S2x1x2048 ![0, 2] bcast_S2x2048_S2x1x2048_0_2 (extractStridedSlice S2x2048 ![0, 4096] (extractStridedSlice S2x6144 ![0, 0] mod slices_S8x6144_S2x6144_0_0) slices_S2x6144_S2x2048_0_4096))) (Host.dotGeneral dot_S2x8192x2048_S2048x2048_S2x8192x2048_2_0_01_1_n_n none (shapeCast _ (extf .f32 y bitsLt_bf16_f32) shapeCasts_S16384x2048_S2x8192x2048) (shapeCast _ w shapeCasts_S1x2048x2048_S2048x2048)))) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (addf x (mulf (broadcastInDim S2x8192x2048 ![0, 1, 2] bcast_S2x1x2048_S2x8192x2048_0_1_2 (broadcastInDim S2x1x2048 ![0, 2] bcast_S2x2048_S2x1x2048_0_2 (extractStridedSlice S2x2048 ![0, 4096] (extractStridedSlice S2x6144 ![0, 0] mod slices_S8x6144_S2x6144_0_0) slices_S2x6144_S2x2048_0_4096))) (Host.dotGeneral dot_S2x8192x2048_S2048x2048_S2x8192x2048_2_0_01_1_n_n none (shapeCast _ (extf .f32 y bitsLt_bf16_f32) shapeCasts_S16384x2048_S2x8192x2048) (shapeCast _ w shapeCasts_S1x2048x2048_S2048x2048)))) (addf x (mulf (broadcastInDim S2x8192x2048 ![0, 1, 2] bcast_S2x1x2048_S2x8192x2048_0_1_2 (broadcastInDim S2x1x2048 ![0, 2] bcast_S2x2048_S2x1x2048_0_2 (extractStridedSlice S2x2048 ![0, 4096] (extractStridedSlice S2x6144 ![0, 0] mod slices_S8x6144_S2x6144_0_0) slices_S2x6144_S2x2048_0_4096))) (Host.dotGeneral dot_S2x8192x2048_S2048x2048_S2x8192x2048_2_0_01_1_n_n none (shapeCast _ (extf .f32 y bitsLt_bf16_f32) shapeCasts_S16384x2048_S2x8192x2048) (shapeCast _ w shapeCasts_S1x2048x2048_S2048x2048))))) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))) shapeCasts_S2x8192x2048_S16384x2048

end Cert.Reference2Ideal.Value

namespace Cert.Kernel2Ideal.Value

open Cert.Kernel2Ideal Cert.Kernel2Ideal.Gen

variable (m : (ℓ : Loc nD τ sig) → Buf (Elt Ideal) ℓ)

/-- Each window's block index at a grid point. -/
theorem idx : ∀ t : Fin cfg0.N, win0_0.index t = ![t.val, 0] ∧ win0_1.index t = ![t.val, 0] ∧ win0_2.index t = ![t.val / 16, 0, 0] ∧ win0_3.index t = ![0, 0] ∧ win0_4.index t = ![0, 0] ∧ win0_5.index t = ![t.val, 0] :=
  (by decide +kernel : ∀ t : Fin grid0.N, _)

/-- The block of the mixed rows is the array's rows. -/
theorem blk_y (c : Dev nD) (t : Fin cfg0.N) (p : Fin 512) (r : Fin 16384) (hr : (r : ℕ) = t.val * 512 + p.val) (k : Fin 2048) :
    iblk m c 0 t (ix2 p k) = m ((c : Thread nD τ).loc main_arg0) (ix2 r k) := by
  blk_ext [iblk, V, idx t]

/-- The block of `x` is the rows of the sequence the block lies in. -/
theorem blk_x (c : Dev nD) (t : Fin cfg0.N) (p : Fin 512) (r : Fin 16384) (hr : (r : ℕ) = t.val * 512 + p.val)
    (b : Fin 2) (hb : (b : ℕ) = r.val / 8192) (s : Fin 8192) (hs : (s : ℕ) = r.val % 8192) (k : Fin 2048) :
    iblk m c 1 t (ix2 p k) = m ((c : Thread nD τ).loc main_arg1) (ix3 b s k) := by
  blk_simp [iblk, idx t]
  entry_read
  pointwise
  blk_ext [idx t]

/-- The gate's row of the modulation of the sequence the block lies in. -/
theorem blk_mod (c : Dev nD) (t : Fin cfg0.N) (p : Fin 512) (r : Fin 16384) (hr : (r : ℕ) = t.val * 512 + p.val)
    (b : Fin 8) (hb : (b : ℕ) = r.val / 8192) (k : Fin 2048) (q : Fin 6144) (hq : (q : ℕ) = 4096 + k.val) :
    iblk m c 2 t (ix3 0 2 k) = m ((c : Thread nD τ).loc main_arg2) (ix2 b q) := by
  blk_simp [iblk, idx t]
  entry_read
  pointwise
  blk_ext [idx t]

/-- The weight's block is the weight. -/
theorem blk_w (c : Dev nD) (t : Fin cfg0.N) (k l : Fin 2048) :
    iblk m c 3 t (ix2 k l) = m ((c : Thread nD τ).loc main_arg3) (ix3 0 k l) := by
  blk_simp [iblk, idx t]
  entry_read
  pointwise
  blk_ext [idx t]

/-- The norm's gains. -/
theorem blk_g (c : Dev nD) (t : Fin cfg0.N) (l : Fin 2048) :
    iblk m c 4 t (ix2 0 l) = m ((c : Thread nD τ).loc main_arg4) (ix1 l) := by
  blk_simp [iblk, idx t]
  entry_read
  pointwise
  blk_ext [idx t]

/-- What the body stores in a block's row is the reference's row. -/
theorem row (c : Dev nD) (t : Fin cfg0.N) (p : Fin 512) (r : Fin 16384) (hr : (r : ℕ) = t.val * 512 + p.val) (l : Fin 2048) :
    k0_pay1 (iblk m c 0 t) (iblk m c 3 t) (iblk m c 1 t) (View.ld (iblk m c 2 t) r0_2) (iblk m c 4 t) (ix2 p l)
    = Cert.Reference2Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) (ix2 r l) := by
  have hy := blk_y m c t p r hr
  have hx := blk_x m c t p r hr ⟨r / 8192, by omega⟩ rfl ⟨r % 8192, by omega⟩ rfl
  have hm := fun k : Fin 2048 => blk_mod m c t p r hr ⟨r / 8192, by omega⟩ rfl k ⟨4096 + k, by omega⟩ rfl
  have hw := blk_w m c t
  have hg := blk_g m c t
  pointwise [k0_pay1, Cert.Reference2Ideal.Value.ref]
  simp only [hy, hx, hm, hw, hg]

/-- What the body stores at a block's place is the reference's value at the place's index in the array. -/
theorem point (c : Dev nD) (t : Fin cfg0.N) (y) :
    k0_pay1 (iblk m c 0 t) (iblk m c 3 t) (iblk m c 1 t) (View.ld (iblk m c 2 t) r0_2) (iblk m c 4 t) y
    = Cert.Reference2Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  idx_vars y
  have ht : t.val < 32 := t.isLt
  have e : ((cfg0.win 5).blk t).view.emb (ix2 y0 y1) = ix2 ⟨t.val * 512 + y0.val, by omega⟩ y1 := by blk_ext [idx t]
  rw [e]
  exact row m c t y0 _ rfl y1

/-- The result array after the run is the reference's function of the arguments. -/
theorem final (c : Dev nD) : (dats m 0 c).arrAt 5 (cfgs 0).N = Cert.Reference2Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.Kernel2Ideal.Value

end
-- ==== Proof.Merge.lean ====
/-
  The value of a call: the first mixer's head norms and gate, the two projections and their merge. What a block holds, what the array holds, and the reference's term.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference3Ideal.Value

open Cert.Reference3Ideal Cert.Reference3Ideal.Gen

/-- The reference's result as a function of its arguments. -/
def ref (f : FVec Ideal S2x8192x2048 .bf16) (b : FVec Ideal S2x8192x2048 .bf16) (o : FVec Ideal S16384x2048 .bf16) (gt : FVec Ideal S16384x8192 .bf16) (g : FVec Ideal S1x2048 .f32) (wa : FVec Ideal S1x2048x2048 .f32) (wb : FVec Ideal S1x2048x2048 .f32) : FVec Ideal S16384x2048 .bf16 :=
  truncf .bf16 (shapeCast _ (addf (mulf (extractStridedSlice S2x8192x2048 ![0, 0, 4096] (shapeCast _ (extf .f32 gt bitsLt_bf16_f32) shapeCasts_S16384x8192_S2x8192x8192) slices_S2x8192x8192_S2x8192x2048_0_0_4096) (Host.dotGeneral dot_S2x8192x2048_S2048x2048_S2x8192x2048_2_0_01_1_n_n none (mulf (mulf (shapeCast _ (mulf (shapeCast _ (addf (extf .f32 f bitsLt_bf16_f32) (extf .f32 b bitsLt_bf16_f32)) shapeCasts_S2x8192x2048_S2x8192x16x128) (broadcastInDim S2x8192x16x128 ![0, 1, 2, 3] bcast_S2x8192x16x1_S2x8192x16x128_0_1_2_3 (Host.rsqrt (addf (Host.divf (broadcastInDim S2x8192x16x1 ![0, 1, 2] bcast_S2x8192x16_S2x8192x16x1_0_1_2 (Host.reduceAdd (mulf (shapeCast _ (addf (extf .f32 f bitsLt_bf16_f32) (extf .f32 b bitsLt_bf16_f32)) shapeCasts_S2x8192x2048_S2x8192x16x128) (shapeCast _ (addf (extf .f32 f bitsLt_bf16_f32) (extf .f32 b bitsLt_bf16_f32)) shapeCasts_S2x8192x2048_S2x8192x16x128)) (constant S_ .f32 0x00000000#32) reducesTo_S2x8192x16x128_S2x8192x16_d3 h_S_)) (broadcastInDim S2x8192x16x1 ![] bcast_S_S2x8192x16x1 (constant S_ .f32 0x43000000#32))) (broadcastInDim S2x8192x16x1 ![] bcast_S_S2x8192x16x1 (constant S_ .f32 0x358637BD#32)))))) shapeCasts_S2x8192x16x128_S2x8192x2048) (broadcastInDim S2x8192x2048 ![0, 1, 2] bcast_S1x1x2048_S2x8192x2048_0_1_2 (broadcastInDim S1x1x2048 ![2] bcast_S2048_S1x1x2048_2 (shapeCast _ g shapeCasts_S1x2048_S2048)))) (extractStridedSlice S2x8192x2048 ![0, 0, 0] (shapeCast _ (extf .f32 gt bitsLt_bf16_f32) shapeCasts_S16384x8192_S2x8192x8192) slices_S2x8192x8192_S2x8192x2048_0_0_0)) (shapeCast _ wa shapeCasts_S1x2048x2048_S2048x2048))) (mulf (extractStridedSlice S2x8192x2048 ![0, 0, 6144] (shapeCast _ (extf .f32 gt bitsLt_bf16_f32) shapeCasts_S16384x8192_S2x8192x8192) slices_S2x8192x8192_S2x8192x2048_0_0_6144) (Host.dotGeneral dot_S2x8192x2048_S2048x2048_S2x8192x2048_2_0_01_1_n_n none (shapeCast _ (extf .f32 o bitsLt_bf16_f32) shapeCasts_S16384x2048_S2x8192x2048) (shapeCast _ wb shapeCasts_S1x2048x2048_S2048x2048)))) shapeCasts_S2x8192x2048_S16384x2048) bitsLt_bf16_f32

end Cert.Reference3Ideal.Value

namespace Cert.Kernel3Ideal.Value

open Cert.Kernel3Ideal Cert.Kernel3Ideal.Gen

variable (m : (ℓ : Loc nD τ sig) → Buf (Elt Ideal) ℓ)

/-- Each window's block index at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 2] ∧ win0_5.index t = ![t.val, 3] ∧ win0_6.index t = ![0, 0] ∧ win0_7.index t = ![0, 0] ∧ win0_8.index t = ![0, 0] ∧ win0_9.index t = ![t.val, 0] :=
  (by decide +kernel : ∀ t : Fin grid0.N, _)

/-- Every head's columns lie inside the row. -/
theorem head_slices : ∀ n : Fin 16, S512x2048.Slices ![0, n.val * 128] S512x128 := by decide

/-- One head's columns divided by the root of their mean square. -/
def head (X : FVec Ideal S512x2048 .f32) (n : Fin 16) : FVec Ideal S512x128 .f32 :=
  let u : FVec Ideal S512x128 .f32 := extractStridedSlice S512x128 ![0, n.val * 128] X (head_slices n)
  let q : FVec Ideal S512x1 .f32 := shapeCast S512x1 (multiReduction .add [1] S512 (mulf u u) 0x00000000#32 reduces_S512x128_S512 (.inl rfl) rfl) shapeCasts_S512_S512x1
  mulf u (broadcastTo S512x128 (rsqrt (addf (divf q (broadcast S512x1 (Scalar.ofBits .f32 0x43000000#32))) (broadcast S512x1 (Scalar.ofBits .f32 0x358637BD#32)))) broadcasts_S512x1_S512x128)

/-- A head's column in the row. -/
abbrev col (n : Fin 16) (d : Fin 128) : Fin 2048 := ⟨n.val * 128 + d.val, by omega⟩

theorem head_apply (X : FVec Ideal S512x2048 .f32) (n : Fin 16) (p : Fin 512) (d : Fin 128) :
    head X n (ix2 p d) = X (ix2 p (col n d)) * Ideal.rsqrt (Ideal.div (∑ e : Fin 128, X (ix2 p (col n e)) * X (ix2 p (col n e))) (Ideal.ofBits FTy.f32 0x43000000#32) + Ideal.ofBits FTy.f32 0x358637BD#32) := by
  pointwise [head]

/-- The heads side by side. -/
def heads (X : FVec Ideal S512x2048 .f32) : FVec Ideal S512x2048 .f32 :=
  concatenate S512x2048 1 (List.ofFn fun n : Fin 16 => (⟨S512x128, head X n⟩ : (s : Shape) × (s.Idx → EReal))) concatenates_S512x128_S512x128_S512x128_S512x128_S512x128_S512x128_S512x128_S512x128_S512x128_S512x128_S512x128_S512x128_S512x128_S512x128_S512x128_S512x128_S512x2048_d1

/-- The kernel's sixteen pieces are the heads. -/
theorem pieces (x0 x1 : Vec Ideal S512x2048 .bf16) :
    k0_pay20 (k0_pay2 x0 x1) (k0_pay3 x0 x1) (k0_pay4 x0 x1) (k0_pay5 x0 x1) (k0_pay8 (k0_pay6 x0 x1) (k0_pay7 x0 x1) (Scalar.ofBits .f32 0x43000000#32)) (k0_pay9 (k0_pay2 x0 x1)) (k0_pay10 (k0_pay2 x0 x1)) (k0_pay11 (k0_pay2 x0 x1)) (k0_pay15 (k0_pay12 (k0_pay2 x0 x1)) (k0_pay13 (k0_pay2 x0 x1)) (k0_pay14 (F := Ideal))) (k0_pay16 (k0_pay2 x0 x1)) (k0_pay17 (k0_pay2 x0 x1)) (k0_pay18 (k0_pay2 x0 x1)) (k0_pay19 (k0_pay2 x0 x1))
    = heads (k0_pay2 x0 x1) := rfl

theorem heads_apply (X : FVec Ideal S512x2048 .f32) (p : Fin 512) (k : Fin 2048) :
    heads X (ix2 p k) = head X ⟨k / 128, by omega⟩ (ix2 p ⟨k % 128, by omega⟩) := by
  refine concatenate_ofFn_apply (t := S512x2048) (s₁ := S512x128) 1 (fun n => head X n) _ rfl 128 rfl (ix2 p k) ⟨k / 128, by omega⟩ rfl (ix2 p ⟨k % 128, by omega⟩) rfl fun b hb => ?_
  match b with
  | 0 => rfl
  | 1 => exact absurd rfl hb

/-- The two directions' sum. -/
theorem sum_apply (x0 x1 : Vec Ideal S512x2048 .bf16) (i : S512x2048.Idx) :
    k0_pay2 x0 x1 i = @HAdd.hAdd EReal EReal EReal _ (x0 i) (x1 i) := by
  pointwise [k0_pay2]

/-- The block of a direction's sums is the rows of the sequence the block lies in. -/
theorem blk_f (c : Dev nD) (t : Fin cfg0.N) (p : Fin 512) (r : Fin 16384) (hr : (r : ℕ) = t.val * 512 + p.val)
    (b : Fin 2) (hb : (b : ℕ) = r.val / 8192) (s : Fin 8192) (hs : (s : ℕ) = r.val % 8192) (k : Fin 2048) :
    iblk m c 0 t (ix2 p k) = m ((c : Thread nD τ).loc main_arg0) (ix3 b s k) := by
  blk_simp [iblk, idx t]
  entry_read
  pointwise
  blk_ext [idx t]

/-- The block of the other direction's sums is the rows of the sequence the block lies in. -/
theorem blk_b (c : Dev nD) (t : Fin cfg0.N) (p : Fin 512) (r : Fin 16384) (hr : (r : ℕ) = t.val * 512 + p.val)
    (b : Fin 2) (hb : (b : ℕ) = r.val / 8192) (s : Fin 8192) (hs : (s : ℕ) = r.val % 8192) (k : Fin 2048) :
    iblk m c 1 t (ix2 p k) = m ((c : Thread nD τ).loc main_arg1) (ix3 b s k) := by
  blk_simp [iblk, idx t]
  entry_read
  pointwise
  blk_ext [idx t]

/-- The block of the second mixer's rows is the array's rows. -/
theorem blk_o (c : Dev nD) (t : Fin cfg0.N) (p : Fin 512) (r : Fin 16384) (hr : (r : ℕ) = t.val * 512 + p.val) (k : Fin 2048) :
    iblk m c 2 t (ix2 p k) = m ((c : Thread nD τ).loc main_arg2) (ix2 r k) := by
  blk_ext [iblk, V, idx t]

/-- The gates' block of the first quarter of their columns. -/
theorem blk_gate3 (c : Dev nD) (t : Fin cfg0.N) (p : Fin 512) (r : Fin 16384) (hr : (r : ℕ) = t.val * 512 + p.val) (k : Fin 2048)
    (q : Fin 8192) (hq : (q : ℕ) = k.val) :
    iblk m c 3 t (ix2 p k) = m ((c : Thread nD τ).loc main_arg3) (ix2 r q) := by
  blk_ext [iblk, V, idx t]

/-- The gates' block of the third quarter of their columns. -/
theorem blk_gate4 (c : Dev nD) (t : Fin cfg0.N) (p : Fin 512) (r : Fin 16384) (hr : (r : ℕ) = t.val * 512 + p.val) (k : Fin 2048)
    (q : Fin 8192) (hq : (q : ℕ) = 4096 + k.val) :
    iblk m c 4 t (ix2 p k) = m ((c : Thread nD τ).loc main_arg3) (ix2 r q) := by
  blk_ext [iblk, V, idx t]

/-- The gates' block of the fourth quarter of their columns. -/
theorem blk_gate5 (c : Dev nD) (t : Fin cfg0.N) (p : Fin 512) (r : Fin 16384) (hr : (r : ℕ) = t.val * 512 + p.val) (k : Fin 2048)
    (q : Fin 8192) (hq : (q : ℕ) = 6144 + k.val) :
    iblk m c 5 t (ix2 p k) = m ((c : Thread nD τ).loc main_arg3) (ix2 r q) := by
  blk_ext [iblk, V, idx t]

/-- The head norm's gains. -/
theorem blk_g (c : Dev nD) (t : Fin cfg0.N) (l : Fin 2048) :
    iblk m c 6 t (ix2 0 l) = m ((c : Thread nD τ).loc main_arg4) (ix2 0 l) := by
  blk_simp [iblk, idx t]
  entry_read
  pointwise
  blk_ext [idx t]

/-- A projection's block is the projection. -/
theorem blk_w7 (c : Dev nD) (t : Fin cfg0.N) (k l : Fin 2048) :
    iblk m c 7 t (ix2 k l) = m ((c : Thread nD τ).loc main_arg5) (ix3 0 k l) := by
  blk_simp [iblk, idx t]
  entry_read
  pointwise
  blk_ext [idx t]

/-- A projection's block is the projection. -/
theorem blk_w8 (c : Dev nD) (t : Fin cfg0.N) (k l : Fin 2048) :
    iblk m c 8 t (ix2 k l) = m ((c : Thread nD τ).loc main_arg6) (ix3 0 k l) := by
  blk_simp [iblk, idx t]
  entry_read
  pointwise
  blk_ext [idx t]

set_option maxHeartbeats 1600000 in
/-- What the body stores in a block's row is the reference's row. -/
theorem row (c : Dev nD) (t : Fin cfg0.N) (p : Fin 512) (r : Fin 16384) (hr : (r : ℕ) = t.val * 512 + p.val) (l : Fin 2048) :
    k0_pay1 (heads (k0_pay2 (iblk m c 0 t) (iblk m c 1 t))) (iblk m c 6 t) (iblk m c 3 t) (iblk m c 7 t) (iblk m c 2 t) (iblk m c 8 t) (iblk m c 4 t) (iblk m c 5 t) (ix2 p l)
    = Cert.Reference3Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r l) := by
  have hf := blk_f m c t p r hr ⟨r / 8192, by omega⟩ rfl ⟨r % 8192, by omega⟩ rfl
  have hb := blk_b m c t p r hr ⟨r / 8192, by omega⟩ rfl ⟨r % 8192, by omega⟩ rfl
  have ho := blk_o m c t p r hr
  have h3 := fun k : Fin 2048 => blk_gate3 m c t p r hr k ⟨k, by omega⟩ rfl
  have h4 := fun k : Fin 2048 => blk_gate4 m c t p r hr k ⟨4096 + k, by omega⟩ rfl
  have h5 := fun k : Fin 2048 => blk_gate5 m c t p r hr k ⟨6144 + k, by omega⟩ rfl
  have hg := blk_g m c t
  have h7 := blk_w7 m c t
  have h8 := blk_w8 m c t
  have hc : ∀ k : Fin 2048, col ⟨k / 128, by omega⟩ ⟨k % 128, by omega⟩ = k := fun k => Fin.ext (Nat.div_add_mod' k 128)
  pointwise [k0_pay1, Cert.Reference3Ideal.Value.ref]
  simp only [heads_apply, head_apply, sum_apply, hf, hb, hc, ho, h3, h4, h5, hg, h7, h8]

/-- What the body stores at a block's place is the reference's value at the place's index in the array. -/
theorem point (c : Dev nD) (t : Fin cfg0.N) (y) :
    k0_pay1 (heads (k0_pay2 (iblk m c 0 t) (iblk m c 1 t))) (iblk m c 6 t) (iblk m c 3 t) (iblk m c 7 t) (iblk m c 2 t) (iblk m c 8 t) (iblk m c 4 t) (iblk m c 5 t) y
    = Cert.Reference3Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  idx_vars y
  have ht : t.val < 32 := t.isLt
  have e : ((cfg0.win 9).blk t).view.emb (ix2 y0 y1) = ix2 ⟨t.val * 512 + y0.val, by omega⟩ y1 := by blk_ext [idx t]
  rw [e]
  exact row m c t y0 _ rfl y1

/-- The result array after the run is the reference's function of the arguments. -/
theorem final (c : Dev nD) : (dats m 0 c).arrAt 9 (cfgs 0).N = Cert.Reference3Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  unfold out0_9 k0_pay21
  rw [pieces]
  frame_out
  exact point m c t y

end Cert.Kernel3Ideal.Value

end
-- ==== Proof.Heads.lean ====
/-
  The value of a call: the second mixer's head norms and gate. What a block holds, what the array holds, and the reference's term.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference4Ideal.Value

open Cert.Reference4Ideal Cert.Reference4Ideal.Gen

/-- The reference's result as a function of its arguments. -/
def ref (f : FVec Ideal S2x64x128x2048 .bf16) (b : FVec Ideal S2x64x128x2048 .bf16) (gt : FVec Ideal S16384x8192 .bf16) (g : FVec Ideal S1x2048 .f32) : FVec Ideal S16384x2048 .bf16 :=
  truncf .bf16 (shapeCast _ (mulf (mulf (shapeCast _ (mulf (shapeCast _ (transpose S2x128x64x2048 [0, 2, 1, 3] (addf (extf .f32 f bitsLt_bf16_f32) (extf .f32 b bitsLt_bf16_f32)) transposes_S2x64x128x2048_S2x128x64x2048_0_2_1_3) shapeCasts_S2x128x64x2048_S2x8192x4x512) (broadcastInDim S2x8192x4x512 ![0, 1, 2, 3] bcast_S2x8192x4x1_S2x8192x4x512_0_1_2_3 (Host.rsqrt (addf (Host.divf (broadcastInDim S2x8192x4x1 ![0, 1, 2] bcast_S2x8192x4_S2x8192x4x1_0_1_2 (Host.reduceAdd (mulf (shapeCast _ (transpose S2x128x64x2048 [0, 2, 1, 3] (addf (extf .f32 f bitsLt_bf16_f32) (extf .f32 b bitsLt_bf16_f32)) transposes_S2x64x128x2048_S2x128x64x2048_0_2_1_3) shapeCasts_S2x128x64x2048_S2x8192x4x512) (shapeCast _ (transpose S2x128x64x2048 [0, 2, 1, 3] (addf (extf .f32 f bitsLt_bf16_f32) (extf .f32 b bitsLt_bf16_f32)) transposes_S2x64x128x2048_S2x128x64x2048_0_2_1_3) shapeCasts_S2x128x64x2048_S2x8192x4x512)) (constant S_ .f32 0x00000000#32) reducesTo_S2x8192x4x512_S2x8192x4_d3 h_S_)) (broadcastInDim S2x8192x4x1 ![] bcast_S_S2x8192x4x1 (constant S_ .f32 0x44000000#32))) (broadcastInDim S2x8192x4x1 ![] bcast_S_S2x8192x4x1 (constant S_ .f32 0x358637BD#32)))))) shapeCasts_S2x8192x4x512_S2x8192x2048) (broadcastInDim S2x8192x2048 ![0, 1, 2] bcast_S1x1x2048_S2x8192x2048_0_1_2 (broadcastInDim S1x1x2048 ![2] bcast_S2048_S1x1x2048_2 (shapeCast _ g shapeCasts_S1x2048_S2048)))) (extractStridedSlice S2x8192x2048 ![0, 0, 2048] (shapeCast _ (extf .f32 gt bitsLt_bf16_f32) shapeCasts_S16384x8192_S2x8192x8192) slices_S2x8192x8192_S2x8192x2048_0_0_2048)) shapeCasts_S2x8192x2048_S16384x2048) bitsLt_bf16_f32

end Cert.Reference4Ideal.Value

namespace Cert.Kernel4Ideal.Value

open Cert.Kernel4Ideal Cert.Kernel4Ideal.Gen

variable (m : (ℓ : Loc nD τ sig) → Buf (Elt Ideal) ℓ)

/-- Each window's block index at a grid point. -/
theorem idx : ∀ t : Fin cfg0.N, win0_0.index t = ![t.val / 32, 0, t.val / 4 % 8, t.val % 4] ∧ win0_1.index t = ![t.val / 32, 0, t.val / 4 % 8, t.val % 4] ∧ win0_2.index t = ![t.val / 4, 4 + t.val % 4] ∧ win0_3.index t = ![0, t.val % 4] ∧ win0_4.index t = ![t.val / 4, t.val % 4] :=
  (by decide +kernel : ∀ t : Fin grid0.N, _)

/-- A block of a direction's sums is the array's columns of a tile of rows and of one head. -/
theorem blk_f (c : Dev nD) (t : Fin cfg0.N) (u : Fin 64) (v : Fin 16) (l : Fin 512) (b : Fin 2) (hb : (b : ℕ) = t.val / 32)
    (w : Fin 128) (hw : (w : ℕ) = t.val / 4 % 8 * 16 + v.val) (q : Fin 2048) (hq : (q : ℕ) = t.val % 4 * 512 + l.val) :
    iblk m c 0 t (ix4 0 u v l) = m ((c : Thread nD τ).loc main_arg0) (ix4 b u w q) := by
  blk_ext [iblk, V, idx t]

/-- The same of the other direction. -/
theorem blk_b (c : Dev nD) (t : Fin cfg0.N) (u : Fin 64) (v : Fin 16) (l : Fin 512) (b : Fin 2) (hb : (b : ℕ) = t.val / 32)
    (w : Fin 128) (hw : (w : ℕ) = t.val / 4 % 8 * 16 + v.val) (q : Fin 2048) (hq : (q : ℕ) = t.val % 4 * 512 + l.val) :
    iblk m c 1 t (ix4 0 u v l) = m ((c : Thread nD τ).loc main_arg1) (ix4 b u w q) := by
  blk_ext [iblk, V, idx t]

/-- The gate's block lies in the second quarter of the gates' columns. -/
theorem blk_gate (c : Dev nD) (t : Fin cfg0.N) (p : Fin 1024) (l : Fin 512) (r : Fin 16384) (hr : (r : ℕ) = t.val / 4 * 1024 + p.val)
    (q : Fin 8192) (hq : (q : ℕ) = 2048 + (t.val % 4 * 512 + l.val)) :
    iblk m c 2 t (ix2 p l) = m ((c : Thread nD τ).loc main_arg2) (ix2 r q) := by
  blk_ext [iblk, V, idx t]

/-- The head norm's gains. -/
theorem blk_g (c : Dev nD) (t : Fin cfg0.N) (l : Fin 512) (q : Fin 2048) (hq : (q : ℕ) = t.val % 4 * 512 + l.val) :
    iblk m c 3 t (ix2 0 l) = m ((c : Thread nD τ).loc main_arg3) (ix2 0 q) := by
  blk_simp [iblk, idx t]
  entry_read
  pointwise
  blk_ext [idx t]

/-- What the body stores in a block's row is the reference's row. -/
theorem row (c : Dev nD) (t : Fin cfg0.N) (p : Fin 1024) (l : Fin 512) (r : Fin 16384) (hr : (r : ℕ) = t.val / 4 * 1024 + p.val)
    (q : Fin 2048) (hq : (q : ℕ) = t.val % 4 * 512 + l.val) :
    k0_pay1 (iblk m c 0 t) (iblk m c 1 t) (iblk m c 3 t) (iblk m c 2 t) (ix2 p l)
    = Cert.Reference4Ideal.Value.ref (m ((c : Thread nD τ).loc main_arg0)) (m ((c : Thread nD τ).loc main_arg1)) (m ((c : Thread nD τ).loc main_arg2)) (m ((c : Thread nD τ).loc main_arg3)) (ix2 r q) := by
  have ht : t.val < 64 := t.isLt
  have hf := fun l (q : Fin 2048) hq => blk_f m c t ⟨p % 64, by omega⟩ ⟨p / 64, by omega⟩ l ⟨r / 8192, by omega⟩ (by simp only; omega) ⟨r % 8192 / 64, by omega⟩ (by simp only; omega) q hq
  have hb := fun l (q : Fin 2048) hq => blk_b m c t ⟨p % 64, by omega⟩ ⟨p / 64, by omega⟩ l ⟨r / 8192, by omega⟩ (by simp only; omega) ⟨r % 8192 / 64, by omega⟩ (by simp only; omega) q hq
  have hs := fun x : Fin 512 => (⟨hf x ⟨q / 512 * 512 + x, by omega⟩ (by simp only; omega), hb x ⟨q / 512 * 512 + x, by omega⟩ (by simp only; omega)⟩ : _ ∧ _)
  have he : (⟨r % 8192 % 64, by omega⟩ : Fin 64) = ⟨p % 64, by omega⟩ := Fin.ext (by simp only; omega)
  have hl : (⟨q / 512 * 512 + l, by omega⟩ : Fin 2048) = q := Fin.ext (by simp only; omega)
  pointwise [k0_pay1, Cert.Reference4Ideal.Value.ref]
  simp only [fun x => (hs x).1, fun x => (hs x).2, hl, blk_gate m c t p l r hr ⟨2048 + q, by omega⟩ (by simp only; omega), blk_g m c t l q hq, he]

/-- What the body stores at a block's place is the reference's value at the place's index in the array. -/
theorem point (c : Dev nD) (t : Fin cfg0.N) (y) :
    k0_pay1 (iblk m c 0 t) (iblk m c 1 t) (iblk m c 3 t) (iblk m c 2 t) y
    = Cert.Reference4Ideal.Value.ref (m ((c : Thread nD τ).loc main_arg0)) (m ((c : Thread nD τ).loc main_arg1)) (m ((c : Thread nD τ).loc main_arg2)) (m ((c : Thread nD τ).loc main_arg3)) (((cfg0.win 4).blk t).view.emb y) := by
  idx_vars y
  have ht : t.val < 64 := t.isLt
  have e : ((cfg0.win 4).blk t).view.emb (ix2 y0 y1) = ix2 ⟨t.val / 4 * 1024 + y0.val, by omega⟩ ⟨t.val % 4 * 512 + y1.val, by omega⟩ := by blk_ext [idx t]
  rw [e]
  exact row m c t y0 y1 _ rfl _ rfl

/-- The result array after the run is the reference's function of the arguments. -/
theorem final (c : Dev nD) : (dats m 0 c).arrAt 4 (cfgs 0).N = Cert.Reference4Ideal.Value.ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.Kernel4Ideal.Value

end
-- ==== Proof.InprojKit.lean ====
/-
  The input projection: its branches point by point, its staged blocks and its two kept buffers.
-/
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the first branch is taken. -/
abbrev cond0_0 (i : grid0.Coords) : Prop := k0_cond1 i = 1#1
/-- The first branch is taken at the first point of a tile. -/
theorem hcond0_0 : ∀ t : Fin cfg0.N, cond0_0 (grid0.coords t) ↔ t.val % 20 = 0 :=
  (fun t => by
    have ht : t.val < 320 := Nat.lt_of_lt_of_eq t.isLt N_0
    have e0 : (grid0.coords t 0).val = t.val / 20 % 16 := Pipeline.Grid.coords_val t 0 (by decide) rfl
    have e1 : (grid0.coords t 1).val = t.val / 1 % 20 := Pipeline.Grid.coords_val t 1 (by decide) rfl
    simp only [cond0_0, k0_cond1, e0, e1]
    word_cmp
   : ∀ t : Fin grid0.N, cond0_0 (grid0.coords t) ↔ t.val % 20 = 0)

/-- Whether the second branch is taken. -/
abbrev cond0_1 (i : grid0.Coords) : Prop := k0_cond2 i = 1#1
/-- The second branch is taken at the next three points of a tile. -/
theorem hcond0_1 : ∀ t : Fin cfg0.N, cond0_1 (grid0.coords t) ↔ (1 ≤ t.val % 20 ∧ t.val % 20 ≤ 3) :=
  (by decide +kernel : ∀ t : Fin grid0.N, cond0_1 (grid0.coords t) ↔ (1 ≤ t.val % 20 ∧ t.val % 20 ≤ 3))

/-- Whether the third branch is taken. -/
abbrev cond0_2 (i : grid0.Coords) : Prop := k0_cond3 i = 1#1
/-- The third branch is taken at the four points after those. -/
theorem hcond0_2 : ∀ t : Fin cfg0.N, cond0_2 (grid0.coords t) ↔ (4 ≤ t.val % 20 ∧ t.val % 20 ≤ 7) :=
  (by decide +kernel : ∀ t : Fin grid0.N, cond0_2 (grid0.coords t) ↔ (4 ≤ t.val % 20 ∧ t.val % 20 ≤ 7))

/-- Whether the fourth branch is taken. -/
abbrev cond0_3 (i : grid0.Coords) : Prop := k0_cond4 i = 1#1
/-- The fourth branch is taken at the four points after those. -/
theorem hcond0_3 : ∀ t : Fin cfg0.N, cond0_3 (grid0.coords t) ↔ (8 ≤ t.val % 20 ∧ t.val % 20 ≤ 11) :=
  (by decide +kernel : ∀ t : Fin grid0.N, cond0_3 (grid0.coords t) ↔ (8 ≤ t.val % 20 ∧ t.val % 20 ≤ 11))

/-- Whether the last branch is taken. -/
abbrev cond0_4 (i : grid0.Coords) : Prop := k0_cond5 i = 1#1
/-- The last branch is taken at the last eight points of a tile. -/
theorem hcond0_4 : ∀ t : Fin cfg0.N, cond0_4 (grid0.coords t) ↔ 12 ≤ t.val % 20 :=
  (by decide +kernel : ∀ t : Fin grid0.N, cond0_4 (grid0.coords t) ↔ 12 ≤ t.val % 20)

/-- The staged block of window 0 at a point. -/
abbrev ms0_0 (t : Fin cfg0.N) : Memref sig .tc .vmem S1024x2048 .f32 := win0_0.stage (cfg0.slots t 0)
/-- It is a whole buffer. -/
abbrev hs0_0 (t : Fin cfg0.N) : (ms0_0 t).IsWhole := hstage0_0 ((cfg0.slots t 0).cast nbuf0_0)
/-- The staged block of window 1 at a point. -/
abbrev ms0_1 (t : Fin cfg0.N) : Memref sig .tc .vmem S1x3x2048 .f32 := win0_1.stage (cfg0.slots t 1)
/-- It is a whole buffer. -/
abbrev hs0_1 (t : Fin cfg0.N) : (ms0_1 t).IsWhole := hstage0_1 ((cfg0.slots t 1).cast nbuf0_1)
/-- The staged block of window 2 at a point. -/
abbrev ms0_2 (t : Fin cfg0.N) : Memref sig .tc .vmem S1x2048 .f32 := win0_2.stage (cfg0.slots t 2)
/-- It is a whole buffer. -/
abbrev hs0_2 (t : Fin cfg0.N) : (ms0_2 t).IsWhole := hstage0_2 ((cfg0.slots t 2).cast nbuf0_2)
/-- The staged block of window 3 at a point. -/
abbrev ms0_3 (t : Fin cfg0.N) : Memref sig .tc .vmem S2048x1024 .bf16 := win0_3.stage (cfg0.slots t 3)
/-- It is a whole buffer. -/
abbrev hs0_3 (t : Fin cfg0.N) : (ms0_3 t).IsWhole := hstage0_3 ((cfg0.slots t 3).cast nbuf0_3)
/-- The staged block of window 4 at a point. -/
abbrev ms0_4 (t : Fin cfg0.N) : Memref sig .tc .vmem S2048x128 .bf16 := win0_4.stage (cfg0.slots t 4)
/-- It is a whole buffer. -/
abbrev hs0_4 (t : Fin cfg0.N) : (ms0_4 t).IsWhole := hstage0_4 ((cfg0.slots t 4).cast nbuf0_4)
/-- The staged block of window 5 at a point. -/
abbrev ms0_5 (t : Fin cfg0.N) : Memref sig .tc .vmem S1x1024 .f32 := win0_5.stage (cfg0.slots t 5)
/-- It is a whole buffer. -/
abbrev hs0_5 (t : Fin cfg0.N) : (ms0_5 t).IsWhole := hstage0_5 ((cfg0.slots t 5).cast nbuf0_5)
/-- The staged block of window 6 at a point. -/
abbrev ms0_6 (t : Fin cfg0.N) : Memref sig .tc .vmem S128x512 .bf16 := win0_6.stage (cfg0.slots t 6)
/-- It is a whole buffer. -/
abbrev hs0_6 (t : Fin cfg0.N) : (ms0_6 t).IsWhole := hstage0_6 ((cfg0.slots t 6).cast nbuf0_6)
/-- The staged block of window 7 at a point. -/
abbrev ms0_7 (t : Fin cfg0.N) : Memref sig .tc .vmem S1x512 .f32 := win0_7.stage (cfg0.slots t 7)
/-- It is a whole buffer. -/
abbrev hs0_7 (t : Fin cfg0.N) : (ms0_7 t).IsWhole := hstage0_7 ((cfg0.slots t 7).cast nbuf0_7)
/-- The staged block of window 8 at a point. -/
abbrev ms0_8 (t : Fin cfg0.N) : Memref sig .tc .vmem S1024x1024 .bf16 := win0_8.stage (cfg0.slots t 8)
/-- It is a whole buffer. -/
abbrev hs0_8 (t : Fin cfg0.N) : (ms0_8 t).IsWhole := hstage0_8 ((cfg0.slots t 8).cast nbuf0_8)
/-- The staged block of window 9 at a point. -/
abbrev ms0_9 (t : Fin cfg0.N) : Memref sig .tc .vmem S1024x1024 .f32 := win0_9.stage (cfg0.slots t 9)
/-- It is a whole buffer. -/
abbrev hs0_9 (t : Fin cfg0.N) : (ms0_9 t).IsWhole := hstage0_9 ((cfg0.slots t 9).cast nbuf0_9)
/-- The staged block of window 10 at a point. -/
abbrev ms0_10 (t : Fin cfg0.N) : Memref sig .tc .vmem S1x64x16x1024 .bf16 := win0_10.stage (cfg0.slots t 10)
/-- It is a whole buffer. -/
abbrev hs0_10 (t : Fin cfg0.N) : (ms0_10 t).IsWhole := hstage0_10 ((cfg0.slots t 10).cast nbuf0_10)
/-- The staged block of window 11 at a point. -/
abbrev ms0_11 (t : Fin cfg0.N) : Memref sig .tc .vmem S1x64x16x512 .f32 := win0_11.stage (cfg0.slots t 11)
/-- It is a whole buffer. -/
abbrev hs0_11 (t : Fin cfg0.N) : (ms0_11 t).IsWhole := hstage0_11 ((cfg0.slots t 11).cast nbuf0_11)
/-- The staged block of window 12 at a point. -/
abbrev ms0_12 (t : Fin cfg0.N) : Memref sig .tc .vmem S1024x1024 .bf16 := win0_12.stage (cfg0.slots t 12)
/-- It is a whole buffer. -/
abbrev hs0_12 (t : Fin cfg0.N) : (ms0_12 t).IsWhole := hstage0_12 ((cfg0.slots t 12).cast nbuf0_12)
/-- The kept rows. -/
abbrev scM0_0 : Memref sig .tc .vmem S1024x2048 .bf16 := Memref.whole cc0_scratch0
/-- The kept low-rank rows. -/
abbrev scM0_1 : Memref sig .tc .vmem S1024x128 .bf16 := Memref.whole cc0_scratch1

/-- What the region keeps between points is the two kept buffers at any contents and the generator. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel5Ideal.Inproj

end
-- ==== Proof.InprojRows.lean ====
/-
  Blocks written in eight pieces of rows.
-/
module

public import proofs.«01_k».proof.Proof.InprojKit
public import Idealize.ShloMosaic.Lib.WritesUnit
public import Idealize.ShloMosaic.Lib.VecWindow

@[expose] public section

set_option maxRecDepth 16384

noncomputable section

namespace Cert.Kernel5Ideal.Inproj

open Cert.Kernel5Ideal Cert.Kernel5Ideal.Gen
open Idealize.ShloMosaic Idealize.ShloMosaic.TcCoe

variable {F : FTy → Type} [FloatOps F]

/-- The rows of one piece of eight. -/
def rows {e : EltTy} (k : Fin 8) (h : Vec F S1024x2048 e) : Vec F S128x2048 e :=
  fun y => h (ix2 ⟨128 * k.val + (y 0).val, by have : (y 0).val < 128 := (y 0).isLt; show _ < 1024; omega⟩ (y 1))

/-- One row of the modulation's block. -/
def mrow {e : EltTy} (a : Fin 3) (h : Vec F S1x3x2048 e) : Vec F S1x1x2048 e := fun y => h (ix3 0 a (y 2))

/-- A block written in eight pieces of rows, each from its own piece. -/
def Pieces {e : EltTy} (n : ℕ) (f : Fin 8 → Vec F ⟨2, ![128, n]⟩ e) (X : Vec F ⟨2, ![1024, n]⟩ e) : Prop :=
  ∀ (k : Fin 8) (p : Fin 128) (l : Fin n) (r : Fin 1024), r.val = 128 * k.val + p.val → X (ix2 r l) = f k (ix2 p l)

/-- Reading a piece of rows of a buffer is the piece of what the buffer holds. -/
theorem readAt_rows {κ : Kind} {sp : Space} {e : EltTy} (v : View sig κ sp S1024x2048 e) (f : v.ty.Contents (Elt F)) (k : Fin 8) {off : Fin 2 → ℕ}
    (hoff : off = ![128 * k.val, 0]) (inb : ∀ a, off a + (![128, 2048] : Fin 2 → ℕ) a ≤ S1024x2048.size a) :
    v.readAt (Elt F) (Rect.unit (s := S1024x2048) off ![128, 2048] inb).toLoadRect f = rows k (v.read (Elt F) f) := by
  subst hoff
  funext y
  refine congrArg (v.read (Elt F) f) (funext fun a => Fin.ext ?_)
  match a with
  | 0 => show 128 * k.val + 1 * (y 0).val = 128 * k.val + (y 0).val; omega
  | 1 => show 0 + 1 * (y 1).val = (y 1).val; omega

/-- Reading a row of the modulation's block. -/
theorem readAt_mrow {κ : Kind} {sp : Space} {e : EltTy} (v : View sig κ sp S1x3x2048 e) (f : v.ty.Contents (Elt F)) (k : Fin 3) {off : Fin 3 → ℕ}
    (hoff : off = ![0, k.val, 0]) (inb : ∀ a, off a + (![1, 1, 2048] : Fin 3 → ℕ) a ≤ S1x3x2048.size a) :
    v.readAt (Elt F) (Rect.unit (s := S1x3x2048) off ![1, 1, 2048] inb).toLoadRect f = mrow k (v.read (Elt F) f) := by
  subst hoff
  funext y
  refine congrArg (v.read (Elt F) f) (funext fun a => Fin.ext ?_)
  match a with
  | 0 => show 0 + 1 * (y 0).val = 0; have : (y 0).val < 1 := (y 0).isLt; omega
  | 1 => show k.val + 1 * (y 1).val = k.val; have : (y 1).val < 1 := (y 1).isLt; omega
  | 2 => show 0 + 1 * (y 2).val = (y 2).val; omega

/-- Eight stores of pieces of rows leave those pieces. -/
theorem pieces_of {κ : Kind} {sp : Space} {e : EltTy} {n : ℕ} (v : View sig κ sp ⟨2, ![1024, n]⟩ e) (f : v.ty.Contents (Elt F))
    (G : Fin 8 → Vec F ⟨2, ![128, n]⟩ e)
    (i0 : ∀ a, (![0, 0] : Fin 2 → ℕ) a + (![128, n] : Fin 2 → ℕ) a ≤ (⟨2, ![1024, n]⟩ : Shape).size a)
    (i1 : ∀ a, (![128, 0] : Fin 2 → ℕ) a + (![128, n] : Fin 2 → ℕ) a ≤ (⟨2, ![1024, n]⟩ : Shape).size a)
    (i2 : ∀ a, (![256, 0] : Fin 2 → ℕ) a + (![128, n] : Fin 2 → ℕ) a ≤ (⟨2, ![1024, n]⟩ : Shape).size a)
    (i3 : ∀ a, (![384, 0] : Fin 2 → ℕ) a + (![128, n] : Fin 2 → ℕ) a ≤ (⟨2, ![1024, n]⟩ : Shape).size a)
    (i4 : ∀ a, (![512, 0] : Fin 2 → ℕ) a + (![128, n] : Fin 2 → ℕ) a ≤ (⟨2, ![1024, n]⟩ : Shape).size a)
    (i5 : ∀ a, (![640, 0] : Fin 2 → ℕ) a + (![128, n] : Fin 2 → ℕ) a ≤ (⟨2, ![1024, n]⟩ : Shape).size a)
    (i6 : ∀ a, (![768, 0] : Fin 2 → ℕ) a + (![128, n] : Fin 2 → ℕ) a ≤ (⟨2, ![1024, n]⟩ : Shape).size a)
    (i7 : ∀ a, (![896, 0] : Fin 2 → ℕ) a + (![128, n] : Fin 2 → ℕ) a ≤ (⟨2, ![1024, n]⟩ : Shape).size a)
    {g0 g1 g2 g3 g4 g5 g6 g7 : Vec F ⟨2, ![128, n]⟩ e}
    (h0 : g0 = G 0) (h1 : g1 = G 1) (h2 : g2 = G 2) (h3 : g3 = G 3) (h4 : g4 = G 4) (h5 : g5 = G 5) (h6 : g6 = G 6) (h7 : g7 = G 7) :
    Pieces n G (v.read (Elt F) (v.writes (Elt F) f
      [⟨Rect.unit (s := ⟨2, ![1024, n]⟩) ![896, 0] ![128, n] i7, g7⟩, ⟨Rect.unit (s := ⟨2, ![1024, n]⟩) ![768, 0] ![128, n] i6, g6⟩,
        ⟨Rect.unit (s := ⟨2, ![1024, n]⟩) ![640, 0] ![128, n] i5, g5⟩, ⟨Rect.unit (s := ⟨2, ![1024, n]⟩) ![512, 0] ![128, n] i4, g4⟩,
        ⟨Rect.unit (s := ⟨2, ![1024, n]⟩) ![384, 0] ![128, n] i3, g3⟩, ⟨Rect.unit (s := ⟨2, ![1024, n]⟩) ![256, 0] ![128, n] i2, g2⟩,
        ⟨Rect.unit (s := ⟨2, ![1024, n]⟩) ![128, 0] ![128, n] i1, g1⟩, ⟨Rect.unit (s := ⟨2, ![1024, n]⟩) ![0, 0] ![128, n] i0, g0⟩])) := by
  subst h0 h1 h2 h3 h4 h5 h6 h7
  intro k p l r hr
  have hp := p.isLt
  match k with
  | 0 =>
    rw [View.read_writes_cons_rows_of_not_mem v f i7 _ _ (ix2 r l) rfl rfl (.inl (by show r.val < _; rw [hr]; show 128 * 0 + _ < _; omega))]
    rw [View.read_writes_cons_rows_of_not_mem v f i6 _ _ (ix2 r l) rfl rfl (.inl (by show r.val < _; rw [hr]; show 128 * 0 + _ < _; omega))]
    rw [View.read_writes_cons_rows_of_not_mem v f i5 _ _ (ix2 r l) rfl rfl (.inl (by show r.val < _; rw [hr]; show 128 * 0 + _ < _; omega))]
    rw [View.read_writes_cons_rows_of_not_mem v f i4 _ _ (ix2 r l) rfl rfl (.inl (by show r.val < _; rw [hr]; show 128 * 0 + _ < _; omega))]
    rw [View.read_writes_cons_rows_of_not_mem v f i3 _ _ (ix2 r l) rfl rfl (.inl (by show r.val < _; rw [hr]; show 128 * 0 + _ < _; omega))]
    rw [View.read_writes_cons_rows_of_not_mem v f i2 _ _ (ix2 r l) rfl rfl (.inl (by show r.val < _; rw [hr]; show 128 * 0 + _ < _; omega))]
    rw [View.read_writes_cons_rows_of_not_mem v f i1 _ _ (ix2 r l) rfl rfl (.inl (by show r.val < _; rw [hr]; show 128 * 0 + _ < _; omega))]
    exact View.read_writes_cons_rows_of_mem v f i0 _ _ (ix2 r l) (ix2 p l) rfl hr rfl
  | 1 =>
    rw [View.read_writes_cons_rows_of_not_mem v f i7 _ _ (ix2 r l) rfl rfl (.inl (by show r.val < _; rw [hr]; show 128 * 1 + _ < _; omega))]
    rw [View.read_writes_cons_rows_of_not_mem v f i6 _ _ (ix2 r l) rfl rfl (.inl (by show r.val < _; rw [hr]; show 128 * 1 + _ < _; omega))]
    rw [View.read_writes_cons_rows_of_not_mem v f i5 _ _ (ix2 r l) rfl rfl (.inl (by show r.val < _; rw [hr]; show 128 * 1 + _ < _; omega))]
    rw [View.read_writes_cons_rows_of_not_mem v f i4 _ _ (ix2 r l) rfl rfl (.inl (by show r.val < _; rw [hr]; show 128 * 1 + _ < _; omega))]
    rw [View.read_writes_cons_rows_of_not_mem v f i3 _ _ (ix2 r l) rfl rfl (.inl (by show r.val < _; rw [hr]; show 128 * 1 + _ < _; omega))]
    rw [View.read_writes_cons_rows_of_not_mem v f i2 _ _ (ix2 r l) rfl rfl (.inl (by show r.val < _; rw [hr]; show 128 * 1 + _ < _; omega))]
    exact View.read_writes_cons_rows_of_mem v f i1 _ _ (ix2 r l) (ix2 p l) rfl hr rfl
  | 2 =>
    rw [View.read_writes_cons_rows_of_not_mem v f i7 _ _ (ix2 r l) rfl rfl (.inl (by show r.val < _; rw [hr]; show 128 * 2 + _ < _; omega))]
    rw [View.read_writes_cons_rows_of_not_mem v f i6 _ _ (ix2 r l) rfl rfl (.inl (by show r.val < _; rw [hr]; show 128 * 2 + _ < _; omega))]
    rw [View.read_writes_cons_rows_of_not_mem v f i5 _ _ (ix2 r l) rfl rfl (.inl (by show r.val < _; rw [hr]; show 128 * 2 + _ < _; omega))]
    rw [View.read_writes_cons_rows_of_not_mem v f i4 _ _ (ix2 r l) rfl rfl (.inl (by show r.val < _; rw [hr]; show 128 * 2 + _ < _; omega))]
    rw [View.read_writes_cons_rows_of_not_mem v f i3 _ _ (ix2 r l) rfl rfl (.inl (by show r.val < _; rw [hr]; show 128 * 2 + _ < _; omega))]
    exact View.read_writes_cons_rows_of_mem v f i2 _ _ (ix2 r l) (ix2 p l) rfl hr rfl
  | 3 =>
    rw [View.read_writes_cons_rows_of_not_mem v f i7 _ _ (ix2 r l) rfl rfl (.inl (by show r.val < _; rw [hr]; show 128 * 3 + _ < _; omega))]
    rw [View.read_writes_cons_rows_of_not_mem v f i6 _ _ (ix2 r l) rfl rfl (.inl (by show r.val < _; rw [hr]; show 128 * 3 + _ < _; omega))]
    rw [View.read_writes_cons_rows_of_not_mem v f i5 _ _ (ix2 r l) rfl rfl (.inl (by show r.val < _; rw [hr]; show 128 * 3 + _ < _; omega))]
    rw [View.read_writes_cons_rows_of_not_mem v f i4 _ _ (ix2 r l) rfl rfl (.inl (by show r.val < _; rw [hr]; show 128 * 3 + _ < _; omega))]
    exact View.read_writes_cons_rows_of_mem v f i3 _ _ (ix2 r l) (ix2 p l) rfl hr rfl
  | 4 =>
    rw [View.read_writes_cons_rows_of_not_mem v f i7 _ _ (ix2 r l) rfl rfl (.inl (by show r.val < _; rw [hr]; show 128 * 4 + _ < _; omega))]
    rw [View.read_writes_cons_rows_of_not_mem v f i6 _ _ (ix2 r l) rfl rfl (.inl (by show r.val < _; rw [hr]; show 128 * 4 + _ < _; omega))]
    rw [View.read_writes_cons_rows_of_not_mem v f i5 _ _ (ix2 r l) rfl rfl (.inl (by show r.val < _; rw [hr]; show 128 * 4 + _ < _; omega))]
    exact View.read_writes_cons_rows_of_mem v f i4 _ _ (ix2 r l) (ix2 p l) rfl hr rfl
  | 5 =>
    rw [View.read_writes_cons_rows_of_not_mem v f i7 _ _ (ix2 r l) rfl rfl (.inl (by show r.val < _; rw [hr]; show 128 * 5 + _ < _; omega))]
    rw [View.read_writes_cons_rows_of_not_mem v f i6 _ _ (ix2 r l) rfl rfl (.inl (by show r.val < _; rw [hr]; show 128 * 5 + _ < _; omega))]
    exact View.read_writes_cons_rows_of_mem v f i5 _ _ (ix2 r l) (ix2 p l) rfl hr rfl
  | 6 =>
    rw [View.read_writes_cons_rows_of_not_mem v f i7 _ _ (ix2 r l) rfl rfl (.inl (by show r.val < _; rw [hr]; show 128 * 6 + _ < _; omega))]
    exact View.read_writes_cons_rows_of_mem v f i6 _ _ (ix2 r l) (ix2 p l) rfl hr rfl
  | 7 =>
    exact View.read_writes_cons_rows_of_mem v f i7 _ _ (ix2 r l) (ix2 p l) rfl hr rfl

end Cert.Kernel5Ideal.Inproj

end
-- ==== Proof.InprojA.lean ====
/-
  The input projection: its first branch.
-/
module

public import proofs.«01_k».proof.Proof.InprojRows

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- At the first point of a tile the body writes the kept rows and the first columns of the first result. -/
theorem runA (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1x64x16x1024 .bf16) (harg12 : arg12.IsWhole) (arg13 : Memref sig .tc .vmem S1x64x16x512 .f32) (harg13 : arg13.IsWhole) (arg14 : Memref sig .tc .vmem S1024x1024 .bf16) (harg14 : arg14.IsWhole) (arg15 : Memref sig .tc .vmem S1024x2048 .bf16) (harg15 : arg15.IsWhole) (arg16 : Memref sig .tc .vmem S1024x128 .bf16) (harg16 : arg16.IsWhole) (hc0 : cond0_0 i) (hc1 : ¬cond0_1 i) (hc2 : ¬cond0_2 i) (hc3 : ¬cond0_3 i) (hc4 : ¬cond0_4 i)
    (x0 : Vec F S1024x2048 .f32) (x1 : Vec F S1x3x2048 .f32) (x2 : Vec F S1x2048 .f32) (x3 : Vec F S2048x1024 .bf16) (x4 : Vec F S2048x128 .bf16) (x5 : Vec F S1x1024 .f32) (x6 : Vec F S128x512 .bf16) (x7 : Vec F S1x512 .f32) (d8 : Vec F S1024x1024 .bf16) (d9 : Vec F S1024x1024 .f32) (d10 : Vec F S1x64x16x1024 .bf16) (d11 : Vec F S1x64x16x512 .f32) (d12 : Vec F S1024x1024 .bf16) (hs : Vec F S1024x2048 .bf16) (rs : Vec F S1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12 ∗ owns (c : Thread nD τ) arg15 fullShare hs ∗ owns (c : Thread nD τ) arg16 fullShare rs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, ⌜Pieces 1024 (fun k => k0_pay14 (k0_pay11 (rows k x0) x2 (mrow 1 x1) (mrow 0 x1)) x3) X⌝ ∗ owns (c : Thread nD τ) arg10 fullShare X) ∗ owns (c : Thread nD τ) arg11 fullShare d9 ∗ owns (c : Thread nD τ) arg12 fullShare d10 ∗ owns (c : Thread nD τ) arg13 fullShare d11 ∗ owns (c : Thread nD τ) arg14 fullShare d12 ∗ (∃ X, ⌜Pieces 2048 (fun k => k0_pay12 (rows k x0) x2 (mrow 1 x1) (mrow 0 x1)) X⌝ ∗ owns (c : Thread nD τ) arg15 fullShare X) ∗ (∃ X, ⌜Pieces 128 (fun k => k0_pay13 (rows k x0) x2 (mrow 1 x1) (mrow 0 x1) x4) X⌝ ∗ owns (c : Thread nD τ) arg16 fullShare X)) -∗ K ⟨⟩))
          ⊢ wp frame (wpE (defs₀ (F := F)) Variants.none c none) E (cc0_inproj_latent i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_inproj_latent_eq_skeleton]; unfold cc0_inproj_latent_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap
      · iexists _; isplitr; swap; · iexact H10
        ipureintro; rfl
      ipureintro
      refine pieces_of _ _ _ _ _ _ _ _ _ _ _ ?_ ?_ ?_ ?_ ?_ ?_ ?_ ?_
      · have e := congr (congrArg (k0_pay14 (F := F)) (congr (congr (congr (congrArg (k0_pay11 (F := F)) ((readAt_rows (off := ![0, 0]) arg2.view (harg2.unread x0) 0 rfl inb_S1024x2048_S128x2048_0_0).trans (congrArg (rows 0) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1))))) ((View.readAt_full arg5.view (harg5.unread x3) inb_S2048x1024_S2048x1024_0_0).trans (harg5.read_unread x3))
        exact e
      · have e := congr (congrArg (k0_pay14 (F := F)) (congr (congr (congr (congrArg (k0_pay11 (F := F)) ((readAt_rows (off := ![128, 0]) arg2.view (harg2.unread x0) 1 rfl inb_S1024x2048_S128x2048_128_0).trans (congrArg (rows 1) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1))))) ((View.readAt_full arg5.view (harg5.unread x3) inb_S2048x1024_S2048x1024_0_0).trans (harg5.read_unread x3))
        exact e
      · have e := congr (congrArg (k0_pay14 (F := F)) (congr (congr (congr (congrArg (k0_pay11 (F := F)) ((readAt_rows (off := ![256, 0]) arg2.view (harg2.unread x0) 2 rfl inb_S1024x2048_S128x2048_256_0).trans (congrArg (rows 2) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1))))) ((View.readAt_full arg5.view (harg5.unread x3) inb_S2048x1024_S2048x1024_0_0).trans (harg5.read_unread x3))
        exact e
      · have e := congr (congrArg (k0_pay14 (F := F)) (congr (congr (congr (congrArg (k0_pay11 (F := F)) ((readAt_rows (off := ![384, 0]) arg2.view (harg2.unread x0) 3 rfl inb_S1024x2048_S128x2048_384_0).trans (congrArg (rows 3) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1))))) ((View.readAt_full arg5.view (harg5.unread x3) inb_S2048x1024_S2048x1024_0_0).trans (harg5.read_unread x3))
        exact e
      · have e := congr (congrArg (k0_pay14 (F := F)) (congr (congr (congr (congrArg (k0_pay11 (F := F)) ((readAt_rows (off := ![512, 0]) arg2.view (harg2.unread x0) 4 rfl inb_S1024x2048_S128x2048_512_0).trans (congrArg (rows 4) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1))))) ((View.readAt_full arg5.view (harg5.unread x3) inb_S2048x1024_S2048x1024_0_0).trans (harg5.read_unread x3))
        exact e
      · have e := congr (congrArg (k0_pay14 (F := F)) (congr (congr (congr (congrArg (k0_pay11 (F := F)) ((readAt_rows (off := ![640, 0]) arg2.view (harg2.unread x0) 5 rfl inb_S1024x2048_S128x2048_640_0).trans (congrArg (rows 5) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1))))) ((View.readAt_full arg5.view (harg5.unread x3) inb_S2048x1024_S2048x1024_0_0).trans (harg5.read_unread x3))
        exact e
      · have e := congr (congrArg (k0_pay14 (F := F)) (congr (congr (congr (congrArg (k0_pay11 (F := F)) ((readAt_rows (off := ![768, 0]) arg2.view (harg2.unread x0) 6 rfl inb_S1024x2048_S128x2048_768_0).trans (congrArg (rows 6) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1))))) ((View.readAt_full arg5.view (harg5.unread x3) inb_S2048x1024_S2048x1024_0_0).trans (harg5.read_unread x3))
        exact e
      · have e := congr (congrArg (k0_pay14 (F := F)) (congr (congr (congr (congrArg (k0_pay11 (F := F)) ((readAt_rows (off := ![896, 0]) arg2.view (harg2.unread x0) 7 rfl inb_S1024x2048_S128x2048_896_0).trans (congrArg (rows 7) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1))))) ((View.readAt_full arg5.view (harg5.unread x3) inb_S2048x1024_S2048x1024_0_0).trans (harg5.read_unread x3))
        exact e
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; swap
      · iexists _; isplitr; swap; · iexact H15
        ipureintro; rfl
      ipureintro
      refine pieces_of _ _ _ _ _ _ _ _ _ _ _ ?_ ?_ ?_ ?_ ?_ ?_ ?_ ?_
      · have e := congr (congr (congr (congrArg (k0_pay12 (F := F)) ((readAt_rows (off := ![0, 0]) arg2.view (harg2.unread x0) 0 rfl inb_S1024x2048_S128x2048_0_0).trans (congrArg (rows 0) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))
        exact e
      · have e := congr (congr (congr (congrArg (k0_pay12 (F := F)) ((readAt_rows (off := ![128, 0]) arg2.view (harg2.unread x0) 1 rfl inb_S1024x2048_S128x2048_128_0).trans (congrArg (rows 1) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))
        exact e
      · have e := congr (congr (congr (congrArg (k0_pay12 (F := F)) ((readAt_rows (off := ![256, 0]) arg2.view (harg2.unread x0) 2 rfl inb_S1024x2048_S128x2048_256_0).trans (congrArg (rows 2) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))
        exact e
      · have e := congr (congr (congr (congrArg (k0_pay12 (F := F)) ((readAt_rows (off := ![384, 0]) arg2.view (harg2.unread x0) 3 rfl inb_S1024x2048_S128x2048_384_0).trans (congrArg (rows 3) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))
        exact e
      · have e := congr (congr (congr (congrArg (k0_pay12 (F := F)) ((readAt_rows (off := ![512, 0]) arg2.view (harg2.unread x0) 4 rfl inb_S1024x2048_S128x2048_512_0).trans (congrArg (rows 4) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))
        exact e
      · have e := congr (congr (congr (congrArg (k0_pay12 (F := F)) ((readAt_rows (off := ![640, 0]) arg2.view (harg2.unread x0) 5 rfl inb_S1024x2048_S128x2048_640_0).trans (congrArg (rows 5) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))
        exact e
      · have e := congr (congr (congr (congrArg (k0_pay12 (F := F)) ((readAt_rows (off := ![768, 0]) arg2.view (harg2.unread x0) 6 rfl inb_S1024x2048_S128x2048_768_0).trans (congrArg (rows 6) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))
        exact e
      · have e := congr (congr (congr (congrArg (k0_pay12 (F := F)) ((readAt_rows (off := ![896, 0]) arg2.view (harg2.unread x0) 7 rfl inb_S1024x2048_S128x2048_896_0).trans (congrArg (rows 7) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))
        exact e
    iexists _; isplitr; swap
    · iexists _; isplitr; swap; · iexact H16
      ipureintro; rfl
    ipureintro
    refine pieces_of _ _ _ _ _ _ _ _ _ _ _ ?_ ?_ ?_ ?_ ?_ ?_ ?_ ?_
    · have e := congr (congr (congr (congr (congrArg (k0_pay13 (F := F)) ((readAt_rows (off := ![0, 0]) arg2.view (harg2.unread x0) 0 rfl inb_S1024x2048_S128x2048_0_0).trans (congrArg (rows 0) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))) ((View.readAt_full arg6.view (harg6.unread x4) inb_S2048x128_S2048x128_0_0).trans (harg6.read_unread x4))
      exact e
    · have e := congr (congr (congr (congr (congrArg (k0_pay13 (F := F)) ((readAt_rows (off := ![128, 0]) arg2.view (harg2.unread x0) 1 rfl inb_S1024x2048_S128x2048_128_0).trans (congrArg (rows 1) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))) ((View.readAt_full arg6.view (harg6.unread x4) inb_S2048x128_S2048x128_0_0).trans (harg6.read_unread x4))
      exact e
    · have e := congr (congr (congr (congr (congrArg (k0_pay13 (F := F)) ((readAt_rows (off := ![256, 0]) arg2.view (harg2.unread x0) 2 rfl inb_S1024x2048_S128x2048_256_0).trans (congrArg (rows 2) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))) ((View.readAt_full arg6.view (harg6.unread x4) inb_S2048x128_S2048x128_0_0).trans (harg6.read_unread x4))
      exact e
    · have e := congr (congr (congr (congr (congrArg (k0_pay13 (F := F)) ((readAt_rows (off := ![384, 0]) arg2.view (harg2.unread x0) 3 rfl inb_S1024x2048_S128x2048_384_0).trans (congrArg (rows 3) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))) ((View.readAt_full arg6.view (harg6.unread x4) inb_S2048x128_S2048x128_0_0).trans (harg6.read_unread x4))
      exact e
    · have e := congr (congr (congr (congr (congrArg (k0_pay13 (F := F)) ((readAt_rows (off := ![512, 0]) arg2.view (harg2.unread x0) 4 rfl inb_S1024x2048_S128x2048_512_0).trans (congrArg (rows 4) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))) ((View.readAt_full arg6.view (harg6.unread x4) inb_S2048x128_S2048x128_0_0).trans (harg6.read_unread x4))
      exact e
    · have e := congr (congr (congr (congr (congrArg (k0_pay13 (F := F)) ((readAt_rows (off := ![640, 0]) arg2.view (harg2.unread x0) 5 rfl inb_S1024x2048_S128x2048_640_0).trans (congrArg (rows 5) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))) ((View.readAt_full arg6.view (harg6.unread x4) inb_S2048x128_S2048x128_0_0).trans (harg6.read_unread x4))
      exact e
    · have e := congr (congr (congr (congr (congrArg (k0_pay13 (F := F)) ((readAt_rows (off := ![768, 0]) arg2.view (harg2.unread x0) 6 rfl inb_S1024x2048_S128x2048_768_0).trans (congrArg (rows 6) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))) ((View.readAt_full arg6.view (harg6.unread x4) inb_S2048x128_S2048x128_0_0).trans (harg6.read_unread x4))
      exact e
    · have e := congr (congr (congr (congr (congrArg (k0_pay13 (F := F)) ((readAt_rows (off := ![896, 0]) arg2.view (harg2.unread x0) 7 rfl inb_S1024x2048_S128x2048_896_0).trans (congrArg (rows 7) (harg2.read_unread x0)))) ((View.readAt_full arg4.view (harg4.unread x2) inb_S1x2048_S1x2048_0_0).trans (harg4.read_unread x2))) ((readAt_mrow (off := ![0, 1, 0]) arg3.view (harg3.unread x1) 1 rfl inb_S1x3x2048_S1x1x2048_0_1_0).trans (congrArg (mrow 1) (harg3.read_unread x1)))) ((readAt_mrow (off := ![0, 0, 0]) arg3.view (harg3.unread x1) 0 rfl inb_S1x3x2048_S1x1x2048_0_0_0).trans (congrArg (mrow 0) (harg3.read_unread x1)))) ((View.readAt_full arg6.view (harg6.unread x4) inb_S2048x128_S2048x128_0_0).trans (harg6.read_unread x4))
      exact e

end Cert.Kernel5Ideal.Inproj

end
-- ==== Proof.InprojB.lean ====
/-
  The input projection: its second branch.
-/
module

public import proofs.«01_k».proof.Proof.InprojA

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the next three points the body writes more columns of the first result. -/
theorem runB (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1x64x16x1024 .bf16) (harg12 : arg12.IsWhole) (arg13 : Memref sig .tc .vmem S1x64x16x512 .f32) (harg13 : arg13.IsWhole) (arg14 : Memref sig .tc .vmem S1024x1024 .bf16) (harg14 : arg14.IsWhole) (arg15 : Memref sig .tc .vmem S1024x2048 .bf16) (harg15 : arg15.IsWhole) (arg16 : Memref sig .tc .vmem S1024x128 .bf16) (harg16 : arg16.IsWhole) (hc0 : ¬cond0_0 i) (hc1 : cond0_1 i) (hc2 : ¬cond0_2 i) (hc3 : ¬cond0_3 i) (hc4 : ¬cond0_4 i)
    (x0 : Vec F S1024x2048 .f32) (x1 : Vec F S1x3x2048 .f32) (x2 : Vec F S1x2048 .f32) (x3 : Vec F S2048x1024 .bf16) (x4 : Vec F S2048x128 .bf16) (x5 : Vec F S1x1024 .f32) (x6 : Vec F S128x512 .bf16) (x7 : Vec F S1x512 .f32) (d8 : Vec F S1024x1024 .bf16) (d9 : Vec F S1024x1024 .f32) (d10 : Vec F S1x64x16x1024 .bf16) (d11 : Vec F S1x64x16x512 .f32) (d12 : Vec F S1024x1024 .bf16) (hs : Vec F S1024x2048 .bf16) (rs : Vec F S1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12 ∗ owns (c : Thread nD τ) arg15 fullShare hs ∗ owns (c : Thread nD τ) arg16 fullShare rs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, ⌜Pieces 1024 (fun k => k0_pay4 (rows k hs) x3) X⌝ ∗ owns (c : Thread nD τ) arg10 fullShare X) ∗ owns (c : Thread nD τ) arg11 fullShare d9 ∗ owns (c : Thread nD τ) arg12 fullShare d10 ∗ owns (c : Thread nD τ) arg13 fullShare d11 ∗ owns (c : Thread nD τ) arg14 fullShare d12 ∗ owns (c : Thread nD τ) arg15 fullShare hs ∗ owns (c : Thread nD τ) arg16 fullShare rs) -∗ K ⟨⟩))
          ⊢ wp frame (wpE (defs₀ (F := F)) Variants.none c none) E (cc0_inproj_latent i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_inproj_latent_eq_skeleton]; unfold cc0_inproj_latent_skel
    simp only [k0_part10_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap
      · iexists _; isplitr; swap; · iexact H10
        ipureintro; rfl
      ipureintro
      refine pieces_of _ _ _ _ _ _ _ _ _ _ _ ?_ ?_ ?_ ?_ ?_ ?_ ?_ ?_
      · have e := congr (congrArg (k0_pay4 (F := F)) ((readAt_rows (off := ![0, 0]) arg15.view (harg15.unread hs) 0 rfl inb_S1024x2048_S128x2048_0_0).trans (congrArg (rows 0) (harg15.read_unread hs)))) ((View.readAt_full arg5.view (harg5.unread x3) inb_S2048x1024_S2048x1024_0_0).trans (harg5.read_unread x3))
        exact e
      · have e := congr (congrArg (k0_pay4 (F := F)) ((readAt_rows (off := ![128, 0]) arg15.view (harg15.unread hs) 1 rfl inb_S1024x2048_S128x2048_128_0).trans (congrArg (rows 1) (harg15.read_unread hs)))) ((View.readAt_full arg5.view (harg5.unread x3) inb_S2048x1024_S2048x1024_0_0).trans (harg5.read_unread x3))
        exact e
      · have e := congr (congrArg (k0_pay4 (F := F)) ((readAt_rows (off := ![256, 0]) arg15.view (harg15.unread hs) 2 rfl inb_S1024x2048_S128x2048_256_0).trans (congrArg (rows 2) (harg15.read_unread hs)))) ((View.readAt_full arg5.view (harg5.unread x3) inb_S2048x1024_S2048x1024_0_0).trans (harg5.read_unread x3))
        exact e
      · have e := congr (congrArg (k0_pay4 (F := F)) ((readAt_rows (off := ![384, 0]) arg15.view (harg15.unread hs) 3 rfl inb_S1024x2048_S128x2048_384_0).trans (congrArg (rows 3) (harg15.read_unread hs)))) ((View.readAt_full arg5.view (harg5.unread x3) inb_S2048x1024_S2048x1024_0_0).trans (harg5.read_unread x3))
        exact e
      · have e := congr (congrArg (k0_pay4 (F := F)) ((readAt_rows (off := ![512, 0]) arg15.view (harg15.unread hs) 4 rfl inb_S1024x2048_S128x2048_512_0).trans (congrArg (rows 4) (harg15.read_unread hs)))) ((View.readAt_full arg5.view (harg5.unread x3) inb_S2048x1024_S2048x1024_0_0).trans (harg5.read_unread x3))
        exact e
      · have e := congr (congrArg (k0_pay4 (F := F)) ((readAt_rows (off := ![640, 0]) arg15.view (harg15.unread hs) 5 rfl inb_S1024x2048_S128x2048_640_0).trans (congrArg (rows 5) (harg15.read_unread hs)))) ((View.readAt_full arg5.view (harg5.unread x3) inb_S2048x1024_S2048x1024_0_0).trans (harg5.read_unread x3))
        exact e
      · have e := congr (congrArg (k0_pay4 (F := F)) ((readAt_rows (off := ![768, 0]) arg15.view (harg15.unread hs) 6 rfl inb_S1024x2048_S128x2048_768_0).trans (congrArg (rows 6) (harg15.read_unread hs)))) ((View.readAt_full arg5.view (harg5.unread x3) inb_S2048x1024_S2048x1024_0_0).trans (harg5.read_unread x3))
        exact e
      · have e := congr (congrArg (k0_pay4 (F := F)) ((readAt_rows (off := ![896, 0]) arg15.view (harg15.unread hs) 7 rfl inb_S1024x2048_S128x2048_896_0).trans (congrArg (rows 7) (harg15.read_unread hs)))) ((View.readAt_full arg5.view (harg5.unread x3) inb_S2048x1024_S2048x1024_0_0).trans (harg5.read_unread x3))
        exact e
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.Kernel5Ideal.Inproj

end
-- ==== Proof.InprojC.lean ====
/-
  The input projection: its third branch.
-/
module

public import proofs.«01_k».proof.Proof.InprojB

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the next four points the body writes columns of the second result. -/
theorem runC (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1x64x16x1024 .bf16) (harg12 : arg12.IsWhole) (arg13 : Memref sig .tc .vmem S1x64x16x512 .f32) (harg13 : arg13.IsWhole) (arg14 : Memref sig .tc .vmem S1024x1024 .bf16) (harg14 : arg14.IsWhole) (arg15 : Memref sig .tc .vmem S1024x2048 .bf16) (harg15 : arg15.IsWhole) (arg16 : Memref sig .tc .vmem S1024x128 .bf16) (harg16 : arg16.IsWhole) (hc0 : ¬cond0_0 i) (hc1 : ¬cond0_1 i) (hc2 : cond0_2 i) (hc3 : ¬cond0_3 i) (hc4 : ¬cond0_4 i)
    (x0 : Vec F S1024x2048 .f32) (x1 : Vec F S1x3x2048 .f32) (x2 : Vec F S1x2048 .f32) (x3 : Vec F S2048x1024 .bf16) (x4 : Vec F S2048x128 .bf16) (x5 : Vec F S1x1024 .f32) (x6 : Vec F S128x512 .bf16) (x7 : Vec F S1x512 .f32) (d8 : Vec F S1024x1024 .bf16) (d9 : Vec F S1024x1024 .f32) (d10 : Vec F S1x64x16x1024 .bf16) (d11 : Vec F S1x64x16x512 .f32) (d12 : Vec F S1024x1024 .bf16) (hs : Vec F S1024x2048 .bf16) (rs : Vec F S1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12 ∗ owns (c : Thread nD τ) arg15 fullShare hs ∗ owns (c : Thread nD τ) arg16 fullShare rs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ X, ⌜Pieces 1024 (fun k => k0_pay7 x5 (rows k hs) x3) X⌝ ∗ owns (c : Thread nD τ) arg11 fullShare X) ∗ owns (c : Thread nD τ) arg12 fullShare d10 ∗ owns (c : Thread nD τ) arg13 fullShare d11 ∗ owns (c : Thread nD τ) arg14 fullShare d12 ∗ owns (c : Thread nD τ) arg15 fullShare hs ∗ owns (c : Thread nD τ) arg16 fullShare rs) -∗ K ⟨⟩))
          ⊢ wp frame (wpE (defs₀ (F := F)) Variants.none c none) E (cc0_inproj_latent i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_inproj_latent_eq_skeleton]; unfold cc0_inproj_latent_skel
    simp only [k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap
      · iexists _; isplitr; swap; · iexact H11
        ipureintro; rfl
      ipureintro
      refine pieces_of _ _ _ _ _ _ _ _ _ _ _ ?_ ?_ ?_ ?_ ?_ ?_ ?_ ?_
      · have e := congr (congr (congrArg (k0_pay7 (F := F)) ((View.readAt_full arg7.view (harg7.unread x5) inb_S1x1024_S1x1024_0_0).trans (harg7.read_unread x5))) ((readAt_rows (off := ![0, 0]) arg15.view (harg15.unread hs) 0 rfl inb_S1024x2048_S128x2048_0_0).trans (congrArg (rows 0) (harg15.read_unread hs)))) ((View.readAt_full arg5.view (harg5.unread x3) inb_S2048x1024_S2048x1024_0_0).trans (harg5.read_unread x3))
        exact e
      · have e := congr (congr (congrArg (k0_pay7 (F := F)) ((View.readAt_full arg7.view (harg7.unread x5) inb_S1x1024_S1x1024_0_0).trans (harg7.read_unread x5))) ((readAt_rows (off := ![128, 0]) arg15.view (harg15.unread hs) 1 rfl inb_S1024x2048_S128x2048_128_0).trans (congrArg (rows 1) (harg15.read_unread hs)))) ((View.readAt_full arg5.view (harg5.unread x3) inb_S2048x1024_S2048x1024_0_0).trans (harg5.read_unread x3))
        exact e
      · have e := congr (congr (congrArg (k0_pay7 (F := F)) ((View.readAt_full arg7.view (harg7.unread x5) inb_S1x1024_S1x1024_0_0).trans (harg7.read_unread x5))) ((readAt_rows (off := ![256, 0]) arg15.view (harg15.unread hs) 2 rfl inb_S1024x2048_S128x2048_256_0).trans (congrArg (rows 2) (harg15.read_unread hs)))) ((View.readAt_full arg5.view (harg5.unread x3) inb_S2048x1024_S2048x1024_0_0).trans (harg5.read_unread x3))
        exact e
      · have e := congr (congr (congrArg (k0_pay7 (F := F)) ((View.readAt_full arg7.view (harg7.unread x5) inb_S1x1024_S1x1024_0_0).trans (harg7.read_unread x5))) ((readAt_rows (off := ![384, 0]) arg15.view (harg15.unread hs) 3 rfl inb_S1024x2048_S128x2048_384_0).trans (congrArg (rows 3) (harg15.read_unread hs)))) ((View.readAt_full arg5.view (harg5.unread x3) inb_S2048x1024_S2048x1024_0_0).trans (harg5.read_unread x3))
        exact e
      · have e := congr (congr (congrArg (k0_pay7 (F := F)) ((View.readAt_full arg7.view (harg7.unread x5) inb_S1x1024_S1x1024_0_0).trans (harg7.read_unread x5))) ((readAt_rows (off := ![512, 0]) arg15.view (harg15.unread hs) 4 rfl inb_S1024x2048_S128x2048_512_0).trans (congrArg (rows 4) (harg15.read_unread hs)))) ((View.readAt_full arg5.view (harg5.unread x3) inb_S2048x1024_S2048x1024_0_0).trans (harg5.read_unread x3))
        exact e
      · have e := congr (congr (congrArg (k0_pay7 (F := F)) ((View.readAt_full arg7.view (harg7.unread x5) inb_S1x1024_S1x1024_0_0).trans (harg7.read_unread x5))) ((readAt_rows (off := ![640, 0]) arg15.view (harg15.unread hs) 5 rfl inb_S1024x2048_S128x2048_640_0).trans (congrArg (rows 5) (harg15.read_unread hs)))) ((View.readAt_full arg5.view (harg5.unread x3) inb_S2048x1024_S2048x1024_0_0).trans (harg5.read_unread x3))
        exact e
      · have e := congr (congr (congrArg (k0_pay7 (F := F)) ((View.readAt_full arg7.view (harg7.unread x5) inb_S1x1024_S1x1024_0_0).trans (harg7.read_unread x5))) ((readAt_rows (off := ![768, 0]) arg15.view (harg15.unread hs) 6 rfl inb_S1024x2048_S128x2048_768_0).trans (congrArg (rows 6) (harg15.read_unread hs)))) ((View.readAt_full arg5.view (harg5.unread x3) inb_S2048x1024_S2048x1024_0_0).trans (harg5.read_unread x3))
        exact e
      · have e := congr (congr (congrArg (k0_pay7 (F := F)) ((View.readAt_full arg7.view (harg7.unread x5) inb_S1x1024_S1x1024_0_0).trans (harg7.read_unread x5))) ((readAt_rows (off := ![896, 0]) arg15.view (harg15.unread hs) 7 rfl inb_S1024x2048_S128x2048_896_0).trans (congrArg (rows 7) (harg15.read_unread hs)))) ((View.readAt_full arg5.view (harg5.unread x3) inb_S2048x1024_S2048x1024_0_0).trans (harg5.read_unread x3))
        exact e
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.Kernel5Ideal.Inproj

end
-- ==== Proof.InprojD.lean ====
/-
  The input projection: its fourth branch.
-/
module

public import proofs.«01_k».proof.Proof.InprojC

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the next four points the body writes columns of the third and the fourth result. -/
theorem runD (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1x64x16x1024 .bf16) (harg12 : arg12.IsWhole) (arg13 : Memref sig .tc .vmem S1x64x16x512 .f32) (harg13 : arg13.IsWhole) (arg14 : Memref sig .tc .vmem S1024x1024 .bf16) (harg14 : arg14.IsWhole) (arg15 : Memref sig .tc .vmem S1024x2048 .bf16) (harg15 : arg15.IsWhole) (arg16 : Memref sig .tc .vmem S1024x128 .bf16) (harg16 : arg16.IsWhole) (hc0 : ¬cond0_0 i) (hc1 : ¬cond0_1 i) (hc2 : ¬cond0_2 i) (hc3 : cond0_3 i) (hc4 : ¬cond0_4 i)
    (x0 : Vec F S1024x2048 .f32) (x1 : Vec F S1x3x2048 .f32) (x2 : Vec F S1x2048 .f32) (x3 : Vec F S2048x1024 .bf16) (x4 : Vec F S2048x128 .bf16) (x5 : Vec F S1x1024 .f32) (x6 : Vec F S128x512 .bf16) (x7 : Vec F S1x512 .f32) (d8 : Vec F S1024x1024 .bf16) (d9 : Vec F S1024x1024 .f32) (d10 : Vec F S1x64x16x1024 .bf16) (d11 : Vec F S1x64x16x512 .f32) (d12 : Vec F S1024x1024 .bf16) (hs : Vec F S1024x2048 .bf16) (rs : Vec F S1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12 ∗ owns (c : Thread nD τ) arg15 fullShare hs ∗ owns (c : Thread nD τ) arg16 fullShare rs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ (∃ X, ⌜X = k0_pay8 (k0_pay67 (BitVec.ofNat 32 (i 1).val) hs x3)⌝ ∗ owns (c : Thread nD τ) arg12 fullShare X) ∗ (∃ X, ⌜X = k0_pay66 rs x6 x7⌝ ∗ owns (c : Thread nD τ) arg13 fullShare X) ∗ owns (c : Thread nD τ) arg14 fullShare d12 ∗ owns (c : Thread nD τ) arg15 fullShare hs ∗ owns (c : Thread nD τ) arg16 fullShare rs) -∗ K ⟨⟩))
          ⊢ wp frame (wpE (defs₀ (F := F)) Variants.none c none) E (cc0_inproj_latent i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_inproj_latent_eq_skeleton]; unfold cc0_inproj_latent_skel
    simp only [k0_part15_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; swap
      · iexists _; isplitr; swap; · iexact H12
        ipureintro; rfl
      ipureintro
      exact (View.read_writes_full _ _ _ _ _).trans (congrArg (k0_pay8 (F := F)) (congr (congrArg (k0_pay67 (F := F) (BitVec.ofNat 32 (i 1).val)) ((View.readAt_full arg15.view (harg15.unread hs) inb_S1024x2048_S1024x2048_0_0).trans (harg15.read_unread hs))) ((View.readAt_full arg5.view (harg5.unread x3) inb_S2048x1024_S2048x1024_0_0).trans (harg5.read_unread x3))))
    isplitl [H13]
    · iexists _; isplitr; swap
      · iexists _; isplitr; swap; · iexact H13
        ipureintro; rfl
      ipureintro
      exact (View.read_writes_full _ _ _ _ _).trans (congr (congr (congrArg (k0_pay66 (F := F)) ((View.readAt_full arg16.view (harg16.unread rs) inb_S1024x128_S1024x128_0_0).trans (harg16.read_unread rs))) ((View.readAt_full arg8.view (harg8.unread x6) inb_S128x512_S128x512_0_0).trans (harg8.read_unread x6))) ((View.readAt_full arg9.view (harg9.unread x7) inb_S1x512_S1x512_0_0).trans (harg9.read_unread x7)))
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.Kernel5Ideal.Inproj

end
-- ==== Proof.InprojE.lean ====
/-
  The input projection: its last branch.
-/
module

public import proofs.«01_k».proof.Proof.InprojD

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last eight points the body writes columns of the last result. -/
theorem runE (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1x64x16x1024 .bf16) (harg12 : arg12.IsWhole) (arg13 : Memref sig .tc .vmem S1x64x16x512 .f32) (harg13 : arg13.IsWhole) (arg14 : Memref sig .tc .vmem S1024x1024 .bf16) (harg14 : arg14.IsWhole) (arg15 : Memref sig .tc .vmem S1024x2048 .bf16) (harg15 : arg15.IsWhole) (arg16 : Memref sig .tc .vmem S1024x128 .bf16) (harg16 : arg16.IsWhole) (hc0 : ¬cond0_0 i) (hc1 : ¬cond0_1 i) (hc2 : ¬cond0_2 i) (hc3 : ¬cond0_3 i) (hc4 : cond0_4 i)
    (x0 : Vec F S1024x2048 .f32) (x1 : Vec F S1x3x2048 .f32) (x2 : Vec F S1x2048 .f32) (x3 : Vec F S2048x1024 .bf16) (x4 : Vec F S2048x128 .bf16) (x5 : Vec F S1x1024 .f32) (x6 : Vec F S128x512 .bf16) (x7 : Vec F S1x512 .f32) (d8 : Vec F S1024x1024 .bf16) (d9 : Vec F S1024x1024 .f32) (d10 : Vec F S1x64x16x1024 .bf16) (d11 : Vec F S1x64x16x512 .f32) (d12 : Vec F S1024x1024 .bf16) (hs : Vec F S1024x2048 .bf16) (rs : Vec F S1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12 ∗ owns (c : Thread nD τ) arg15 fullShare hs ∗ owns (c : Thread nD τ) arg16 fullShare rs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ (∃ X, ⌜Pieces 1024 (fun k => k0_pay68 (BitVec.ofNat 32 (i 1).val) (rows k hs) x3) X⌝ ∗ owns (c : Thread nD τ) arg14 fullShare X) ∗ owns (c : Thread nD τ) arg15 fullShare hs ∗ owns (c : Thread nD τ) arg16 fullShare rs) -∗ K ⟨⟩))
          ⊢ wp frame (wpE (defs₀ (F := F)) Variants.none c none) E (cc0_inproj_latent i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_inproj_latent_eq_skeleton]; unfold cc0_inproj_latent_skel
    simp only [k0_part16_eq_skeleton, k0_part17_eq_skeleton, k0_part18_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; swap
      · iexists _; isplitr; swap; · iexact H14
        ipureintro; rfl
      ipureintro
      refine pieces_of _ _ _ _ _ _ _ _ _ _ _ ?_ ?_ ?_ ?_ ?_ ?_ ?_ ?_
      · have e := congr (congrArg (k0_pay68 (F := F) (BitVec.ofNat 32 (i 1).val)) ((readAt_rows (off := ![0, 0]) arg15.view (harg15.unread hs) 0 rfl inb_S1024x2048_S128x2048_0_0).trans (congrArg (rows 0) (harg15.read_unread hs)))) ((View.readAt_full arg5.view (harg5.unread x3) inb_S2048x1024_S2048x1024_0_0).trans (harg5.read_unread x3))
        exact e
      · have e := congr (congrArg (k0_pay68 (F := F) (BitVec.ofNat 32 (i 1).val)) ((readAt_rows (off := ![128, 0]) arg15.view (harg15.unread hs) 1 rfl inb_S1024x2048_S128x2048_128_0).trans (congrArg (rows 1) (harg15.read_unread hs)))) ((View.readAt_full arg5.view (harg5.unread x3) inb_S2048x1024_S2048x1024_0_0).trans (harg5.read_unread x3))
        exact e
      · have e := congr (congrArg (k0_pay68 (F := F) (BitVec.ofNat 32 (i 1).val)) ((readAt_rows (off := ![256, 0]) arg15.view (harg15.unread hs) 2 rfl inb_S1024x2048_S128x2048_256_0).trans (congrArg (rows 2) (harg15.read_unread hs)))) ((View.readAt_full arg5.view (harg5.unread x3) inb_S2048x1024_S2048x1024_0_0).trans (harg5.read_unread x3))
        exact e
      · have e := congr (congrArg (k0_pay68 (F := F) (BitVec.ofNat 32 (i 1).val)) ((readAt_rows (off := ![384, 0]) arg15.view (harg15.unread hs) 3 rfl inb_S1024x2048_S128x2048_384_0).trans (congrArg (rows 3) (harg15.read_unread hs)))) ((View.readAt_full arg5.view (harg5.unread x3) inb_S2048x1024_S2048x1024_0_0).trans (harg5.read_unread x3))
        exact e
      · have e := congr (congrArg (k0_pay68 (F := F) (BitVec.ofNat 32 (i 1).val)) ((readAt_rows (off := ![512, 0]) arg15.view (harg15.unread hs) 4 rfl inb_S1024x2048_S128x2048_512_0).trans (congrArg (rows 4) (harg15.read_unread hs)))) ((View.readAt_full arg5.view (harg5.unread x3) inb_S2048x1024_S2048x1024_0_0).trans (harg5.read_unread x3))
        exact e
      · have e := congr (congrArg (k0_pay68 (F := F) (BitVec.ofNat 32 (i 1).val)) ((readAt_rows (off := ![640, 0]) arg15.view (harg15.unread hs) 5 rfl inb_S1024x2048_S128x2048_640_0).trans (congrArg (rows 5) (harg15.read_unread hs)))) ((View.readAt_full arg5.view (harg5.unread x3) inb_S2048x1024_S2048x1024_0_0).trans (harg5.read_unread x3))
        exact e
      · have e := congr (congrArg (k0_pay68 (F := F) (BitVec.ofNat 32 (i 1).val)) ((readAt_rows (off := ![768, 0]) arg15.view (harg15.unread hs) 6 rfl inb_S1024x2048_S128x2048_768_0).trans (congrArg (rows 6) (harg15.read_unread hs)))) ((View.readAt_full arg5.view (harg5.unread x3) inb_S2048x1024_S2048x1024_0_0).trans (harg5.read_unread x3))
        exact e
      · have e := congr (congrArg (k0_pay68 (F := F) (BitVec.ofNat 32 (i 1).val)) ((readAt_rows (off := ![896, 0]) arg15.view (harg15.unread hs) 7 rfl inb_S1024x2048_S128x2048_896_0).trans (congrArg (rows 7) (harg15.read_unread hs)))) ((View.readAt_full arg5.view (harg5.unread x3) inb_S2048x1024_S2048x1024_0_0).trans (harg5.read_unread x3))
        exact e
    isplitl [H15]
    · iexists _; isplitr; · ipureintro; exact harg15.read_unread _
      iexact H15
    iexists _; isplitr; · ipureintro; exact harg16.read_unread _
    iexact H16

end Cert.Kernel5Ideal.Inproj

end
-- ==== Proof.InprojSays.lean ====
/-
  The input projection: its body at every point, and its launch.
-/
module

public import Idealize.ShloMosaic.Lib.Pipeline.DatRel
public import Idealize.ShloMosaic.Lib.Pipeline.ArrRel
public import proofs.«01_k».proof.Proof.InprojE

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a caller says of the kept rows and of the blocks of each result, tile by tile and column by column. -/
structure Says (F : FTy → Type) where
  /-- Of the kept rows. -/
  H : ℕ → Vec F S1024x2048 .bf16 → Prop
  /-- Of the kept low-rank rows. -/
  R : ℕ → Vec F S1024x128 .bf16 → Prop
  /-- Of the first result. -/
  O8 : ℕ → ℕ → Vec F S1024x1024 .bf16 → Prop
  /-- Of the second result. -/
  O9 : ℕ → ℕ → Vec F S1024x1024 .f32 → Prop
  /-- Of the third result. -/
  O10 : ℕ → ℕ → Vec F S1x64x16x1024 .bf16 → Prop
  /-- Of the fourth result. -/
  O11 : ℕ → ℕ → Vec F S1x64x16x512 .f32 → Prop
  /-- Of the last result. -/
  O12 : ℕ → ℕ → Vec F S1024x1024 .bf16 → Prop

/-- What is said holds of what each branch writes. -/
structure Holds (C : Says F) (c : Dev nD) : Prop where
  a8 : ∀ t : Fin cfg0.N, t.val % 20 = 0 → ∀ X, Pieces 1024 (fun k => k0_pay14 (k0_pay11 (rows k (iblk m c 0 t)) (iblk m c 2 t) (mrow 1 (iblk m c 1 t)) (mrow 0 (iblk m c 1 t))) (iblk m c 3 t)) X → C.O8 (t.val / 20) 0 X
  ah : ∀ t : Fin cfg0.N, t.val % 20 = 0 → ∀ X, Pieces 2048 (fun k => k0_pay12 (rows k (iblk m c 0 t)) (iblk m c 2 t) (mrow 1 (iblk m c 1 t)) (mrow 0 (iblk m c 1 t))) X → C.H (t.val / 20) X
  ar : ∀ t : Fin cfg0.N, t.val % 20 = 0 → ∀ X, Pieces 128 (fun k => k0_pay13 (rows k (iblk m c 0 t)) (iblk m c 2 t) (mrow 1 (iblk m c 1 t)) (mrow 0 (iblk m c 1 t)) (iblk m c 4 t)) X → C.R (t.val / 20) X
  ofB : ∀ t : Fin cfg0.N, 1 ≤ t.val % 20 → t.val % 20 ≤ 3 → ∀ hs, C.H (t.val / 20) hs → ∀ X, Pieces 1024 (fun k => k0_pay4 (rows k hs) (iblk m c 3 t)) X → C.O8 (t.val / 20) (t.val % 20) X
  ofC : ∀ t : Fin cfg0.N, 4 ≤ t.val % 20 → t.val % 20 ≤ 7 → ∀ hs, C.H (t.val / 20) hs → ∀ X, Pieces 1024 (fun k => k0_pay7 (iblk m c 5 t) (rows k hs) (iblk m c 3 t)) X → C.O9 (t.val / 20) (t.val % 20 - 4) X
  d10 : ∀ t : Fin cfg0.N, 8 ≤ t.val % 20 → t.val % 20 ≤ 11 → ∀ hs, C.H (t.val / 20) hs → C.O10 (t.val / 20) (t.val % 20 - 8) (k0_pay8 (k0_pay67 (BitVec.ofNat 32 ((grid0.coords t) 1).val) hs (iblk m c 3 t)))
  d11 : ∀ t : Fin cfg0.N, 8 ≤ t.val % 20 → t.val % 20 ≤ 11 → ∀ rs, C.R (t.val / 20) rs → C.O11 (t.val / 20) (t.val % 20 - 8) (k0_pay66 rs (iblk m c 6 t) (iblk m c 7 t))
  ofE : ∀ t : Fin cfg0.N, 12 ≤ t.val % 20 → ∀ hs, C.H (t.val / 20) hs → ∀ X, Pieces 1024 (fun k => k0_pay68 (BitVec.ofNat 32 ((grid0.coords t) 1).val) (rows k hs) (iblk m c 3 t)) X → C.O12 (t.val / 20) (t.val % 20 - 12) X

/-- The five result windows. -/
def marked : Fin cfg0.W → Bool := fun | ⟨8, _⟩ => true | ⟨9, _⟩ => true | ⟨10, _⟩ => true | ⟨11, _⟩ => true | ⟨12, _⟩ => true | _ => false

/-- What is said of a result's staged block once its branch has run. -/
def Rl (C : Says F) : (w : Fin cfg0.W) → Fin cfg0.N → ((cfg0.win w).block.Idx → Elt F (cfg0.win w).elt) → Prop :=
  fun | ⟨8, _⟩ => fun t X => C.O8 (t.val / 20) (min (t.val % 20) 3) X
      | ⟨9, _⟩ => fun t X => 4 ≤ t.val % 20 → C.O9 (t.val / 20) (min (t.val % 20 - 4) 3) X
      | ⟨10, _⟩ => fun t X => 8 ≤ t.val % 20 → C.O10 (t.val / 20) (min (t.val % 20 - 8) 3) X
      | ⟨11, _⟩ => fun t X => 8 ≤ t.val % 20 → C.O11 (t.val / 20) (min (t.val % 20 - 8) 3) X
      | ⟨12, _⟩ => fun t X => 12 ≤ t.val % 20 → C.O12 (t.val / 20) (t.val % 20 - 12) X
      | _ => fun _ _ => True

/-- The two kept buffers between points: as said of their tile, except before a tile's first point. -/
def Phi (C : Says F) (c : Dev nD) (t : ℕ) : sProp 𝕄 :=
  iprop((∃ h r, ⌜t % 20 ≠ 0 → C.H (t / 20) h ∧ C.R (t / 20) r⌝ ∗ owns (c : Thread nD τ) scM0_0 fullShare h ∗ owns (c : Thread nD τ) scM0_1 fullShare r)
    ∗ ∃ r, prngReg c r)

/-- The proof data: an input window keeps its block; the result windows are told by `Rl`. -/
def dats (C : Says F) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t | ⟨5, _⟩ => iblk m c 5 t | ⟨6, _⟩ => iblk m c 6 t | ⟨7, _⟩ => iblk m c 7 t
    | ⟨8, h⟩ => Dat.unnamed (cfg := cfg0) ⟨8, h⟩ t | ⟨9, h⟩ => Dat.unnamed (cfg := cfg0) ⟨9, h⟩ t | ⟨10, h⟩ => Dat.unnamed (cfg := cfg0) ⟨10, h⟩ t | ⟨11, h⟩ => Dat.unnamed (cfg := cfg0) ⟨11, h⟩ t | ⟨12, h⟩ => Dat.unnamed (cfg := cfg0) ⟨12, h⟩ t
  Φ t := Phi C c t.val
  q _ := fullShare
  owed _ := 0

theorem A_eq (C : Says F) (c : Dev nD) (w : Fin cfg0.W) : (dats m C c).A w = V m c (Pipeline.arrRef spec0 w) := by dsimp only [dats]

/-- A result's staged block that the point before did not write back is as that point left it. -/
theorem keep (C : Says F) (c : Dev nD) {w : Fin cfg0.W} (hw : marked w = true) (hf : ∀ t, (cfg0.win w).fetch t = false) {t t' : Fin cfg0.N} (ht : t.val = t'.val + 1)
    (hfl : (cfg0.win w).flush t' = false) {Y} (h : ((dats m C c).toRRel marked (Rl C)).Finds w t Y) : Rl C w t' Y := by
  have e : (⟨t.val - 1, Nat.lt_of_le_of_lt (Nat.sub_le _ _) t.isLt⟩ : Fin cfg0.N) = t' := Fin.ext (by show t.val - 1 = t'.val; omega)
  have h2 := (Pipeline.RDat.finds_of_pos _ (hf t) (by omega) Y).mp h
  rw [e] at h2
  rcases h2 with h2 | h2
  · rw [hfl] at h2; exact absurd h2 Bool.false_ne_true
  · exact Dat.toRRel_leaves _ hw h2

/-- When the result of window 8 is written back. -/
theorem flush_8 : ∀ t : Fin cfg0.N, (cfg0.win 8).flush t = true ↔ (t.val % 20 ≤ 2 ∨ t.val % 20 = 19) :=
  (by decide +kernel : ∀ t : Fin grid0.N, win0_8.flush t = true ↔ (t.val % 20 ≤ 2 ∨ t.val % 20 = 19))

/-- When the result of window 9 is written back. -/
theorem flush_9 : ∀ t : Fin cfg0.N, (cfg0.win 9).flush t = true ↔ ((4 ≤ t.val % 20 ∧ t.val % 20 ≤ 6) ∨ t.val % 20 = 19) :=
  (by decide +kernel : ∀ t : Fin grid0.N, win0_9.flush t = true ↔ ((4 ≤ t.val % 20 ∧ t.val % 20 ≤ 6) ∨ t.val % 20 = 19))

/-- When the result of window 10 is written back. -/
theorem flush_10 : ∀ t : Fin cfg0.N, (cfg0.win 10).flush t = true ↔ ((8 ≤ t.val % 20 ∧ t.val % 20 ≤ 10) ∨ t.val % 20 = 19) :=
  (by decide +kernel : ∀ t : Fin grid0.N, win0_10.flush t = true ↔ ((8 ≤ t.val % 20 ∧ t.val % 20 ≤ 10) ∨ t.val % 20 = 19))

/-- When the result of window 11 is written back. -/
theorem flush_11 : ∀ t : Fin cfg0.N, (cfg0.win 11).flush t = true ↔ ((8 ≤ t.val % 20 ∧ t.val % 20 ≤ 10) ∨ t.val % 20 = 19) :=
  (by decide +kernel : ∀ t : Fin grid0.N, win0_11.flush t = true ↔ ((8 ≤ t.val % 20 ∧ t.val % 20 ≤ 10) ∨ t.val % 20 = 19))

/-- When the result of window 12 is written back. -/
theorem flush_12 : ∀ t : Fin cfg0.N, (cfg0.win 12).flush t = true ↔ (12 ≤ t.val % 20) :=
  (by decide +kernel : ∀ t : Fin grid0.N, win0_12.flush t = true ↔ (12 ≤ t.val % 20))

/-- Off its branch's points the block of window 8 stays as said. -/
theorem keep_8 (C : Says F) (c : Dev nD) (t : Fin cfg0.N) (ht : 4 ≤ t.val % 20) {Y} (h : ((dats m C c).toRRel marked (Rl C)).Finds 8 t Y) : Rl C 8 t Y := by
  have hN : t.val < 320 := lt_of_lt_of_eq t.isLt (show cfg0.N = 320 from N_0)
  let t' : Fin cfg0.N := ⟨t.val - 1, Nat.lt_of_le_of_lt (Nat.sub_le _ _) t.isLt⟩
  have e : t'.val = t.val - 1 := rfl
  have k := keep m C c (w := 8) rfl (fun _ => rfl) (t := t) (t' := t') (by omega) (Bool.eq_false_iff.mpr fun hf => by have := (flush_8 t').mp hf; omega) h
  show C.O8 (t.val / 20) (min (t.val % 20) 3) Y
  have k2 : C.O8 (t'.val / 20) (min (t'.val % 20) 3) Y := k
  rwa [show t'.val / 20 = t.val / 20 by omega, show min (t'.val % 20) 3 = min (t.val % 20) 3 by omega] at k2

/-- Off its branch's points the block of window 9 stays as said. -/
theorem keep_9 (C : Says F) (c : Dev nD) (t : Fin cfg0.N) (ht : (t.val % 20 < 4 ∨ 8 ≤ t.val % 20)) {Y} (h : ((dats m C c).toRRel marked (Rl C)).Finds 9 t Y) : Rl C 9 t Y := by
  intro hlo
  have hN : t.val < 320 := lt_of_lt_of_eq t.isLt (show cfg0.N = 320 from N_0)
  let t' : Fin cfg0.N := ⟨t.val - 1, Nat.lt_of_le_of_lt (Nat.sub_le _ _) t.isLt⟩
  have e : t'.val = t.val - 1 := rfl
  have k := keep m C c (w := 9) rfl (fun _ => rfl) (t := t) (t' := t') (by omega) (Bool.eq_false_iff.mpr fun hf => by have := (flush_9 t').mp hf; omega) h
  show C.O9 (t.val / 20) (min (t.val % 20 - 4) 3) Y
  have k2 : C.O9 (t'.val / 20) (min (t'.val % 20 - 4) 3) Y := k (by omega)
  rwa [show t'.val / 20 = t.val / 20 by omega, show min (t'.val % 20 - 4) 3 = min (t.val % 20 - 4) 3 by omega] at k2

/-- Off its branch's points the block of window 10 stays as said. -/
theorem keep_10 (C : Says F) (c : Dev nD) (t : Fin cfg0.N) (ht : (t.val % 20 < 8 ∨ 12 ≤ t.val % 20)) {Y} (h : ((dats m C c).toRRel marked (Rl C)).Finds 10 t Y) : Rl C 10 t Y := by
  intro hlo
  have hN : t.val < 320 := lt_of_lt_of_eq t.isLt (show cfg0.N = 320 from N_0)
  let t' : Fin cfg0.N := ⟨t.val - 1, Nat.lt_of_le_of_lt (Nat.sub_le _ _) t.isLt⟩
  have e : t'.val = t.val - 1 := rfl
  have k := keep m C c (w := 10) rfl (fun _ => rfl) (t := t) (t' := t') (by omega) (Bool.eq_false_iff.mpr fun hf => by have := (flush_10 t').mp hf; omega) h
  show C.O10 (t.val / 20) (min (t.val % 20 - 8) 3) Y
  have k2 : C.O10 (t'.val / 20) (min (t'.val % 20 - 8) 3) Y := k (by omega)
  rwa [show t'.val / 20 = t.val / 20 by omega, show min (t'.val % 20 - 8) 3 = min (t.val % 20 - 8) 3 by omega] at k2

/-- Off its branch's points the block of window 11 stays as said. -/
theorem keep_11 (C : Says F) (c : Dev nD) (t : Fin cfg0.N) (ht : (t.val % 20 < 8 ∨ 12 ≤ t.val % 20)) {Y} (h : ((dats m C c).toRRel marked (Rl C)).Finds 11 t Y) : Rl C 11 t Y := by
  intro hlo
  have hN : t.val < 320 := lt_of_lt_of_eq t.isLt (show cfg0.N = 320 from N_0)
  let t' : Fin cfg0.N := ⟨t.val - 1, Nat.lt_of_le_of_lt (Nat.sub_le _ _) t.isLt⟩
  have e : t'.val = t.val - 1 := rfl
  have k := keep m C c (w := 11) rfl (fun _ => rfl) (t := t) (t' := t') (by omega) (Bool.eq_false_iff.mpr fun hf => by have := (flush_11 t').mp hf; omega) h
  show C.O11 (t.val / 20) (min (t.val % 20 - 8) 3) Y
  have k2 : C.O11 (t'.val / 20) (min (t'.val % 20 - 8) 3) Y := k (by omega)
  rwa [show t'.val / 20 = t.val / 20 by omega, show min (t'.val % 20 - 8) 3 = min (t.val % 20 - 8) 3 by omega] at k2

/-- Off its branch's points the block of window 12 stays as said. -/
theorem keep_12 (C : Says F) (c : Dev nD) (t : Fin cfg0.N) (ht : t.val % 20 < 12) {Y} (h : ((dats m C c).toRRel marked (Rl C)).Finds 12 t Y) : Rl C 12 t Y := by
  exact fun h12 => absurd h12 (by omega)

/-- What a point's body is handed. -/
def bodyPre (C : Says F) (c : Dev nD) (t : Fin cfg0.N) : sProp 𝕄 :=
  iprop((dats m C c).Φ t.castSucc ∗ (dats m C c).owesAt () t.castSucc ∗ (∃ d, owns (c : Thread nD τ) (ms0_0 t) fullShare ((dats m C c).before 0 t d)) ∗ (∃ d, owns (c : Thread nD τ) (ms0_1 t) fullShare ((dats m C c).before 1 t d)) ∗ (∃ d, owns (c : Thread nD τ) (ms0_2 t) fullShare ((dats m C c).before 2 t d)) ∗ (∃ d, owns (c : Thread nD τ) (ms0_3 t) fullShare ((dats m C c).before 3 t d)) ∗ (∃ d, owns (c : Thread nD τ) (ms0_4 t) fullShare ((dats m C c).before 4 t d)) ∗ (∃ d, owns (c : Thread nD τ) (ms0_5 t) fullShare ((dats m C c).before 5 t d)) ∗ (∃ d, owns (c : Thread nD τ) (ms0_6 t) fullShare ((dats m C c).before 6 t d)) ∗ (∃ d, owns (c : Thread nD τ) (ms0_7 t) fullShare ((dats m C c).before 7 t d)) ∗ (∃ Y, ⌜((dats m C c).toRRel marked (Rl C)).Finds 8 t Y⌝ ∗ owns (c : Thread nD τ) (ms0_8 t) fullShare Y) ∗ (∃ Y, ⌜((dats m C c).toRRel marked (Rl C)).Finds 9 t Y⌝ ∗ owns (c : Thread nD τ) (ms0_9 t) fullShare Y) ∗ (∃ Y, ⌜((dats m C c).toRRel marked (Rl C)).Finds 10 t Y⌝ ∗ owns (c : Thread nD τ) (ms0_10 t) fullShare Y) ∗ (∃ Y, ⌜((dats m C c).toRRel marked (Rl C)).Finds 11 t Y⌝ ∗ owns (c : Thread nD τ) (ms0_11 t) fullShare Y) ∗ (∃ Y, ⌜((dats m C c).toRRel marked (Rl C)).Finds 12 t Y⌝ ∗ owns (c : Thread nD τ) (ms0_12 t) fullShare Y))

/-- What it hands back. -/
def bodyPost (C : Says F) (c : Dev nD) (t : Fin cfg0.N) : sProp 𝕄 :=
  iprop((dats m C c).Φ t.succ ∗ (dats m C c).owesAt () t.succ ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ X, ⌜Rl C 8 t X⌝ ∗ owns (c : Thread nD τ) (ms0_8 t) fullShare X) ∗ (∃ X, ⌜Rl C 9 t X⌝ ∗ owns (c : Thread nD τ) (ms0_9 t) fullShare X) ∗ (∃ X, ⌜Rl C 10 t X⌝ ∗ owns (c : Thread nD τ) (ms0_10 t) fullShare X) ∗ (∃ X, ⌜Rl C 11 t X⌝ ∗ owns (c : Thread nD τ) (ms0_11 t) fullShare X) ∗ (∃ X, ⌜Rl C 12 t X⌝ ∗ owns (c : Thread nD τ) (ms0_12 t) fullShare X))

end Cert.Kernel5Ideal.Inproj

end
-- ==== Proof.InprojAtA.lean ====
/-
  The input projection: its body at the points of branch A.
-/
module

public import proofs.«01_k».proof.Proof.InprojSays

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of branch A. -/
theorem soundA (C : Says F) (c : Dev nD) (hC : Holds m C c) (t : Fin cfg0.N) (j0 : t.val % 20 = 0) :
    bodyPre m C c t ⊢ wp frame (wpE (defs₀ (F := F)) Variants.none c none) Set.univ (bodyAt0 t) (fun _ => bodyPost m C c t) := by
  unfold bodyPre bodyPost
  rw [show (dats m C c).owesAt () t.succ = (dats m C c).owesAt () t.castSucc from rfl,
    show (dats m C c).Φ t.castSucc = Phi C c t.val from rfl, show (dats m C c).Φ t.succ = Phi C c (t.val + 1) from rfl]
  simp only [before0_0_of m (dats m C c) rfl (fun _ => rfl)]
  simp only [before0_1_of m (dats m C c) rfl (fun _ => rfl)]
  simp only [before0_2_of m (dats m C c) rfl (fun _ => rfl)]
  simp only [before0_3_of m (dats m C c) rfl (fun _ => rfl)]
  simp only [before0_4_of m (dats m C c) rfl (fun _ => rfl)]
  simp only [before0_5_of m (dats m C c) rfl (fun _ => rfl)]
  simp only [before0_6_of m (dats m C c) rfl (fun _ => rfl)]
  simp only [before0_7_of m (dats m C c) rfl (fun _ => rfl)]
  unfold Phi
  iintro ⟨⟨⟨%hs, %rs, %hk, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %f8, H8⟩, ⟨%d9, %f9, H9⟩, ⟨%d10, %f10, H10⟩, ⟨%d11, %f11, H11⟩, ⟨%d12, %f12, H12⟩⟩
  iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr (by omega)) (fun h => by have := (hcond0_1 t).mp h; omega) (fun h => by have := (hcond0_2 t).mp h; omega) (fun h => by have := (hcond0_3 t).mp h; omega) (fun h => by have := (hcond0_4 t).mp h; omega) (iblk m c 0 t) (iblk m c 1 t) (iblk m c 2 t) (iblk m c 3 t) (iblk m c 4 t) (iblk m c 5 t) (iblk m c 6 t) (iblk m c 7 t) d8 d9 d10 d11 d12 hs rs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, ⟨%X8, %hX8, H8⟩, H9, H10, H11, H12, ⟨%XS0, %hXS0, HS0⟩, ⟨%XS1, %hXS1, HS1⟩⟩
  isplitl [HS0 HS1 Hg]
  · isplitr [Hg]; swap; · iexact Hg
    iexists _, _; isplitr; swap
    · isplitl [HS0]; · iexact HS0
      iexact HS1
    · ipureintro
      intro hn
      rw [show (t.val + 1) / 20 = t.val / 20 by omega]
      exact ⟨hC.ah t j0 _ hXS0, hC.ar t j0 _ hXS1⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap
    · iexact H8
    · ipureintro
      show C.O8 (t.val / 20) (min (t.val % 20) 3) _
      rw [show min (t.val % 20) 3 = 0 by omega]; exact hC.a8 t j0 _ hX8
  isplitl [H9]
  · iexists _; isplitr; swap
    · iexact H9
    · ipureintro
      exact keep_9 m C c t (by omega) f9
  isplitl [H10]
  · iexists _; isplitr; swap
    · iexact H10
    · ipureintro
      exact keep_10 m C c t (by omega) f10
  isplitl [H11]
  · iexists _; isplitr; swap
    · iexact H11
    · ipureintro
      exact keep_11 m C c t (by omega) f11
  · iexists _; isplitr; swap
    · iexact H12
    · ipureintro
      exact keep_12 m C c t (by omega) f12

end Cert.Kernel5Ideal.Inproj

end
-- ==== Proof.InprojAtB.lean ====
/-
  The input projection: its body at the points of branch B.
-/
module

public import proofs.«01_k».proof.Proof.InprojSays

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of branch B. -/
theorem soundB (C : Says F) (c : Dev nD) (hC : Holds m C c) (t : Fin cfg0.N) (j0 : 1 ≤ t.val % 20) (j1 : t.val % 20 ≤ 3) :
    bodyPre m C c t ⊢ wp frame (wpE (defs₀ (F := F)) Variants.none c none) Set.univ (bodyAt0 t) (fun _ => bodyPost m C c t) := by
  unfold bodyPre bodyPost
  rw [show (dats m C c).owesAt () t.succ = (dats m C c).owesAt () t.castSucc from rfl,
    show (dats m C c).Φ t.castSucc = Phi C c t.val from rfl, show (dats m C c).Φ t.succ = Phi C c (t.val + 1) from rfl]
  simp only [before0_0_of m (dats m C c) rfl (fun _ => rfl)]
  simp only [before0_1_of m (dats m C c) rfl (fun _ => rfl)]
  simp only [before0_2_of m (dats m C c) rfl (fun _ => rfl)]
  simp only [before0_3_of m (dats m C c) rfl (fun _ => rfl)]
  simp only [before0_4_of m (dats m C c) rfl (fun _ => rfl)]
  simp only [before0_5_of m (dats m C c) rfl (fun _ => rfl)]
  simp only [before0_6_of m (dats m C c) rfl (fun _ => rfl)]
  simp only [before0_7_of m (dats m C c) rfl (fun _ => rfl)]
  unfold Phi
  iintro ⟨⟨⟨%hs, %rs, %hk, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %f8, H8⟩, ⟨%d9, %f9, H9⟩, ⟨%d10, %f10, H10⟩, ⟨%d11, %f11, H11⟩, ⟨%d12, %f12, H12⟩⟩
  iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => by have := (hcond0_0 t).mp h; omega) ((hcond0_1 t).mpr (by omega)) (fun h => by have := (hcond0_2 t).mp h; omega) (fun h => by have := (hcond0_3 t).mp h; omega) (fun h => by have := (hcond0_4 t).mp h; omega) (iblk m c 0 t) (iblk m c 1 t) (iblk m c 2 t) (iblk m c 3 t) (iblk m c 4 t) (iblk m c 5 t) (iblk m c 6 t) (iblk m c 7 t) d8 d9 d10 d11 d12 hs rs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, ⟨%X8, %hX8, H8⟩, H9, H10, H11, H12, HS0, HS1⟩
  have hk2 := hk (by omega)
  isplitl [HS0 HS1 Hg]
  · isplitr [Hg]; swap; · iexact Hg
    iexists _, _; isplitr; swap
    · isplitl [HS0]; · iexact HS0
      iexact HS1
    · ipureintro
      intro hn
      rw [show (t.val + 1) / 20 = t.val / 20 by omega]
      exact hk2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap
    · iexact H8
    · ipureintro
      show C.O8 (t.val / 20) (min (t.val % 20) 3) _
      rw [show min (t.val % 20) 3 = t.val % 20 by omega]; exact hC.ofB t j0 j1 hs hk2.1 _ hX8
  isplitl [H9]
  · iexists _; isplitr; swap
    · iexact H9
    · ipureintro
      exact keep_9 m C c t (by omega) f9
  isplitl [H10]
  · iexists _; isplitr; swap
    · iexact H10
    · ipureintro
      exact keep_10 m C c t (by omega) f10
  isplitl [H11]
  · iexists _; isplitr; swap
    · iexact H11
    · ipureintro
      exact keep_11 m C c t (by omega) f11
  · iexists _; isplitr; swap
    · iexact H12
    · ipureintro
      exact keep_12 m C c t (by omega) f12

end Cert.Kernel5Ideal.Inproj

end
-- ==== Proof.InprojAtC.lean ====
/-
  The input projection: its body at the points of branch C.
-/
module

public import proofs.«01_k».proof.Proof.InprojSays

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of branch C. -/
theorem soundC (C : Says F) (c : Dev nD) (hC : Holds m C c) (t : Fin cfg0.N) (j0 : 4 ≤ t.val % 20) (j1 : t.val % 20 ≤ 7) :
    bodyPre m C c t ⊢ wp frame (wpE (defs₀ (F := F)) Variants.none c none) Set.univ (bodyAt0 t) (fun _ => bodyPost m C c t) := by
  unfold bodyPre bodyPost
  rw [show (dats m C c).owesAt () t.succ = (dats m C c).owesAt () t.castSucc from rfl,
    show (dats m C c).Φ t.castSucc = Phi C c t.val from rfl, show (dats m C c).Φ t.succ = Phi C c (t.val + 1) from rfl]
  simp only [before0_0_of m (dats m C c) rfl (fun _ => rfl)]
  simp only [before0_1_of m (dats m C c) rfl (fun _ => rfl)]
  simp only [before0_2_of m (dats m C c) rfl (fun _ => rfl)]
  simp only [before0_3_of m (dats m C c) rfl (fun _ => rfl)]
  simp only [before0_4_of m (dats m C c) rfl (fun _ => rfl)]
  simp only [before0_5_of m (dats m C c) rfl (fun _ => rfl)]
  simp only [before0_6_of m (dats m C c) rfl (fun _ => rfl)]
  simp only [before0_7_of m (dats m C c) rfl (fun _ => rfl)]
  unfold Phi
  iintro ⟨⟨⟨%hs, %rs, %hk, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %f8, H8⟩, ⟨%d9, %f9, H9⟩, ⟨%d10, %f10, H10⟩, ⟨%d11, %f11, H11⟩, ⟨%d12, %f12, H12⟩⟩
  iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => by have := (hcond0_0 t).mp h; omega) (fun h => by have := (hcond0_1 t).mp h; omega) ((hcond0_2 t).mpr (by omega)) (fun h => by have := (hcond0_3 t).mp h; omega) (fun h => by have := (hcond0_4 t).mp h; omega) (iblk m c 0 t) (iblk m c 1 t) (iblk m c 2 t) (iblk m c 3 t) (iblk m c 4 t) (iblk m c 5 t) (iblk m c 6 t) (iblk m c 7 t) d8 d9 d10 d11 d12 hs rs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, ⟨%X9, %hX9, H9⟩, H10, H11, H12, HS0, HS1⟩
  have hk2 := hk (by omega)
  isplitl [HS0 HS1 Hg]
  · isplitr [Hg]; swap; · iexact Hg
    iexists _, _; isplitr; swap
    · isplitl [HS0]; · iexact HS0
      iexact HS1
    · ipureintro
      intro hn
      rw [show (t.val + 1) / 20 = t.val / 20 by omega]
      exact hk2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap
    · iexact H8
    · ipureintro
      exact keep_8 m C c t (by omega) f8
  isplitl [H9]
  · iexists _; isplitr; swap
    · iexact H9
    · ipureintro
      intro _
      show C.O9 (t.val / 20) (min (t.val % 20 - 4) 3) _
      rw [show min (t.val % 20 - 4) 3 = t.val % 20 - 4 by omega]; exact hC.ofC t j0 j1 hs hk2.1 _ hX9
  isplitl [H10]
  · iexists _; isplitr; swap
    · iexact H10
    · ipureintro
      exact keep_10 m C c t (by omega) f10
  isplitl [H11]
  · iexists _; isplitr; swap
    · iexact H11
    · ipureintro
      exact keep_11 m C c t (by omega) f11
  · iexists _; isplitr; swap
    · iexact H12
    · ipureintro
      exact keep_12 m C c t (by omega) f12

end Cert.Kernel5Ideal.Inproj

end
-- ==== Proof.InprojAtD.lean ====
/-
  The input projection: its body at the points of branch D.
-/
module

public import proofs.«01_k».proof.Proof.InprojSays

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of branch D. -/
theorem soundD (C : Says F) (c : Dev nD) (hC : Holds m C c) (t : Fin cfg0.N) (j0 : 8 ≤ t.val % 20) (j1 : t.val % 20 ≤ 11) :
    bodyPre m C c t ⊢ wp frame (wpE (defs₀ (F := F)) Variants.none c none) Set.univ (bodyAt0 t) (fun _ => bodyPost m C c t) := by
  unfold bodyPre bodyPost
  rw [show (dats m C c).owesAt () t.succ = (dats m C c).owesAt () t.castSucc from rfl,
    show (dats m C c).Φ t.castSucc = Phi C c t.val from rfl, show (dats m C c).Φ t.succ = Phi C c (t.val + 1) from rfl]
  simp only [before0_0_of m (dats m C c) rfl (fun _ => rfl)]
  simp only [before0_1_of m (dats m C c) rfl (fun _ => rfl)]
  simp only [before0_2_of m (dats m C c) rfl (fun _ => rfl)]
  simp only [before0_3_of m (dats m C c) rfl (fun _ => rfl)]
  simp only [before0_4_of m (dats m C c) rfl (fun _ => rfl)]
  simp only [before0_5_of m (dats m C c) rfl (fun _ => rfl)]
  simp only [before0_6_of m (dats m C c) rfl (fun _ => rfl)]
  simp only [before0_7_of m (dats m C c) rfl (fun _ => rfl)]
  unfold Phi
  iintro ⟨⟨⟨%hs, %rs, %hk, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %f8, H8⟩, ⟨%d9, %f9, H9⟩, ⟨%d10, %f10, H10⟩, ⟨%d11, %f11, H11⟩, ⟨%d12, %f12, H12⟩⟩
  iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => by have := (hcond0_0 t).mp h; omega) (fun h => by have := (hcond0_1 t).mp h; omega) (fun h => by have := (hcond0_2 t).mp h; omega) ((hcond0_3 t).mpr (by omega)) (fun h => by have := (hcond0_4 t).mp h; omega) (iblk m c 0 t) (iblk m c 1 t) (iblk m c 2 t) (iblk m c 3 t) (iblk m c 4 t) (iblk m c 5 t) (iblk m c 6 t) (iblk m c 7 t) d8 d9 d10 d11 d12 hs rs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, ⟨%X10, %hX10, H10⟩, ⟨%X11, %hX11, H11⟩, H12, HS0, HS1⟩
  have hk2 := hk (by omega)
  isplitl [HS0 HS1 Hg]
  · isplitr [Hg]; swap; · iexact Hg
    iexists _, _; isplitr; swap
    · isplitl [HS0]; · iexact HS0
      iexact HS1
    · ipureintro
      intro hn
      rw [show (t.val + 1) / 20 = t.val / 20 by omega]
      exact hk2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap
    · iexact H8
    · ipureintro
      exact keep_8 m C c t (by omega) f8
  isplitl [H9]
  · iexists _; isplitr; swap
    · iexact H9
    · ipureintro
      exact keep_9 m C c t (by omega) f9
  isplitl [H10]
  · iexists _; isplitr; swap
    · iexact H10
    · ipureintro
      intro _
      show C.O10 (t.val / 20) (min (t.val % 20 - 8) 3) _
      rw [show min (t.val % 20 - 8) 3 = t.val % 20 - 8 by omega, hX10]; exact hC.d10 t j0 j1 _ hk2.1
  isplitl [H11]
  · iexists _; isplitr; swap
    · iexact H11
    · ipureintro
      intro _
      show C.O11 (t.val / 20) (min (t.val % 20 - 8) 3) _
      rw [show min (t.val % 20 - 8) 3 = t.val % 20 - 8 by omega, hX11]; exact hC.d11 t j0 j1 _ hk2.2
  · iexists _; isplitr; swap
    · iexact H12
    · ipureintro
      exact keep_12 m C c t (by omega) f12

end Cert.Kernel5Ideal.Inproj

end
-- ==== Proof.InprojAtE.lean ====
/-
  The input projection: its body at the points of branch E.
-/
module

public import proofs.«01_k».proof.Proof.InprojSays

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of branch E. -/
theorem soundE (C : Says F) (c : Dev nD) (hC : Holds m C c) (t : Fin cfg0.N) (j0 : 12 ≤ t.val % 20) :
    bodyPre m C c t ⊢ wp frame (wpE (defs₀ (F := F)) Variants.none c none) Set.univ (bodyAt0 t) (fun _ => bodyPost m C c t) := by
  unfold bodyPre bodyPost
  rw [show (dats m C c).owesAt () t.succ = (dats m C c).owesAt () t.castSucc from rfl,
    show (dats m C c).Φ t.castSucc = Phi C c t.val from rfl, show (dats m C c).Φ t.succ = Phi C c (t.val + 1) from rfl]
  simp only [before0_0_of m (dats m C c) rfl (fun _ => rfl)]
  simp only [before0_1_of m (dats m C c) rfl (fun _ => rfl)]
  simp only [before0_2_of m (dats m C c) rfl (fun _ => rfl)]
  simp only [before0_3_of m (dats m C c) rfl (fun _ => rfl)]
  simp only [before0_4_of m (dats m C c) rfl (fun _ => rfl)]
  simp only [before0_5_of m (dats m C c) rfl (fun _ => rfl)]
  simp only [before0_6_of m (dats m C c) rfl (fun _ => rfl)]
  simp only [before0_7_of m (dats m C c) rfl (fun _ => rfl)]
  unfold Phi
  iintro ⟨⟨⟨%hs, %rs, %hk, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %f8, H8⟩, ⟨%d9, %f9, H9⟩, ⟨%d10, %f10, H10⟩, ⟨%d11, %f11, H11⟩, ⟨%d12, %f12, H12⟩⟩
  iapply (runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => by have := (hcond0_0 t).mp h; omega) (fun h => by have := (hcond0_1 t).mp h; omega) (fun h => by have := (hcond0_2 t).mp h; omega) (fun h => by have := (hcond0_3 t).mp h; omega) ((hcond0_4 t).mpr (by omega)) (iblk m c 0 t) (iblk m c 1 t) (iblk m c 2 t) (iblk m c 3 t) (iblk m c 4 t) (iblk m c 5 t) (iblk m c 6 t) (iblk m c 7 t) d8 d9 d10 d11 d12 hs rs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, ⟨%X12, %hX12, H12⟩, HS0, HS1⟩
  have hk2 := hk (by omega)
  isplitl [HS0 HS1 Hg]
  · isplitr [Hg]; swap; · iexact Hg
    iexists _, _; isplitr; swap
    · isplitl [HS0]; · iexact HS0
      iexact HS1
    · ipureintro
      intro hn
      rw [show (t.val + 1) / 20 = t.val / 20 by omega]
      exact hk2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap
    · iexact H8
    · ipureintro
      exact keep_8 m C c t (by omega) f8
  isplitl [H9]
  · iexists _; isplitr; swap
    · iexact H9
    · ipureintro
      exact keep_9 m C c t (by omega) f9
  isplitl [H10]
  · iexists _; isplitr; swap
    · iexact H10
    · ipureintro
      exact keep_10 m C c t (by omega) f10
  isplitl [H11]
  · iexists _; isplitr; swap
    · iexact H11
    · ipureintro
      exact keep_11 m C c t (by omega) f11
  · iexists _; isplitr; swap
    · iexact H12
    · ipureintro
      exact fun _ => hC.ofE t j0 hs hk2.1 _ hX12

end Cert.Kernel5Ideal.Inproj

end
-- ==== Proof.InprojRun.lean ====
/-
  The input projection: its launch.
-/
module

public import proofs.«01_k».proof.Proof.InprojAtA
public import proofs.«01_k».proof.Proof.InprojAtB
public import proofs.«01_k».proof.Proof.InprojAtC
public import proofs.«01_k».proof.Proof.InprojAtD
public import proofs.«01_k».proof.Proof.InprojAtE

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (C : Says F) (c : Dev nD) (hC : Holds m C c) (t : Fin cfg0.N) :
    bodyPre m C c t ⊢ wp frame (wpE (defs₀ (F := F)) Variants.none c none) Set.univ (bodyAt0 t) (fun _ => bodyPost m C c t) := by
  by_cases h0 : t.val % 20 = 0
  · exact soundA m C c hC t h0
  by_cases h1 : t.val % 20 ≤ 3
  · exact soundB m C c hC t (by omega) h1
  by_cases h2 : t.val % 20 ≤ 7
  · exact soundC m C c hC t (by omega) h2
  by_cases h3 : t.val % 20 ≤ 11
  · exact soundD m C c hC t (by omega) h3
  · exact soundE m C c hC t (by omega)

theorem defs₀_row (t : Fin cfg0.N) : defs₀ (F := F) .tc cfg0.body (cfg0.bodyArgs t (cfg0.slots t)) = bodyAt0 t := by
  unfold defs₀; rw [Defs.onTc_tc]

set_option maxHeartbeats 8000000 in
/-- The body's obligation at every point. -/
theorem body_obligation (C : Says F) (c : Dev nD) (hC : Holds m C c) :
    Pipeline.BodyObligationRel (dats m C c) (defs₀ (F := F)) Variants.none () Set.univ marked (Rl C) := fun t => by
  rw [bigSep_W0, bigSep_W0, defs₀_row]
  exact triple_restated (sound_body m C c hC t) rfl .rfl fun _ => .rfl

set_option backward.isDefEq.respectTransparency.types false in
/-- The launch: every weakly fair run ends, the inputs' arrays as launched and each result's array written block by block with blocks as said. -/
theorem run_main (C : Dev nD → Says F) (hC : ∀ c, Holds m (C c) c) :
    θ_run defs (onTc (τ := τ) (main (F := F))) (s₀ m ρ)
      (fun r => Pipeline.RDat.FramePost (cfgs 0) (fun c => (dats m (C c) c).toRRel marked (Rl (C c))) (V m) r ∧ r.2.sem = fun _ => 0) :=
  Pipeline.RDat.θ_run_frame_track (Q' := _) cfgs (0 : Fin 1) launch0 defs₀ Variants.none
    (fun c => (dats m (C c) c).toRRel marked (Rl (C c))) m ρ main
    (hbody := fun c => (body_obligation m (C c) c (hC c)).toRRel) (hshare := fun c => (dats m (C c) c).share_full fun _ => rfl)
    (howed := fun _ _ => rfl) (V := V m) (hmain := hmain m Variants.none) (hA := fun c w => A_eq m (C c) c w)
    (hin := fun c => by
      rw [show Pipeline.ΦA (cfgs 0).spec c = (Pipeline.ΦA spec0 c : sProp 𝕄) from rfl, PhiA0_eq, show ((dats m (C c) c).toRRel marked (Rl (C c))).Φ 0 = Phi (C c) c 0 from rfl]
      unfold Phi
      iintro ⟨⟨⟨%h, H0⟩, ⟨%r, H1⟩⟩, Hg⟩
      isplitr [Hg]; swap; · iexact Hg
      iexists h, r; isplitr; swap
      · isplitl [H0]; · iexact H0
        iexact H1
      · ipureintro; exact fun h => absurd rfl h)
    (hout := fun c => by
      rw [show Pipeline.ΦA (cfgs 0).spec c = (Pipeline.ΦA spec0 c : sProp 𝕄) from rfl, PhiA0_eq, show ((dats m (C c) c).toRRel marked (Rl (C c))).Φ (Fin.last (cfgs 0).N) = Phi (C c) c (cfgs 0).N from rfl]
      unfold Phi
      iintro ⟨⟨%h, %r, -, H0, H1⟩, Hg⟩
      isplitr [Hg]; swap; · iexact Hg
      isplitl [H0]; · iexists _; iexact H0
      iexists _; iexact H1)

/-- Says nothing. -/
def nothing (F : FTy → Type) : Says F := ⟨fun _ _ => True, fun _ _ => True, fun _ _ _ => True, fun _ _ _ => True, fun _ _ _ => True, fun _ _ _ => True, fun _ _ _ => True⟩

theorem nothing_holds (c : Dev nD) : Holds m (nothing F) c :=
  ⟨fun _ _ _ _ => trivial, fun _ _ _ _ => trivial, fun _ _ _ _ => trivial, fun _ _ _ _ _ _ _ => trivial, fun _ _ _ _ _ _ _ => trivial, fun _ _ _ _ _ => trivial, fun _ _ _ _ _ => trivial, fun _ _ _ _ _ _ => trivial⟩

/-- The arguments end as launched. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans ((A_eq m (nothing F) c 3).trans (V_main_arg3 m c)),
      (Pipeline.RDat.FramePost.arr_in h.1 c 4 rfl).trans ((A_eq m (nothing F) c 4).trans (V_main_arg4 m c)),
      (Pipeline.RDat.FramePost.arr_in h.1 c 5 rfl).trans ((A_eq m (nothing F) c 5).trans (V_main_arg5 m c)),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main m ρ (fun _ => nothing F) (nothing_holds m))

end Cert.Kernel5Ideal.Inproj

end
-- ==== Proof.InprojScalar.lean ====
/-
  The input projection: its scalar laws on the extended reals.
-/
module

public import Idealize.ShloMosaic.Lib.Pointwise
public import Idealize.ShloMosaic.Lib.IdealHost

@[expose] public section

noncomputable section

namespace Cert.Inproj

open Idealize.ShloMosaic

/-- A row times a column. -/
def dot {n : ℕ} (u v : Fin n → EReal) : EReal := ∑ k, u k * v k

/-- The logistic function. -/
def sgE (z : EReal) : EReal := Ideal.div 1 (1 + Ideal.exp (-z))

/-- The logarithm of the logistic function, scaled. -/
def lsE (z : EReal) : EReal := (min z 0 - Ideal.log (1 + Ideal.exp (0 - max z (-z)))) * Ideal.ofBits .f32 0x3DB8AA3B#32

/-- The exponential is not negative. -/
theorem exp_nonneg (x : EReal) : 0 ≤ Ideal.exp x := by
  induction x with
  | bot => exact le_refl _
  | top => exact le_top
  | coe r => exact EReal.coe_nonneg.2 (Real.exp_pos r).le

/-- The logarithm of what is at least one is not minus infinity. -/
theorem log_ne_bot (w : EReal) (h : 1 ≤ w) : Ideal.log w ≠ ⊥ := by
  induction w with
  | bot => exact absurd h (by decide)
  | top => exact top_ne_bot
  | coe r =>
    have hr : (1 : ℝ) ≤ r := by exact_mod_cast h
    show (if r ≤ 0 then ⊥ else (Real.log r : EReal)) ≠ ⊥
    rw [if_neg (by linarith)]
    exact EReal.coe_ne_bot _

/-- The kernel's logarithm of the logistic function is the reference's. -/
theorem lsig (z : EReal) :
    -(max (-z) 0 + Ideal.log (1 + Ideal.exp (-max (-z) (- -z)))) = min z 0 - Ideal.log (1 + Ideal.exp (0 - max z (-z))) := by
  have hL : Ideal.log (1 + Ideal.exp (-max z (-z))) ≠ ⊥ := log_ne_bot _ (by
    have := add_le_add (le_refl (1 : EReal)) (exp_nonneg (-max z (-z)))
    rwa [add_zero] at this)
  rw [neg_neg, max_comm (-z) z, zero_sub]
  have ha : max (-z) 0 ≠ ⊥ := fun h => by
    have := h ▸ le_max_right (-z) 0
    exact absurd this (by decide)
  rw [EReal.neg_add (.inl ha) (.inr hL)]
  congr 1
  rcases le_total z 0 with h | h
  · have h' : (0 : EReal) ≤ -z := EReal.neg_nonneg.2 h
    rw [max_eq_left h', min_eq_left h, neg_neg]
  · have h' : -z ≤ 0 := by have := EReal.neg_le_neg_iff.2 h; rwa [neg_zero] at this
    rw [max_eq_right h', min_eq_right h, neg_zero]

/-- Sixteen. -/
theorem c16 : Ideal.ofBits .f32 0x41800000#32 = ((16 : ℝ) : EReal) := by
  simp [Ideal.ofBits, Ideal.ieee, -EReal.coe_mul]; norm_num

/-- The scale of the logarithm to base two over sixteen is a sixteenth of the scale. -/
theorem cl : Ideal.ofBits .f32 0x3DB8AA3B#32 = (((16 : ℝ)⁻¹ : ℝ) : EReal) * Ideal.ofBits .f32 0x3FB8AA3B#32 := by
  simp [Ideal.ofBits, Ideal.ieee, -EReal.coe_mul]
  rw [← EReal.coe_mul]
  congr 1
  norm_num

/-- Over sixteen and scaled. -/
theorem scaled (u : EReal) : Ideal.div u (Ideal.ofBits .f32 0x41800000#32) * Ideal.ofBits .f32 0x3FB8AA3B#32 = u * Ideal.ofBits .f32 0x3DB8AA3B#32 := by
  rw [c16, cl]
  unfold Ideal.div
  rw [if_neg (by exact_mod_cast (by norm_num : (16 : ℝ) ≠ 0)), mul_assoc, ← EReal.coe_inv]

/-- A sum over rows that are zero outside sixteen of them is the sum over those. -/
theorem sum_part (r w : Fin 128 → EReal) (v : Fin 16 → EReal) (o : ℕ) (ho : o + 16 ≤ 128)
    (h1 : ∀ k : Fin 16, w ⟨o + k.val, by omega⟩ = v k) (h0 : ∀ k : Fin 128, (k.val < o ∨ o + 16 ≤ k.val) → w k = 0) :
    dot r w = ∑ k : Fin 16, r ⟨o + k.val, by omega⟩ * v k := by
  unfold dot
  rw [← Finset.sum_subset (Finset.subset_univ (Finset.univ.map ⟨fun k : Fin 16 => (⟨o + k.val, by omega⟩ : Fin 128), fun a b h => Fin.ext (by
    have := congrArg Fin.val h; simp only at this; omega)⟩)) fun k _ hk => ?_]
  · rw [Finset.sum_map]
    exact Finset.sum_congr rfl fun k _ => by rw [← h1 k]; rfl
  · rw [h0 k, mul_zero]
    by_contra hc
    exact hk (Finset.mem_map.2 ⟨⟨k.val - o, by omega⟩, Finset.mem_univ _, Fin.ext (by show o + (k.val - o) = k.val; omega)⟩)

end Cert.Inproj

end
-- ==== Proof.InprojPay.lean ====
/-
  The input projection: the entries of what its body computes, at exact values.
-/
module

public import proofs.«01_k».proof.Proof.InprojSays
public import proofs.«01_k».proof.Proof.InprojScalar
public import Idealize.ShloMosaic.Lib.Pointwise

@[expose] public section

set_option maxRecDepth 16384

noncomputable section

open Idealize.ShloMosaic Idealize.ShloMosaic.TcCoe Idealize.SL.Sem

namespace Cert.Kernel5Ideal.Inproj

open Cert.Kernel5Ideal Cert.Kernel5Ideal.Gen

open Cert.Inproj (dot sgE lsE)

theorem pay11_apply (x : Vec Ideal S128x2048 .f32) (g : Vec Ideal S1x2048 .f32) (sc sh : Vec Ideal S1x1x2048 .f32) (p : Fin 128) (k : Fin 2048) :
    k0_pay11 x g sc sh (ix2 p k) = @HAdd.hAdd EReal EReal EReal _ (@HMul.hMul EReal EReal EReal _ (@HMul.hMul EReal EReal EReal _ (@HMul.hMul EReal EReal EReal _ (x (ix2 p k)) (Ideal.rsqrt (Ideal.div (dot (fun e => x (ix2 p e)) (fun e => x (ix2 p e))) (Ideal.ofBits FTy.f32 0x45000000#32) + Ideal.ofBits FTy.f32 0x358637BD#32)))
      (g (ix2 0 k))) (1 + (show EReal from sc (ix3 0 0 k)))) (sh (ix3 0 0 k)) := by
  pointwise [k0_pay11, dot]

theorem pay12_apply (x : Vec Ideal S128x2048 .f32) (g : Vec Ideal S1x2048 .f32) (sc sh : Vec Ideal S1x1x2048 .f32) (p : Fin 128) (k : Fin 2048) :
    k0_pay12 x g sc sh (ix2 p k) = k0_pay11 x g sc sh (ix2 p k) := by
  pointwise [k0_pay12]

theorem pay13_apply (x : Vec Ideal S128x2048 .f32) (g : Vec Ideal S1x2048 .f32) (sc sh : Vec Ideal S1x1x2048 .f32) (w : Vec Ideal S2048x128 .bf16) (p : Fin 128) (l : Fin 128) :
    k0_pay13 x g sc sh w (ix2 p l) = dot (fun k => k0_pay11 x g sc sh (ix2 p k)) (fun k => w (ix2 k l)) := by
  pointwise [k0_pay13, dot]

theorem pay14_apply (h : Vec Ideal S128x2048 .bf16) (w : Vec Ideal S2048x1024 .bf16) (p : Fin 128) (l : Fin 1024) :
    k0_pay14 h w (ix2 p l) = dot (fun k => h (ix2 p k)) (fun k => w (ix2 k l)) := by
  pointwise [k0_pay14, dot]

theorem pay4_apply (h : Vec Ideal S128x2048 .bf16) (w : Vec Ideal S2048x1024 .bf16) (p : Fin 128) (l : Fin 1024) :
    k0_pay4 h w (ix2 p l) = dot (fun k => h (ix2 p k)) (fun k => w (ix2 k l)) := by
  pointwise [k0_pay4, dot]

theorem pay7_apply (lb : Vec Ideal S1x1024 .f32) (h : Vec Ideal S128x2048 .bf16) (w : Vec Ideal S2048x1024 .bf16) (p : Fin 128) (l : Fin 1024) :
    k0_pay7 lb h w (ix2 p l) = Ideal.log (@HAdd.hAdd EReal EReal EReal _ (lb (ix2 0 l)) ((1 - (show EReal from lb (ix2 0 l))) * sgE (dot (fun k => h (ix2 p k)) (fun k => w (ix2 k l))))) * Ideal.ofBits FTy.f32 0x3FB8AA3B#32 := by
  pointwise [k0_pay7, dot, sgE]
  rw [zero_sub]

theorem pay68_apply (j : BitVec 32) (h : Vec Ideal S128x2048 .bf16) (w : Vec Ideal S2048x1024 .bf16) (p : Fin 128) (l : Fin 1024) :
    k0_pay68 j h w (ix2 p l) = sgE (dot (fun k => h (ix2 p k)) (fun k => w (ix2 k l))) * Scalar.select (Scalar.cmpi .slt j 16#32) (dot (fun k => h (ix2 p k)) (fun k => w (ix2 k l))) (1 : EReal) := by
  pointwise [k0_pay68, dot, sgE]
  rw [zero_sub]

theorem pay67_apply (j : BitVec 32) (h : Vec Ideal S1024x2048 .bf16) (w : Vec Ideal S2048x1024 .bf16) (a : Fin 64) (e : Fin 16) (l : Fin 1024) :
    k0_pay8 (k0_pay67 j h w) (ix4 0 a e l) = dot (fun k => h (ix2 ⟨e.val * 64 + a.val, by omega⟩ k)) (fun k => w (ix2 k l)) * Scalar.select (Scalar.cmpi .slt j 9#32) (Ideal.ofBits FTy.f32 0x3D800000#32) (1 : EReal) := by
  pointwise [k0_pay8, k0_pay67, dot]

theorem pay66_apply (r : Vec Ideal S1024x128 .bf16) (w : Vec Ideal S128x512 .bf16) (b : Vec Ideal S1x512 .f32) (a : Fin 64) (e : Fin 16) (l : Fin 512) :
    k0_pay66 r w b (ix4 0 a e l) = lsE (@HAdd.hAdd EReal EReal EReal _ (dot (fun k => r (ix2 ⟨e.val * 64 + a.val, by omega⟩ k)) (fun k => w (ix2 k l))) (b (ix2 0 l))) := by
  pointwise [k0_pay66, dot, lsE]
  rfl

/-- Each window's block index at a grid point. -/
theorem idx : ∀ t : Fin cfg0.N, win0_0.index t = ![t.val / 20, 0] ∧ win0_1.index t = ![t.val / 160, 0, 0] ∧ win0_2.index t = ![0, 0] ∧ win0_3.index t = ![0, t.val % 20] ∧ win0_4.index t = ![0, 0]
    ∧ win0_5.index t = ![0, min (t.val % 20 - 4) 3] ∧ win0_6.index t = ![0, min (t.val % 20 - 8) 3] ∧ win0_7.index t = ![0, min (t.val % 20 - 8) 3]
    ∧ win0_8.index t = ![t.val / 20, min (t.val % 20) 3] ∧ win0_9.index t = ![t.val / 20, min (t.val % 20 - 4) 3]
    ∧ win0_10.index t = ![t.val / 160, 0, t.val / 20 % 8, min (t.val % 20 - 8) 3] ∧ win0_11.index t = ![t.val / 160, 0, t.val / 20 % 8, min (t.val % 20 - 8) 3]
    ∧ win0_12.index t = ![t.val / 20, min (t.val % 20 - 12) 7] :=
  (by decide +kernel : ∀ t : Fin grid0.N, _)

variable (m : (ℓ : Loc nD τ sig) → Buf (Elt Ideal) ℓ)

/-- The block of rows. -/
theorem blk0 (c : Dev nD) (t : Fin cfg0.N) (p : Fin 1024) (b : Fin 2) (s : Fin 8192) (h : 8192 * b.val + s.val = 1024 * (t.val / 20) + p.val) (k : Fin 2048) :
    iblk m c 0 t (ix2 p k) = m ((c : Thread nD τ).loc main_arg0) (ix3 b s k) := by
  blk_simp [iblk, idx t]
  entry_read
  pointwise
  blk_ext [idx t]

/-- The block of the modulation. -/
theorem blk1 (c : Dev nD) (t : Fin cfg0.N) (a : Fin 3) (b : Fin 8) (h : b.val = t.val / 160) (k : Fin 2048) (q : Fin 6144) (hq : q.val = 2048 * a.val + k.val) :
    iblk m c 1 t (ix3 0 a k) = m ((c : Thread nD τ).loc main_arg1) (ix2 b q) := by
  blk_simp [iblk, idx t]
  entry_read
  pointwise
  blk_ext [idx t]

/-- The norm's gains. -/
theorem blk2 (c : Dev nD) (t : Fin cfg0.N) (k : Fin 2048) :
    iblk m c 2 t (ix2 0 k) = m ((c : Thread nD τ).loc main_arg2) (ix2 0 k) := by
  blk_simp [iblk, idx t]
  entry_read
  pointwise
  blk_ext [idx t]

/-- A block of the projection's columns. -/
theorem blk3 (c : Dev nD) (t : Fin cfg0.N) (k : Fin 2048) (l : Fin 1024) (q : Fin 20480) (hq : q.val = 1024 * (t.val % 20) + l.val) :
    iblk m c 3 t (ix2 k l) = m ((c : Thread nD τ).loc main_arg3) (ix2 k q) := by
  blk_ext [iblk, V, idx t]

/-- The low-rank projection. -/
theorem blk4 (c : Dev nD) (t : Fin cfg0.N) (k : Fin 2048) (l : Fin 128) :
    iblk m c 4 t (ix2 k l) = m ((c : Thread nD τ).loc main_arg4) (ix2 k l) := by
  blk_ext [iblk, V, idx t]

/-- A block of the lower bounds. -/
theorem blk5 (c : Dev nD) (t : Fin cfg0.N) (l : Fin 1024) (q : Fin 4096) (hq : q.val = 1024 * min (t.val % 20 - 4) 3 + l.val) :
    iblk m c 5 t (ix2 0 l) = m ((c : Thread nD τ).loc main_arg5) (ix2 0 q) := by
  blk_ext [iblk, V, idx t]

/-- A block of the gates' biases. -/
theorem blk7 (c : Dev nD) (t : Fin cfg0.N) (l : Fin 512) (d : Fin 2) (q : Fin 1024) (hq : 1024 * d.val + q.val = 512 * min (t.val % 20 - 8) 3 + l.val) :
    iblk m c 7 t (ix2 0 l) = m ((c : Thread nD τ).loc main_arg7) (ix3 0 d q) := by
  blk_simp [iblk, idx t]
  entry_read
  pointwise
  blk_ext [idx t]

end Cert.Kernel5Ideal.Inproj

end
-- ==== Proof.InprojPad.lean ====
/-
  The input projection: the entries of what its body computes, at exact values.
-/
module

public import proofs.«01_k».proof.Proof.InprojPay
public import Idealize.ShloMosaic.Lib.Routing.OpsSet
public import proofs.«01_k».proof.Proof.InprojSays
public import proofs.«01_k».proof.Proof.InprojScalar
public import Idealize.ShloMosaic.Lib.Pointwise

@[expose] public section

set_option maxRecDepth 16384

noncomputable section

open Idealize.ShloMosaic Idealize.ShloMosaic.TcCoe Idealize.SL.Sem

namespace Cert.Kernel5Ideal.Inproj

open Cert.Kernel5Ideal Cert.Kernel5Ideal.Gen

/-- Where an update of the first scatter lands. -/
theorem lands (idx : IVec S2 32) (i0 i1 : ℕ) (h0 : (idx (ix1 0)).toInt = i0) (h1 : (idx (ix1 1)).toInt = i1) (hi0 : i0 + 16 ≤ 128) (hi1 : i1 + 1024 ≤ 2048)
    (k : Fin 16) (q : Fin 1024) :
    scatter_S128x2048_S2_S16x1024_01_n_01_0.resultIdx? (ix2 k q) idx = some (ix2 ⟨i0 + k.val, by omega⟩ ⟨i1 + q.val, by omega⟩) := by
  have s0 : scatter_S128x2048_S2_S16x1024_01_n_01_0.start (ix2 k q) idx 0 = i0 := by
    rw [← h0]; exact congrArg (fun z => (idx z).toInt) (funext fun b => by match b with | 0 => rfl)
  have s1 : scatter_S128x2048_S2_S16x1024_01_n_01_0.start (ix2 k q) idx 1 = i1 := by
    rw [← h1]; exact congrArg (fun z => (idx z).toInt) (funext fun b => by match b with | 0 => rfl)
  have w0 : scatter_S128x2048_S2_S16x1024_01_n_01_0.window (ix2 k q) 0 = k.val := rfl
  have w1 : scatter_S128x2048_S2_S16x1024_01_n_01_0.window (ix2 k q) 1 = q.val := rfl
  unfold ScatterDims.resultIdx?
  rw [dif_pos (by
    intro a
    match a with
    | 0 => rw [s0, w0]; refine ⟨by omega, ?_⟩; show _ < (128 : ℤ); omega
    | 1 => rw [s1, w1]; refine ⟨by omega, ?_⟩; show _ < (2048 : ℤ); omega)]
  congr 1
  funext a
  match a with
  | 0 => apply Fin.ext; show (_ : ℤ).toNat = _; rw [s0, w0]; show _ = i0 + k.val; omega
  | 1 => apply Fin.ext; show (_ : ℤ).toNat = _; rw [s1, w1]; show _ = i1 + q.val; omega

variable (m : (ℓ : Loc nD τ sig) → Buf (Elt Ideal) ℓ)

/-- The row and the column an update starts at. -/
def corner (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem corner_0 (a b : BitVec 32) : corner a b (ix1 0) = a := by
  pointwise [corner]

theorem corner_1 (a b : BitVec 32) : corner a b (ix1 1) = b := by
  pointwise [corner]

/-- The first direction's gate weights. -/
def wa (gw : Vec Ideal S1x2x16x1024 .f32) : Vec Ideal S16x1024 .f32 :=
  fun i => shapeCast S16x1024 (extractStridedSlice S1x1x16x1024 ![0, 0, 0, 0] gw slices_S1x2x16x1024_S1x1x16x1024_0_0_0_0) shapeCasts_S1x1x16x1024_S16x1024 i

/-- The other direction's gate weights. -/
def wb (gw : Vec Ideal S1x2x16x1024 .f32) : Vec Ideal S16x1024 .f32 :=
  fun i => shapeCast S16x1024 (extractStridedSlice S1x1x16x1024 ![0, 1, 0, 0] gw slices_S1x2x16x1024_S1x1x16x1024_0_1_0_0) shapeCasts_S1x1x16x1024_S16x1024 i

theorem wa_apply (gw : Vec Ideal S1x2x16x1024 .f32) (k : Fin 16) (q : Fin 1024) : wa gw (ix2 k q) = gw (ix4 0 0 k q) := by
  pointwise [wa]

theorem wb_apply (gw : Vec Ideal S1x2x16x1024 .f32) (k : Fin 16) (q : Fin 1024) : wb gw (ix2 k q) = gw (ix4 0 1 k q) := by
  pointwise [wb]

/-- The matrix of zeros. -/
def zero : Vec Ideal S128x2048 .f32 := broadcastInDim S128x2048 ![] bcast_S_S128x2048 (constant (F := Ideal) S_ .f32 0x00000000#32)

/-- The gate weights of both directions in one matrix, zero elsewhere. -/
def pad (gw : Vec Ideal S1x2x16x1024 .f32) : Vec Ideal S128x2048 .f32 :=
  Host.scatter scatter_S128x2048_S2_S16x1024_01_n_01_0 (fun _ b => b)
    (Host.scatter scatter_S128x2048_S2_S16x1024_01_n_01_0 (fun _ b => b) zero (corner 0#32 0#32) (wa gw))
    (corner 16#32 1024#32) (wb gw)

theorem zero_apply (k : Fin 128) (q : Fin 2048) : zero (ix2 k q) = (0 : EReal) := by
  pointwise [zero]

/-- An update of the scatter that lands at an entry. -/
theorem land_eq (idx : IVec S2 32) (i0 i1 : ℕ) (h0 : (idx (ix1 0)).toInt = i0) (h1 : (idx (ix1 1)).toInt = i1) (hi0 : i0 + 16 ≤ 128) (hi1 : i1 + 1024 ≤ 2048)
    (x0 : Vec Ideal S128x2048 .f32) (u : Vec Ideal S16x1024 .f32) (r : Fin 128) (q : Fin 2048) :
    (∀ (k : Fin 16) (l : Fin 1024), r.val = i0 + k.val → q.val = i1 + l.val → Host.scatter scatter_S128x2048_S2_S16x1024_01_n_01_0 (fun _ b => b) x0 idx u (ix2 r q) = u (ix2 k l))
    ∧ ((r.val < i0 ∨ i0 + 16 ≤ r.val ∨ q.val < i1 ∨ i1 + 1024 ≤ q.val) → Host.scatter scatter_S128x2048_S2_S16x1024_01_n_01_0 (fun _ b => b) x0 idx u (ix2 r q) = x0 (ix2 r q)) := by
  have at_ : ∀ (j : S16x1024.Idx), scatter_S128x2048_S2_S16x1024_01_n_01_0.resultIdx? j idx = some (ix2 r q) → r.val = i0 + (j 0).val ∧ q.val = i1 + (j 1).val := by
    intro j h
    have hj : j = ix2 (j 0) (j 1) := by funext a; match a with | 0 => rfl | 1 => rfl
    have h' := (lands idx i0 i1 h0 h1 hi0 hi1 (j 0) (j 1)).symm.trans ((congrArg (fun z => scatter_S128x2048_S2_S16x1024_01_n_01_0.resultIdx? z idx) hj).symm.trans h)
    have e := Option.some.inj h'
    exact ⟨(congrArg Fin.val (congrFun e 0)).symm, (congrArg Fin.val (congrFun e 1)).symm⟩
  constructor
  · intro k l hr hq
    refine Routing.scatter_set_hit _ x0 idx u (ix2 r q) (u (ix2 k l)) (fun j hj => ?_) (ix2 k l) ?_
    · have := at_ j hj
      have hj : j = ix2 k l := by
        funext a
        match a with
        | 0 => apply Fin.ext; show (j 0).val = k.val; omega
        | 1 => apply Fin.ext; show (j 1).val = l.val; omega
      rw [hj]
    · rw [lands idx i0 i1 h0 h1 hi0 hi1 k l]
      congr 1
      funext a
      match a with
      | 0 => exact Fin.ext hr.symm
      | 1 => exact Fin.ext hq.symm
  · intro h
    refine Routing.scatter_set_miss _ x0 idx u (ix2 r q) (fun j hj => ?_)
    have := at_ j hj
    have a0 : (j 0).val < 16 := (j 0).isLt
    have a1 : (j 1).val < 1024 := (j 1).isLt
    omega

theorem pad_a (gw : Vec Ideal S1x2x16x1024 .f32) (r : Fin 128) (q : Fin 2048) (k : Fin 16) (l : Fin 1024) (hr : r.val = k.val) (hq : q.val = l.val) :
    pad gw (ix2 r q) = gw (ix4 0 0 k l) := by
  unfold pad
  rw [(land_eq (corner 16#32 1024#32) 16 1024 (by rw [corner_0]; rfl) (by rw [corner_1]; rfl) (by decide) (by decide) _ _ r q).2 (by omega)]
  rw [(land_eq (corner 0#32 0#32) 0 0 (by rw [corner_0]; rfl) (by rw [corner_1]; rfl) (by decide) (by decide) _ _ r q).1 k l (by omega) (by omega), wa_apply]

theorem pad_b (gw : Vec Ideal S1x2x16x1024 .f32) (r : Fin 128) (q : Fin 2048) (k : Fin 16) (l : Fin 1024) (hr : r.val = 16 + k.val) (hq : q.val = 1024 + l.val) :
    pad gw (ix2 r q) = gw (ix4 0 1 k l) := by
  unfold pad
  rw [(land_eq (corner 16#32 1024#32) 16 1024 (by rw [corner_0]; rfl) (by rw [corner_1]; rfl) (by decide) (by decide) _ _ r q).1 k l (by omega) (by omega), wb_apply]

theorem pad_0 (gw : Vec Ideal S1x2x16x1024 .f32) (r : Fin 128) (q : Fin 2048) (h : (q.val < 1024 ∧ 16 ≤ r.val) ∨ (1024 ≤ q.val ∧ (r.val < 16 ∨ 32 ≤ r.val))) :
    pad gw (ix2 r q) = (0 : EReal) := by
  unfold pad
  rw [(land_eq (corner 16#32 1024#32) 16 1024 (by rw [corner_0]; rfl) (by rw [corner_1]; rfl) (by decide) (by decide) _ _ r q).2 (by omega)]
  rw [(land_eq (corner 0#32 0#32) 0 0 (by rw [corner_0]; rfl) (by rw [corner_1]; rfl) (by decide) (by decide) _ _ r q).2 (by omega), zero_apply]

theorem trunc_apply (z : FVec Ideal S128x2048 .f32) (i : S128x2048.Idx) : (truncf .bf16 z bitsLt_bf16_f32) i = z i := rfl

/-- A block of the padded gate weights. -/
theorem blk6 (c : Dev nD) (t : Fin cfg0.N) (k : Fin 128) (l : Fin 512) (q : Fin 2048) (hq : q.val = 512 * min (t.val % 20 - 8) 3 + l.val) :
    iblk m c 6 t (ix2 k l) = pad (m ((c : Thread nD τ).loc main_arg6)) (ix2 k q) := by
  blk_simp [iblk, idx t]
  entry_read
  have e : (((View.whole main_v13).slice (win0_6.rect t)).emb (ix2 k l)) = ix2 k q := by blk_ext [idx t]
  rw [e]
  refine (trunc_apply _ _).trans ?_
  unfold pad wa wb corner zero
  rfl

end Cert.Kernel5Ideal.Inproj

end
-- ==== Proof.InprojRef.lean ====
/-
  The input projection's reference: its five results, part by part, and their entries.
-/
module

public import proofs.«01_k».proof.Proof.Gen.Reference5Ideal.Run
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- The sequence's rows, normed and modulated. -/
def hid (x : FVec Ideal S2x8192x2048 .f32) (md : FVec Ideal S8x6144 .f32) (g : FVec Ideal S1x2048 .f32) : FVec Ideal S2x8192x2048 .f32 :=
  addf (mulf (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 (shapeCast _ g shapeCasts_S1x2048_S2048)))) (broadcastInDim S2x8192x2048 ![0, 1, 2] bcast_S2x1x2048_S2x8192x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 2048] (extractStridedSlice S2x6144 ![0, 0] md slices_S8x6144_S2x6144_0_0) slices_S2x6144_S2x2048_0_2048))))) (broadcastInDim S2x8192x2048 ![0, 1, 2] bcast_S2x1x2048_S2x8192x2048_0_1_2 (broadcastInDim S2x1x2048 ![0, 2] bcast_S2x2048_S2x1x2048_0_2 (extractStridedSlice S2x2048 ![0, 0] (extractStridedSlice S2x6144 ![0, 0] md slices_S8x6144_S2x6144_0_0) slices_S2x6144_S2x2048_0_0)))

/-- Their projection. -/
def big (h : FVec Ideal S2x8192x2048 .f32) (w : FVec Ideal S2048x20480 .bf16) : FVec Ideal S2x8192x20480 .f32 :=
  Host.dotGeneral dot_S2x8192x2048_S2048x20480_S2x8192x20480_2_0_01_1_n_n none h (extf .f32 w bitsLt_bf16_f32)

/-- Their low-rank projection. -/
def low (h : FVec Ideal S2x8192x2048 .f32) (wr : FVec Ideal S2048x128 .bf16) : FVec Ideal S2x8192x128 .f32 :=
  Host.dotGeneral dot_S2x8192x2048_S2048x128_S2x8192x128_2_0_01_1_n_n none h (extf .f32 wr bitsLt_bf16_f32)

/-- The first direction's gate before its logarithm. -/
def ka (L : FVec Ideal S2x8192x128 .f32) (gw : FVec Ideal S1x2x16x1024 .f32) (gb : FVec Ideal S1x2x1024 .f32) : FVec Ideal S2x8192x1024 .f32 :=
  addf (Host.dotGeneral dot_S2x8192x16_S16x1024_S2x8192x1024_2_0_01_1_n_n none (extractStridedSlice S2x8192x16 ![0, 0, 0] L slices_S2x8192x128_S2x8192x16_0_0_0) (shapeCast _ (extractStridedSlice S1x1x16x1024 ![0, 0, 0, 0] gw slices_S1x2x16x1024_S1x1x16x1024_0_0_0_0) shapeCasts_S1x1x16x1024_S16x1024)) (broadcastInDim S2x8192x1024 ![0, 1, 2] bcast_S1x1x1024_S2x8192x1024_0_1_2 (broadcastInDim S1x1x1024 ![2] bcast_S1024_S1x1x1024_2 (shapeCast _ (extractStridedSlice S1x1x1024 ![0, 0, 0] gb slices_S1x2x1024_S1x1x1024_0_0_0) shapeCasts_S1x1x1024_S1024)))

/-- The other direction's gate before its logarithm. -/
def kb (L : FVec Ideal S2x8192x128 .f32) (gw : FVec Ideal S1x2x16x1024 .f32) (gb : FVec Ideal S1x2x1024 .f32) : FVec Ideal S2x8192x1024 .f32 :=
  addf (Host.dotGeneral dot_S2x8192x16_S16x1024_S2x8192x1024_2_0_01_1_n_n none (extractStridedSlice S2x8192x16 ![0, 0, 16] L slices_S2x8192x128_S2x8192x16_0_0_16) (shapeCast _ (extractStridedSlice S1x1x16x1024 ![0, 1, 0, 0] gw slices_S1x2x16x1024_S1x1x16x1024_0_1_0_0) shapeCasts_S1x1x16x1024_S16x1024)) (broadcastInDim S2x8192x1024 ![0, 1, 2] bcast_S1x1x1024_S2x8192x1024_0_1_2 (broadcastInDim S1x1x1024 ![2] bcast_S1024_S1x1x1024_2 (shapeCast _ (extractStridedSlice S1x1x1024 ![0, 1, 0] gb slices_S1x2x1024_S1x1x1024_0_1_0) shapeCasts_S1x1x1024_S1024)))

/-- The logarithm of the logistic function over sixteen. -/
def lsg (z : FVec Ideal S2x8192x1024 .f32) : FVec Ideal S2x8192x1024 .f32 :=
  Host.divf (Host.negf (select (cmpf .une (subf (Host.negf z) (broadcastInDim S2x8192x1024 ![] bcast_S_S2x8192x1024 (constant S_ .f32 0x00000000#32))) (subf (Host.negf z) (broadcastInDim S2x8192x1024 ![] bcast_S_S2x8192x1024 (constant S_ .f32 0x00000000#32)))) (addf (Host.negf z) (broadcastInDim S2x8192x1024 ![] bcast_S_S2x8192x1024 (constant S_ .f32 0x00000000#32))) (addf (maximumf (Host.negf z) (broadcastInDim S2x8192x1024 ![] bcast_S_S2x8192x1024 (constant S_ .f32 0x00000000#32))) (Host.log1p (Host.exp (Host.negf (Host.absf (subf (Host.negf z) (broadcastInDim S2x8192x1024 ![] bcast_S_S2x8192x1024 (constant S_ .f32 0x00000000#32)))))))))) (broadcastInDim S2x8192x1024 ![] bcast_S_S2x8192x1024 (constant S_ .f32 0x41800000#32))

/-- The logistic function. -/
def sg (z : FVec Ideal S2x8192x4096 .f32) : FVec Ideal S2x8192x4096 .f32 :=
  Host.divf (broadcastInDim S2x8192x4096 ![] bcast_S_S2x8192x4096 (constant S_ .f32 0x3F800000#32)) (addf (broadcastInDim S2x8192x4096 ![] bcast_S_S2x8192x4096 (constant S_ .f32 0x3F800000#32)) (Host.exp (Host.negf z)))

/-- The queries scaled, beside the keys and values. -/
def cat2 (B : FVec Ideal S2x8192x20480 .f32) : FVec Ideal S2x8192x4096 .f32 :=
  concatenate S2x8192x4096 2 [⟨S2x8192x1024, (mulf (extractStridedSlice S2x8192x1024 ![0, 0, 8192] B slices_S2x8192x20480_S2x8192x1024_0_0_8192) (broadcastInDim S2x8192x1024 ![] bcast_S_S2x8192x1024 (constant S_ .f32 0x3D800000#32)))⟩, ⟨S2x8192x3072, (extractStridedSlice S2x8192x3072 ![0, 0, 9216] B slices_S2x8192x20480_S2x8192x3072_0_0_9216)⟩] concatenates_S2x8192x1024_S2x8192x3072_S2x8192x4096_d2

/-- Both directions' gates. -/
def cat3 (L : FVec Ideal S2x8192x128 .f32) (gw : FVec Ideal S1x2x16x1024 .f32) (gb : FVec Ideal S1x2x1024 .f32) : FVec Ideal S2x8192x2048 .f32 :=
  concatenate S2x8192x2048 2 [⟨S2x8192x1024, (lsg (ka L gw gb))⟩, ⟨S2x8192x1024, (lsg (kb L gw gb))⟩] concatenates_S2x8192x1024_S2x8192x1024_S2x8192x2048_d2

/-- The two gates of the merge. -/
def cat4 (B : FVec Ideal S2x8192x20480 .f32) : FVec Ideal S2x8192x8192 .f32 :=
  concatenate S2x8192x8192 2 [⟨S2x8192x4096, (mulf (extractStridedSlice S2x8192x4096 ![0, 0, 12288] B slices_S2x8192x20480_S2x8192x4096_0_0_12288) (sg (extractStridedSlice S2x8192x4096 ![0, 0, 12288] B slices_S2x8192x20480_S2x8192x4096_0_0_12288)))⟩, ⟨S2x8192x4096, (sg (extractStridedSlice S2x8192x4096 ![0, 0, 16384] B slices_S2x8192x20480_S2x8192x4096_0_0_16384))⟩] concatenates_S2x8192x4096_S2x8192x4096_S2x8192x8192_d2

/-- The first result of the projections. -/
def ref0 (B : FVec Ideal S2x8192x20480 .f32) : FVec Ideal S16384x4096 .bf16 :=
  truncf .bf16 (shapeCast _ (extractStridedSlice S2x8192x4096 ![0, 0, 0] B slices_S2x8192x20480_S2x8192x4096_0_0_0) shapeCasts_S2x8192x4096_S16384x4096) bitsLt_bf16_f32

/-- The second result of the projections. -/
def ref1 (B : FVec Ideal S2x8192x20480 .f32) (lb : FVec Ideal S1x4096 .f32) : FVec Ideal S16384x4096 .f32 :=
  shapeCast _ (mulf (Host.log (addf (broadcastInDim S2x8192x4096 ![0, 1, 2] bcast_S1x1x4096_S2x8192x4096_0_1_2 (broadcastInDim S1x1x4096 ![2] bcast_S4096_S1x1x4096_2 (shapeCast _ lb shapeCasts_S1x4096_S4096))) (mulf (broadcastInDim S2x8192x4096 ![0, 1, 2] bcast_S1x1x4096_S2x8192x4096_0_1_2 (broadcastInDim S1x1x4096 ![2] bcast_S4096_S1x1x4096_2 (subf (broadcastInDim S4096 ![] bcast_S_S4096 (constant S_ .f32 0x3F800000#32)) (shapeCast _ lb shapeCasts_S1x4096_S4096)))) (sg (extractStridedSlice S2x8192x4096 ![0, 0, 4096] B slices_S2x8192x20480_S2x8192x4096_0_0_4096))))) (broadcastInDim S2x8192x4096 ![] bcast_S_S2x8192x4096 (constant S_ .f32 0x3FB8AA3B#32))) shapeCasts_S2x8192x4096_S16384x4096

/-- The third result of the projections. -/
def ref2 (B : FVec Ideal S2x8192x20480 .f32) : FVec Ideal S2x64x128x4096 .bf16 :=
  truncf .bf16 (transpose S2x64x128x4096 [0, 2, 1, 3] (shapeCast _ (cat2 B) shapeCasts_S2x8192x4096_S2x128x64x4096) transposes_S2x128x64x4096_S2x64x128x4096_0_2_1_3) bitsLt_bf16_f32

/-- The fourth result of the projections. -/
def ref3 (L : FVec Ideal S2x8192x128 .f32) (gw : FVec Ideal S1x2x16x1024 .f32) (gb : FVec Ideal S1x2x1024 .f32) : FVec Ideal S2x64x128x2048 .f32 :=
  transpose S2x64x128x2048 [0, 2, 1, 3] (shapeCast _ (mulf (cat3 L gw gb) (broadcastInDim S2x8192x2048 ![] bcast_S_S2x8192x2048 (constant S_ .f32 0x3FB8AA3B#32))) shapeCasts_S2x8192x2048_S2x128x64x2048) transposes_S2x128x64x2048_S2x64x128x2048_0_2_1_3

/-- The fifth result of the projections. -/
def ref4 (B : FVec Ideal S2x8192x20480 .f32) : FVec Ideal S16384x8192 .bf16 :=
  truncf .bf16 (shapeCast _ (cat4 B) shapeCasts_S2x8192x8192_S16384x8192) bitsLt_bf16_f32

end Cert.Reference5Ideal.Value

end
-- ==== Proof.InprojRefA.lean ====
/-
  The input projection's reference: its five results, the entries of its parts.
-/
module

public import proofs.«01_k».proof.Proof.InprojRef
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- A normed and modulated entry. -/
theorem hid_apply (x : FVec Ideal S2x8192x2048 .f32) (md : FVec Ideal S8x6144 .f32) (g : FVec Ideal S1x2048 .f32) (b : Fin 2) (s : Fin 8192) (k : Fin 2048) :
    hid x md g (ix3 b s k) = x (ix3 b s k) * Ideal.rsqrt (Ideal.div (∑ e, x (ix3 b s e) * x (ix3 b s e)) (Ideal.ofBits FTy.f32 0x45000000#32) + Ideal.ofBits FTy.f32 0x358637BD#32)
      * g (ix2 0 k) * (1 + md (ix2 ⟨b.val, by omega⟩ ⟨2048 + k.val, by omega⟩)) + md (ix2 ⟨b.val, by omega⟩ ⟨k.val, by omega⟩) := by
  pointwise [hid]

/-- A projection's entry. -/
theorem big_apply (h : FVec Ideal S2x8192x2048 .f32) (w : FVec Ideal S2048x20480 .bf16) (b : Fin 2) (s : Fin 8192) (q : Fin 20480) :
    big h w (ix3 b s q) = ∑ k : Fin 2048, @HMul.hMul EReal EReal EReal _ (h (ix3 b s k)) (w (ix2 k q)) := by
  pointwise [big]

/-- A low-rank projection's entry. -/
theorem low_apply (h : FVec Ideal S2x8192x2048 .f32) (w : FVec Ideal S2048x128 .bf16) (b : Fin 2) (s : Fin 8192) (q : Fin 128) :
    low h w (ix3 b s q) = ∑ k : Fin 2048, @HMul.hMul EReal EReal EReal _ (h (ix3 b s k)) (w (ix2 k q)) := by
  pointwise [low]

/-- The first direction's gate before its logarithm. -/
theorem ka_apply (L : FVec Ideal S2x8192x128 .f32) (gw : FVec Ideal S1x2x16x1024 .f32) (gb : FVec Ideal S1x2x1024 .f32) (b : Fin 2) (s : Fin 8192) (q : Fin 1024) :
    ka L gw gb (ix3 b s q) = ∑ k : Fin 16, L (ix3 b s ⟨k.val, by omega⟩) * gw (ix4 0 0 k q) + gb (ix3 0 0 q) := by
  pointwise [ka]

/-- The other direction's gate before its logarithm. -/
theorem kb_apply (L : FVec Ideal S2x8192x128 .f32) (gw : FVec Ideal S1x2x16x1024 .f32) (gb : FVec Ideal S1x2x1024 .f32) (b : Fin 2) (s : Fin 8192) (q : Fin 1024) :
    kb L gw gb (ix3 b s q) = ∑ k : Fin 16, L (ix3 b s ⟨16 + k.val, by omega⟩) * gw (ix4 0 1 k q) + gb (ix3 0 1 q) := by
  pointwise [kb]

/-- The logarithm of the logistic function over sixteen, as the reference spells it. -/
def lsgE (z : EReal) : EReal :=
  Ideal.div (-if -z ≠ -z then -z else max (-z) 0 + Ideal.log1p (Ideal.exp (-max (-z) (- -z)))) (Ideal.ofBits FTy.f32 0x41800000#32)

theorem lsg_apply (z : FVec Ideal S2x8192x1024 .f32) (i : S2x8192x1024.Idx) : lsg z i = lsgE (z i) := by
  pointwise [lsg, lsgE]
  rfl

/-- The logistic function. -/
def sgE (z : EReal) : EReal := Ideal.div 1 (1 + Ideal.exp (-z))

theorem sg_apply (z : FVec Ideal S2x8192x4096 .f32) (i : S2x8192x4096.Idx) : sg z i = sgE (z i) := by
  pointwise [sg, sgE]

theorem ref0_apply (B : FVec Ideal S2x8192x20480 .f32) (r : Fin 16384) (q : Fin 4096) :
    ref0 B (ix2 r q) = B (ix3 ⟨r.val / 8192, by omega⟩ ⟨r.val % 8192, by omega⟩ ⟨q.val, by omega⟩) := by
  pointwise [ref0]

theorem ref1_apply (B : FVec Ideal S2x8192x20480 .f32) (lb : FVec Ideal S1x4096 .f32) (r : Fin 16384) (q : Fin 4096) :
    ref1 B lb (ix2 r q) = Ideal.log (lb (ix2 0 q) + (1 - lb (ix2 0 q)) * sgE (B (ix3 ⟨r.val / 8192, by omega⟩ ⟨r.val % 8192, by omega⟩ ⟨4096 + q.val, by omega⟩))) * Ideal.ofBits FTy.f32 0x3FB8AA3B#32 := by
  pointwise [ref1]
  rw [sg_apply]
  pointwise

end Cert.Reference5Ideal.Value

end
-- ==== Proof.InprojRefB.lean ====
/-
  The input projection's reference: its five results, the entries of its parts.
-/
module

public import proofs.«01_k».proof.Proof.InprojRef
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- The entries of a transposed sequence of width 2048. -/
theorem tr3_apply (z : FVec Ideal S2x8192x2048 .f32) (b : Fin 2) (a : Fin 64) (e : Fin 128) (q : Fin 2048) :
    transpose S2x64x128x2048 [0, 2, 1, 3] (shapeCast _ z shapeCasts_S2x8192x2048_S2x128x64x2048) transposes_S2x128x64x2048_S2x64x128x2048_0_2_1_3 (ix4 b a e q) = z (ix3 b ⟨e.val * 64 + a.val, by omega⟩ q) := by
  pointwise

theorem ref3_apply (L : FVec Ideal S2x8192x128 .f32) (gw : FVec Ideal S1x2x16x1024 .f32) (gb : FVec Ideal S1x2x1024 .f32) (b : Fin 2) (a : Fin 64) (e : Fin 128) (q : Fin 2048) :
    ref3 L gw gb (ix4 b a e q) = cat3 L gw gb (ix3 b ⟨e.val * 64 + a.val, by omega⟩ q) * Ideal.ofBits FTy.f32 0x3FB8AA3B#32 := by
  unfold ref3
  rw [tr3_apply]
  generalize cat3 L gw gb = z
  pointwise

end Cert.Reference5Ideal.Value

end
-- ==== Proof.InprojRefC.lean ====
/-
  The input projection's reference: its five results, the entries of its parts.
-/
module

public import proofs.«01_k».proof.Proof.InprojRef
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Reference5Ideal.Value

open Cert.Reference5Ideal Cert.Reference5Ideal.Gen

theorem cat2_apply (B : FVec Ideal S2x8192x20480 .f32) (b : Fin 2) (s : Fin 8192) (q : Fin 4096) :
    cat2 B (ix3 b s q) = if h : q.val < 1024 then B (ix3 b s ⟨8192 + q.val, by omega⟩) * Ideal.ofBits FTy.f32 0x3D800000#32
    else B (ix3 b s ⟨9216 + (q.val - 1024), by omega⟩) := by
  pointwise [cat2]

end Cert.Reference5Ideal.Value

end
-- ==== Proof.InprojRefD.lean ====
/-
  The input projection's reference: its five results, the entries of its parts.
-/
module

public import proofs.«01_k».proof.Proof.InprojRef
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Reference5Ideal.Value

open Cert.Reference5Ideal Cert.Reference5Ideal.Gen

theorem cat3_apply (L : FVec Ideal S2x8192x128 .f32) (gw : FVec Ideal S1x2x16x1024 .f32) (gb : FVec Ideal S1x2x1024 .f32) (b : Fin 2) (s : Fin 8192) (q : Fin 2048) :
    cat3 L gw gb (ix3 b s q) = if h : q.val < 1024 then lsg (ka L gw gb) (ix3 b s ⟨q.val, h⟩) else lsg (kb L gw gb) (ix3 b s ⟨q.val - 1024, by omega⟩) := by
  pointwise [cat3]

end Cert.Reference5Ideal.Value

end
-- ==== Proof.InprojRefE.lean ====
/-
  The input projection's reference: its five results, the entries of its parts.
-/
module

public import proofs.«01_k».proof.Proof.InprojRef
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Reference5Ideal.Value

open Cert.Reference5Ideal Cert.Reference5Ideal.Gen

theorem cat4_apply (B : FVec Ideal S2x8192x20480 .f32) (b : Fin 2) (s : Fin 8192) (q : Fin 8192) :
    cat4 B (ix3 b s q) = if h : q.val < 4096 then
      B (ix3 b s ⟨12288 + q.val, by omega⟩) * sg (extractStridedSlice S2x8192x4096 ![0, 0, 12288] B slices_S2x8192x20480_S2x8192x4096_0_0_12288) (ix3 b s ⟨q.val, h⟩)
    else sg (extractStridedSlice S2x8192x4096 ![0, 0, 16384] B slices_S2x8192x20480_S2x8192x4096_0_0_16384) (ix3 b s ⟨q.val - 4096, by omega⟩) := by
  pointwise [cat4]

end Cert.Reference5Ideal.Value

end
-- ==== Proof.InprojRefG.lean ====
/-
  The input projection's reference: its five results, the entries of its parts.
-/
module

public import proofs.«01_k».proof.Proof.InprojRef
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Reference5Ideal.Value

open Cert.Reference5Ideal Cert.Reference5Ideal.Gen

theorem ref4_apply (B : FVec Ideal S2x8192x20480 .f32) (r : Fin 16384) (q : Fin 8192) :
    ref4 B (ix2 r q) = cat4 B (ix3 ⟨r.val / 8192, by omega⟩ ⟨r.val % 8192, by omega⟩ q) := by
  pointwise [ref4]

end Cert.Reference5Ideal.Value

end
-- ==== Proof.InprojRefH.lean ====
/-
  The input projection's reference: its five results, the entries of its parts.
-/
module

public import proofs.«01_k».proof.Proof.InprojRef
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- The entries of a transposed sequence of width 4096. -/
theorem tr2_apply (z : FVec Ideal S2x8192x4096 .f32) (b : Fin 2) (a : Fin 64) (e : Fin 128) (q : Fin 4096) :
    transpose S2x64x128x4096 [0, 2, 1, 3] (shapeCast _ z shapeCasts_S2x8192x4096_S2x128x64x4096) transposes_S2x128x64x4096_S2x64x128x4096_0_2_1_3 (ix4 b a e q) = z (ix3 b ⟨e.val * 64 + a.val, by omega⟩ q) := by
  pointwise

/-- Narrowing changes no entry. -/
theorem trunc_apply {s : Shape} (z : FVec Ideal s .f32) (i : s.Idx) : truncf .bf16 z bitsLt_bf16_f32 i = z i := rfl

theorem ref2_apply (B : FVec Ideal S2x8192x20480 .f32) (b : Fin 2) (a : Fin 64) (e : Fin 128) (q : Fin 4096) :
    ref2 B (ix4 b a e q) = cat2 B (ix3 b ⟨e.val * 64 + a.val, by omega⟩ q) := by
  unfold ref2
  rw [trunc_apply, tr2_apply]

end Cert.Reference5Ideal.Value

end
-- ==== Proof.InprojVal.lean ====
/-
  The input projection: the entries of what its body computes, at exact values.
-/
module

public import proofs.«01_k».proof.Proof.InprojPad
public import proofs.«01_k».proof.Proof.InprojRefA
public import proofs.«01_k».proof.Proof.InprojRefB
public import proofs.«01_k».proof.Proof.InprojRefC
public import proofs.«01_k».proof.Proof.InprojRefD
public import proofs.«01_k».proof.Proof.InprojRefE
public import proofs.«01_k».proof.Proof.InprojRefG
public import proofs.«01_k».proof.Proof.InprojRefH
public import Idealize.ShloMosaic.Lib.Routing.OpsSet
public import proofs.«01_k».proof.Proof.InprojSays
public import proofs.«01_k».proof.Proof.InprojScalar
public import Idealize.ShloMosaic.Lib.Pointwise

@[expose] public section

set_option maxRecDepth 16384

noncomputable section

open Idealize.ShloMosaic Idealize.ShloMosaic.TcCoe Idealize.SL.Sem

namespace Cert.Kernel5Ideal.Inproj

open Cert.Kernel5Ideal Cert.Kernel5Ideal.Gen

open Cert.Inproj (dot sgE lsE)
open Cert.Reference5Ideal.Value (hid big low ka kb lsg sg cat2 cat3 cat4 ref0 ref1 ref2 ref3 ref4)

variable (m : (ℓ : Loc nD τ sig) → Buf (Elt Ideal) ℓ)

/-- The normed and modulated rows of the arguments. -/
def hidA (c : Dev nD) := hid (m ((c : Thread nD τ).loc main_arg0)) (m ((c : Thread nD τ).loc main_arg1)) (m ((c : Thread nD τ).loc main_arg2))

/-- Their projection. -/
def bigA (c : Dev nD) := big (hidA m c) (m ((c : Thread nD τ).loc main_arg3))

/-- Their low-rank projection. -/
def lowA (c : Dev nD) := low (hidA m c) (m ((c : Thread nD τ).loc main_arg4))

/-- What is said of each kept buffer and of each result's block: its entries are the reference's. -/
def told (c : Dev nD) : Says Ideal where
  H i h := ∀ (p : Fin 1024) (k : Fin 2048) (b : Fin 2) (s : Fin 8192), 8192 * b.val + s.val = 1024 * i + p.val → h (ix2 p k) = hidA m c (ix3 b s k)
  R i h := ∀ (p : Fin 1024) (k : Fin 128) (b : Fin 2) (s : Fin 8192), 8192 * b.val + s.val = 1024 * i + p.val → h (ix2 p k) = lowA m c (ix3 b s k)
  O8 i q X := ∀ (p l : Fin 1024) (r : Fin 16384) (z : Fin 4096), r.val = 1024 * i + p.val → z.val = 1024 * q + l.val → X (ix2 p l) = ref0 (bigA m c) (ix2 r z)
  O9 i q X := ∀ (p l : Fin 1024) (r : Fin 16384) (z : Fin 4096), r.val = 1024 * i + p.val → z.val = 1024 * q + l.val → X (ix2 p l) = ref1 (bigA m c) (m ((c : Thread nD τ).loc main_arg5)) (ix2 r z)
  O10 i q X := ∀ (a : Fin 64) (e : Fin 16) (l : Fin 1024) (b : Fin 2) (u : Fin 128) (z : Fin 4096), 128 * b.val + u.val = 16 * i + e.val → z.val = 1024 * q + l.val → X (ix4 0 a e l) = ref2 (bigA m c) (ix4 b a u z)
  O11 i q X := ∀ (a : Fin 64) (e : Fin 16) (l : Fin 512) (b : Fin 2) (u : Fin 128) (z : Fin 2048), 128 * b.val + u.val = 16 * i + e.val → z.val = 512 * q + l.val → X (ix4 0 a e l) = ref3 (lowA m c) (m ((c : Thread nD τ).loc main_arg6)) (m ((c : Thread nD τ).loc main_arg7)) (ix4 b a u z)
  O12 i q X := ∀ (p l : Fin 1024) (r : Fin 16384) (z : Fin 8192), r.val = 1024 * i + p.val → z.val = 1024 * q + l.val → X (ix2 p l) = ref4 (bigA m c) (ix2 r z)

/-- Two rows times two columns that agree. -/
theorem dot_eq {n : ℕ} {u u' v v' : Fin n → EReal} (hu : ∀ k, u k = u' k) (hv : ∀ k, v k = v' k) : dot u v = dot u' v' := by
  rw [funext hu, funext hv]

/-- A row the kernel norms and modulates is the reference's. -/
theorem norm_row (c : Dev nD) (t : Fin cfg0.N) (k : Fin 8) (p : Fin 128) (b : Fin 2) (s : Fin 8192) (h : 8192 * b.val + s.val = 1024 * (t.val / 20) + (128 * k.val + p.val)) (e : Fin 2048) :
    k0_pay11 (rows k (iblk m c 0 t)) (iblk m c 2 t) (mrow 1 (iblk m c 1 t)) (mrow 0 (iblk m c 1 t)) (ix2 p e) = hidA m c (ix3 b s e) := by
  have hx : ∀ e, rows k (iblk m c 0 t) (ix2 p e) = m ((c : Thread nD τ).loc main_arg0) (ix3 b s e) := fun e => blk0 m c t ⟨128 * k.val + p.val, by omega⟩ b s h e
  have hb : b.val = t.val / 160 := by have := s.isLt; omega
  have h1 : mrow 1 (iblk m c 1 t) (ix3 0 0 e) = m ((c : Thread nD τ).loc main_arg1) (ix2 ⟨b.val, by omega⟩ ⟨2048 + e.val, by omega⟩) := blk1 m c t 1 ⟨b.val, by omega⟩ hb e ⟨2048 + e.val, by omega⟩ rfl
  have h0 : mrow 0 (iblk m c 1 t) (ix3 0 0 e) = m ((c : Thread nD τ).loc main_arg1) (ix2 ⟨b.val, by omega⟩ ⟨e.val, by omega⟩) := blk1 m c t 0 ⟨b.val, by omega⟩ hb e ⟨e.val, by omega⟩ (by show e.val = 2048 * 0 + e.val; omega)
  rw [pay11_apply, dot_eq (fun e => hx e) (fun e => hx e), hx, blk2, h1, h0]
  exact (Cert.Reference5Ideal.Value.hid_apply _ _ _ b s e).symm

/-- A kept row times a block of the projection's columns. -/
theorem big_at (c : Dev nD) (t : Fin cfg0.N) (u : Fin 2048 → EReal) (b : Fin 2) (s : Fin 8192) (hu : ∀ k, u k = hidA m c (ix3 b s k)) (l : Fin 1024) (q : Fin 20480) (hq : q.val = 1024 * (t.val % 20) + l.val) :
    dot u (fun k => iblk m c 3 t (ix2 k l)) = bigA m c (ix3 b s q) := by
  rw [dot_eq hu (fun k => blk3 m c t k l q hq)]
  exact (Cert.Reference5Ideal.Value.big_apply _ _ b s q).symm

/-- A kept row times the low-rank projection. -/
theorem low_at (c : Dev nD) (t : Fin cfg0.N) (u : Fin 2048 → EReal) (b : Fin 2) (s : Fin 8192) (hu : ∀ k, u k = hidA m c (ix3 b s k)) (l : Fin 128) :
    dot u (fun k => iblk m c 4 t (ix2 k l)) = lowA m c (ix3 b s l) := by
  rw [dot_eq hu (fun k => blk4 m c t k l)]
  exact (Cert.Reference5Ideal.Value.low_apply _ _ b s l).symm

/-- A row of a block in its eight pieces. -/
theorem split (r : Fin 1024) : ∃ (k : Fin 8) (p : Fin 128), r.val = 128 * k.val + p.val :=
  ⟨⟨r.val / 128, by omega⟩, ⟨r.val % 128, by omega⟩, by show r.val = 128 * (r.val / 128) + r.val % 128; omega⟩

/-- The grid's second coordinate. -/
theorem coord : ∀ t : Fin cfg0.N, ((grid0.coords t) 1).val = t.val % 20 :=
  (by decide +kernel : ∀ t : Fin grid0.N, _)

theorem sel16 (n : ℕ) (h : n < 20) (x y : EReal) : Scalar.select (Scalar.cmpi .slt (BitVec.ofNat 32 n) 16#32) x y = if n < 16 then x else y := by
  have : ∀ n : Fin 20, Scalar.cmpi .slt (BitVec.ofNat 32 n.val) 16#32 = if n.val < 16 then 1#1 else 0#1 := by decide
  rw [this ⟨n, h⟩]
  by_cases hn : n < 16
  · rw [if_pos hn, if_pos hn]; rfl
  · rw [if_neg hn, if_neg hn]; rfl

theorem sel9 (n : ℕ) (h : n < 20) (x y : EReal) : Scalar.select (Scalar.cmpi .slt (BitVec.ofNat 32 n) 9#32) x y = if n < 9 then x else y := by
  have : ∀ n : Fin 20, Scalar.cmpi .slt (BitVec.ofNat 32 n.val) 9#32 = if n.val < 9 then 1#1 else 0#1 := by decide
  rw [this ⟨n, h⟩]
  by_cases hn : n < 9
  · rw [if_pos hn, if_pos hn]; rfl
  · rw [if_neg hn, if_neg hn]; rfl

/-- The two spellings of a gate's scaled logarithm. -/
theorem gate (z : EReal) : Cert.Reference5Ideal.Value.lsgE z * Ideal.ofBits FTy.f32 0x3FB8AA3B#32 = lsE z := by
  unfold Cert.Reference5Ideal.Value.lsgE lsE
  rw [if_neg (by simp)]
  show Ideal.div (-(max (-z) 0 + Ideal.log (1 + Ideal.exp (-max (-z) (- -z))))) _ * _ = _
  rw [Cert.Inproj.lsig, Cert.Inproj.scaled]

theorem told_a8 (c : Dev nD) (t : Fin cfg0.N) (ht : t.val % 20 = 0) (X) (hX : Pieces 1024 (fun k => k0_pay14 (k0_pay11 (rows k (iblk m c 0 t)) (iblk m c 2 t) (mrow 1 (iblk m c 1 t)) (mrow 0 (iblk m c 1 t))) (iblk m c 3 t)) X) :
    (told m c).O8 (t.val / 20) 0 X := by
  intro r l R z hR hz
  obtain ⟨k, p, hr⟩ := split r
  rw [hX k p l r hr, Cert.Reference5Ideal.Value.ref0_apply]
  refine (pay14_apply _ _ p l).trans ?_
  exact big_at m c t _ _ _ (fun e => norm_row m c t k p _ _ (by show 8192 * (R.val / 8192) + R.val % 8192 = _; omega) e) l _ (by show z.val = _; omega)

theorem told_ah (c : Dev nD) (t : Fin cfg0.N) (ht : t.val % 20 = 0) (X) (hX : Pieces 2048 (fun k => k0_pay12 (rows k (iblk m c 0 t)) (iblk m c 2 t) (mrow 1 (iblk m c 1 t)) (mrow 0 (iblk m c 1 t))) X) :
    (told m c).H (t.val / 20) X := by
  intro r e b s h
  obtain ⟨k, p, hr⟩ := split r
  rw [hX k p e r hr]
  refine (pay12_apply _ _ _ _ p e).trans ?_
  exact norm_row m c t k p b s (by omega) e

theorem told_ar (c : Dev nD) (t : Fin cfg0.N) (ht : t.val % 20 = 0) (X) (hX : Pieces 128 (fun k => k0_pay13 (rows k (iblk m c 0 t)) (iblk m c 2 t) (mrow 1 (iblk m c 1 t)) (mrow 0 (iblk m c 1 t)) (iblk m c 4 t)) X) :
    (told m c).R (t.val / 20) X := by
  intro r e b s h
  obtain ⟨k, p, hr⟩ := split r
  rw [hX k p e r hr]
  refine (pay13_apply _ _ _ _ _ p e).trans ?_
  exact low_at m c t _ b s (fun e => norm_row m c t k p b s (by omega) e) e

theorem told_ofB (c : Dev nD) (t : Fin cfg0.N) (h1 : 1 ≤ t.val % 20) (h3 : t.val % 20 ≤ 3) (hs) (hH : (told m c).H (t.val / 20) hs) (X) (hX : Pieces 1024 (fun k => k0_pay4 (rows k hs) (iblk m c 3 t)) X) :
    (told m c).O8 (t.val / 20) (t.val % 20) X := by
  intro r l R z hR hz
  obtain ⟨k, p, hr⟩ := split r
  rw [hX k p l r hr, Cert.Reference5Ideal.Value.ref0_apply]
  refine (pay4_apply _ _ p l).trans ?_
  exact big_at m c t _ _ _ (fun e => hH ⟨128 * k.val + p.val, by omega⟩ e _ _ (by show 8192 * (R.val / 8192) + R.val % 8192 = 1024 * _ + (128 * k.val + p.val); omega)) l _ (by show z.val = _; omega)

theorem told_ofC (c : Dev nD) (t : Fin cfg0.N) (h1 : 4 ≤ t.val % 20) (h3 : t.val % 20 ≤ 7) (hs) (hH : (told m c).H (t.val / 20) hs) (X) (hX : Pieces 1024 (fun k => k0_pay7 (iblk m c 5 t) (rows k hs) (iblk m c 3 t)) X) :
    (told m c).O9 (t.val / 20) (t.val % 20 - 4) X := by
  intro r l R z hR hz
  obtain ⟨k, p, hr⟩ := split r
  rw [hX k p l r hr, Cert.Reference5Ideal.Value.ref1_apply]
  refine (pay7_apply _ _ _ p l).trans ?_
  rw [big_at m c t (fun e => rows k hs (ix2 p e)) ⟨R.val / 8192, by omega⟩ ⟨R.val % 8192, by omega⟩ (fun e => hH ⟨128 * k.val + p.val, by omega⟩ e _ _ (by show 8192 * (R.val / 8192) + R.val % 8192 = 1024 * _ + (128 * k.val + p.val); omega)) l ⟨4096 + z.val, by omega⟩ (by show 4096 + z.val = _; omega),
    blk5 m c t l z (by omega)]
  rfl

theorem told_d10 (c : Dev nD) (t : Fin cfg0.N) (h1 : 8 ≤ t.val % 20) (h3 : t.val % 20 ≤ 11) (hs) (hH : (told m c).H (t.val / 20) hs) :
    (told m c).O10 (t.val / 20) (t.val % 20 - 8) (k0_pay8 (k0_pay67 (BitVec.ofNat 32 ((grid0.coords t) 1).val) hs (iblk m c 3 t))) := by
  intro a e l b u z hu hz
  rw [Cert.Reference5Ideal.Value.ref2_apply, Cert.Reference5Ideal.Value.cat2_apply]
  refine (pay67_apply _ _ _ a e l).trans ?_
  rw [big_at m c t _ b ⟨u.val * 64 + a.val, by omega⟩ (fun k => hH ⟨e.val * 64 + a.val, by omega⟩ k _ _ (by show 8192 * b.val + (u.val * 64 + a.val) = 1024 * _ + (e.val * 64 + a.val); omega)) l ⟨8192 + z.val, by omega⟩ (by show 8192 + z.val = _; omega),
    coord, sel9 _ (by omega)]
  by_cases hn : t.val % 20 < 9
  · rw [if_pos hn, dif_pos (by omega)]
  · rw [if_neg hn, dif_neg (by omega), mul_one]
    exact congrArg (fun q => bigA m c (ix3 b _ q)) (Fin.ext (by show 8192 + z.val = 9216 + (z.val - 1024); omega))

theorem told_d11 (c : Dev nD) (t : Fin cfg0.N) (h1 : 8 ≤ t.val % 20) (h3 : t.val % 20 ≤ 11) (rs) (hR : (told m c).R (t.val / 20) rs) :
    (told m c).O11 (t.val / 20) (t.val % 20 - 8) (k0_pay66 rs (iblk m c 6 t) (iblk m c 7 t)) := by
  intro a e l b u z hu hz
  rw [Cert.Reference5Ideal.Value.ref3_apply, Cert.Reference5Ideal.Value.cat3_apply]
  refine (pay66_apply _ _ _ a e l).trans ?_
  have hm : min (t.val % 20 - 8) 3 = t.val % 20 - 8 := by omega
  have hr : ∀ k, rs (ix2 ⟨e.val * 64 + a.val, by omega⟩ k) = lowA m c (ix3 b ⟨u.val * 64 + a.val, by omega⟩ k) := fun k => hR ⟨e.val * 64 + a.val, by omega⟩ k _ _ (by show 8192 * b.val + (u.val * 64 + a.val) = 1024 * _ + (e.val * 64 + a.val); omega)
  rw [dot_eq hr (fun k => blk6 m c t k l z (by omega))]
  by_cases hn : z.val < 1024
  · rw [dif_pos hn, Cert.Reference5Ideal.Value.lsg_apply, gate, Cert.Reference5Ideal.Value.ka_apply, blk7 m c t l 0 ⟨z.val, hn⟩ (by show 1024 * 0 + z.val = _; omega),
      Cert.Inproj.sum_part _ (fun k : Fin 128 => pad (m ((c : Thread nD τ).loc main_arg6)) (ix2 k z)) (fun k : Fin 16 => m ((c : Thread nD τ).loc main_arg6) (ix4 0 0 k ⟨z.val, hn⟩)) 0 (by decide)
        (fun k => pad_a _ ⟨0 + k.val, by omega⟩ z k ⟨z.val, hn⟩ (by show 0 + k.val = k.val; omega) rfl) (fun k hk => pad_0 _ k z (by omega))]
    refine congrArg lsE (congrArg (fun x : EReal => @HAdd.hAdd EReal EReal EReal _ x _) (Finset.sum_congr rfl fun k _ => ?_))
    exact congrArg (fun q => @HMul.hMul EReal EReal EReal _ (lowA m c (ix3 b _ q)) _) (Fin.ext (by show 0 + k.val = k.val; omega))
  · rw [dif_neg hn, Cert.Reference5Ideal.Value.lsg_apply, gate, Cert.Reference5Ideal.Value.kb_apply, blk7 m c t l 1 ⟨z.val - 1024, by omega⟩ (by show 1024 * 1 + (z.val - 1024) = _; omega),
      Cert.Inproj.sum_part _ (fun k : Fin 128 => pad (m ((c : Thread nD τ).loc main_arg6)) (ix2 k z)) (fun k : Fin 16 => m ((c : Thread nD τ).loc main_arg6) (ix4 0 1 k ⟨z.val - 1024, by omega⟩)) 16 (by decide)
        (fun k => pad_b _ ⟨16 + k.val, by omega⟩ z k ⟨z.val - 1024, by omega⟩ rfl (by show z.val = 1024 + (z.val - 1024); omega)) (fun k hk => pad_0 _ k z (by omega))]

theorem slice_a (B : FVec Ideal Cert.Reference5Ideal.S2x8192x20480 .f32) (b : Fin 2) (s : Fin 8192) (q : Fin 4096) (h) :
    extractStridedSlice Cert.Reference5Ideal.S2x8192x4096 ![0, 0, 12288] B h (ix3 b s q) = B (ix3 b s ⟨12288 + q.val, by omega⟩) := by
  pointwise

theorem slice_b (B : FVec Ideal Cert.Reference5Ideal.S2x8192x20480 .f32) (b : Fin 2) (s : Fin 8192) (q : Fin 4096) (h) :
    extractStridedSlice Cert.Reference5Ideal.S2x8192x4096 ![0, 0, 16384] B h (ix3 b s q) = B (ix3 b s ⟨16384 + q.val, by omega⟩) := by
  pointwise

theorem told_ofE (c : Dev nD) (t : Fin cfg0.N) (h1 : 12 ≤ t.val % 20) (hs) (hH : (told m c).H (t.val / 20) hs) (X) (hX : Pieces 1024 (fun k => k0_pay68 (BitVec.ofNat 32 ((grid0.coords t) 1).val) (rows k hs) (iblk m c 3 t)) X) :
    (told m c).O12 (t.val / 20) (t.val % 20 - 12) X := by
  intro r l R z hR hz
  obtain ⟨k, p, hr⟩ := split r
  rw [hX k p l r hr, Cert.Reference5Ideal.Value.ref4_apply, Cert.Reference5Ideal.Value.cat4_apply]
  refine (pay68_apply _ _ _ p l).trans ?_
  rw [big_at m c t (fun e => rows k hs (ix2 p e)) ⟨R.val / 8192, by omega⟩ ⟨R.val % 8192, by omega⟩ (fun e => hH ⟨128 * k.val + p.val, by omega⟩ e _ _ (by show 8192 * (R.val / 8192) + R.val % 8192 = 1024 * _ + (128 * k.val + p.val); omega)) l ⟨12288 + z.val, by omega⟩ (by show 12288 + z.val = _; omega),
    coord, sel16 _ (by omega)]
  by_cases hn : t.val % 20 < 16
  · rw [if_pos hn, dif_pos (by omega), Cert.Reference5Ideal.Value.sg_apply, slice_a]
    exact mul_comm _ _
  · rw [if_neg hn, dif_neg (by omega), mul_one, Cert.Reference5Ideal.Value.sg_apply, slice_b]
    exact congrArg (fun q => sgE (bigA m c (ix3 _ _ q))) (Fin.ext (by show 12288 + z.val = 16384 + (z.val - 4096); omega))

/-- All of it holds of what the branches write. -/
theorem told_holds (c : Dev nD) : Holds m (told m c) c :=
  ⟨fun t h X hX => told_a8 m c t h X hX, fun t h X hX => told_ah m c t h X hX, fun t h X hX => told_ar m c t h X hX, fun t h h' hs hH X hX => told_ofB m c t h h' hs hH X hX,
    fun t h h' hs hH X hX => told_ofC m c t h h' hs hH X hX, fun t h h' hs hH => told_d10 m c t h h' hs hH, fun t h h' rs hR => told_d11 m c t h h' rs hR, fun t h hs hH X hX => told_ofE m c t h hs hH X hX⟩

end Cert.Kernel5Ideal.Inproj

end
-- ==== Proof.InprojFin.lean ====
/-
  The input projection: its five results after the run.
-/
module

public import proofs.«01_k».proof.Proof.InprojRun
public import proofs.«01_k».proof.Proof.InprojVal

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference5Ideal.Value (ref0 ref1 ref2 ref3 ref4)

variable (m : (ℓ : Loc nD τ sig) → Buf (Elt Ideal) ℓ)

/-- Contents told by the claims, for each window at each point. -/
abbrev After := (w : Fin cfg0.W) → Fin cfg0.N → (cfg0.win w).block.Idx → Elt Ideal (cfg0.win w).elt

/-- The first result's array is the reference's. -/
theorem final_8 (c : Dev nD) (after : After) (h : ∀ t : Fin cfg0.N, (cfg0.win 8).flush t = true → Rl (told m c) 8 t (after 8 t)) :
    (((dats m (told m c) c).toRRel marked (Rl (told m c))).withAfter after).arrAt 8 cfg0.N = ref0 (bigA m c) := by
  refine Dat.arrAt_eq_of_covers _ 8 _ (by decide +kernel) fun t hf y => ?_
  blk_simp
  rw [Pipeline.RDat.withAfter_after]
  idx_vars y
  have ht : t.val < 320 := t.isLt
  have e : ((cfg0.win 8).blk t).view.emb (ix2 y0 y1) = ix2 ⟨1024 * (t.val / 20) + y0.val, by omega⟩ ⟨1024 * min (t.val % 20) 3 + y1.val, by omega⟩ := by blk_ext [idx t]
  rw [e]
  exact h t hf y0 y1 _ _ rfl rfl

/-- The second result's array is the reference's. -/
theorem final_9 (c : Dev nD) (after : After) (h : ∀ t : Fin cfg0.N, (cfg0.win 9).flush t = true → Rl (told m c) 9 t (after 9 t)) :
    (((dats m (told m c) c).toRRel marked (Rl (told m c))).withAfter after).arrAt 9 cfg0.N = ref1 (bigA m c) (m ((c : Thread nD τ).loc main_arg5)) := by
  refine Dat.arrAt_eq_of_covers _ 9 _ (by decide +kernel) fun t hf y => ?_
  blk_simp
  rw [Pipeline.RDat.withAfter_after]
  idx_vars y
  have ht : t.val < 320 := t.isLt
  have e : ((cfg0.win 9).blk t).view.emb (ix2 y0 y1) = ix2 ⟨1024 * (t.val / 20) + y0.val, by omega⟩ ⟨1024 * min (t.val % 20 - 4) 3 + y1.val, by omega⟩ := by blk_ext [idx t]
  rw [e]
  exact h t hf (by have := (flush_9 t).1 hf; omega) y0 y1 _ _ rfl rfl

/-- The third result's array is the reference's. -/
theorem final_10 (c : Dev nD) (after : After) (h : ∀ t : Fin cfg0.N, (cfg0.win 10).flush t = true → Rl (told m c) 10 t (after 10 t)) :
    (((dats m (told m c) c).toRRel marked (Rl (told m c))).withAfter after).arrAt 10 cfg0.N = ref2 (bigA m c) := by
  refine Dat.arrAt_eq_of_covers _ 10 _ (by decide +kernel) fun t hf y => ?_
  blk_simp
  rw [Pipeline.RDat.withAfter_after]
  idx_vars y
  have ht : t.val < 320 := t.isLt
  obtain rfl : y0 = 0 := Subsingleton.elim _ _
  have e : ((cfg0.win 10).blk t).view.emb (ix4 0 y1 y2 y3) = ix4 ⟨t.val / 160, by omega⟩ y1 ⟨16 * (t.val / 20 % 8) + y2.val, by omega⟩ ⟨1024 * min (t.val % 20 - 8) 3 + y3.val, by omega⟩ := by blk_ext [idx t]
  rw [e]
  exact h t hf (by have := (flush_10 t).1 hf; omega) y1 y2 y3 _ _ _ (by show 128 * (t.val / 160) + (16 * (t.val / 20 % 8) + y2.val) = _; omega) rfl

/-- The fourth result's array is the reference's. -/
theorem final_11 (c : Dev nD) (after : After) (h : ∀ t : Fin cfg0.N, (cfg0.win 11).flush t = true → Rl (told m c) 11 t (after 11 t)) :
    (((dats m (told m c) c).toRRel marked (Rl (told m c))).withAfter after).arrAt 11 cfg0.N = ref3 (lowA m c) (m ((c : Thread nD τ).loc main_arg6)) (m ((c : Thread nD τ).loc main_arg7)) := by
  refine Dat.arrAt_eq_of_covers _ 11 _ (by decide +kernel) fun t hf y => ?_
  blk_simp
  rw [Pipeline.RDat.withAfter_after]
  idx_vars y
  have ht : t.val < 320 := t.isLt
  obtain rfl : y0 = 0 := Subsingleton.elim _ _
  have e : ((cfg0.win 11).blk t).view.emb (ix4 0 y1 y2 y3) = ix4 ⟨t.val / 160, by omega⟩ y1 ⟨16 * (t.val / 20 % 8) + y2.val, by omega⟩ ⟨512 * min (t.val % 20 - 8) 3 + y3.val, by omega⟩ := by blk_ext [idx t]
  rw [e]
  exact h t hf (by have := (flush_11 t).1 hf; omega) y1 y2 y3 _ _ _ (by show 128 * (t.val / 160) + (16 * (t.val / 20 % 8) + y2.val) = _; omega) rfl

/-- The fifth result's array is the reference's. -/
theorem final_12 (c : Dev nD) (after : After) (h : ∀ t : Fin cfg0.N, (cfg0.win 12).flush t = true → Rl (told m c) 12 t (after 12 t)) :
    (((dats m (told m c) c).toRRel marked (Rl (told m c))).withAfter after).arrAt 12 cfg0.N = ref4 (bigA m c) := by
  refine Dat.arrAt_eq_of_covers _ 12 _ (by decide +kernel) fun t hf y => ?_
  blk_simp
  rw [Pipeline.RDat.withAfter_after]
  idx_vars y
  have ht : t.val < 320 := t.isLt
  have e : ((cfg0.win 12).blk t).view.emb (ix2 y0 y1) = ix2 ⟨1024 * (t.val / 20) + y0.val, by omega⟩ ⟨1024 * min (t.val % 20 - 12) 7 + y1.val, by omega⟩ := by blk_ext [idx t]
  rw [e]
  exact h t hf (by have := (flush_12 t).1 hf; omega) y0 y1 _ _ rfl (by have := (flush_12 t).1 hf; show 1024 * min (t.val % 20 - 12) 7 + y1.val = _; omega)

end Cert.Kernel5Ideal.Inproj

end
-- ==== Proof.InprojEnd.lean ====
/-
  The input projection: what its run computes.
-/
module

public import proofs.«01_k».proof.Proof.InprojFin

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference5Ideal.Value (ref0 ref1 ref2 ref3 ref4)

variable (m : (ℓ : Loc nD τ sig) → Buf (Elt Ideal) ℓ)

variable (ρ : Dev nD → PrngReg)

set_option maxHeartbeats 4000000 in
/-- Every run of the launch ends with the five results at the reference's functions of the arguments, and the arguments unchanged. -/
theorem run_values : θ_run defs (onTc (τ := τ) (main (F := Ideal))) ⟨m, fun _ => 0, ρ⟩ (fun r => ∀ c : Dev nD,
      r.2.mem ((c.tc : Thread nD τ).loc main_v20_0) = ref0 (bigA m c)
      ∧ r.2.mem ((c.tc : Thread nD τ).loc main_v20_1) = ref1 (bigA m c) (m ((c : Thread nD τ).loc main_arg5))
      ∧ r.2.mem ((c.tc : Thread nD τ).loc main_v20_2) = ref2 (bigA m c)
      ∧ r.2.mem ((c.tc : Thread nD τ).loc main_v20_3) = ref3 (lowA m c) (m ((c : Thread nD τ).loc main_arg6)) (m ((c : Thread nD τ).loc main_arg7))
      ∧ r.2.mem ((c.tc : Thread nD τ).loc main_v20_4) = ref4 (bigA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_main m ρ (told m) (told_holds m))
  obtain ⟨after, hl, ha⟩ := Pipeline.RDat.FramePost.exists_exact h.1 c
  refine ⟨(ha 8).trans (final_8 m c after fun t hf => Dat.toRRel_leaves _ rfl (hl 8 t hf)),
    (ha 9).trans (final_9 m c after fun t hf => Dat.toRRel_leaves _ rfl (hl 9 t hf)),
    (ha 10).trans (final_10 m c after fun t hf => Dat.toRRel_leaves _ rfl (hl 10 t hf)),
    (ha 11).trans (final_11 m c after fun t hf => Dat.toRRel_leaves _ rfl (hl 11 t hf)),
    (ha 12).trans (final_12 m c after fun t hf => Dat.toRRel_leaves _ rfl (hl 12 t hf)),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (Pipeline.RDat.FramePost.arr_in h.1 c 3 rfl).trans ((A_eq m (told m c) c 3).trans (V_main_arg3 m c)),
    (Pipeline.RDat.FramePost.arr_in h.1 c 4 rfl).trans ((A_eq m (told m c) c 4).trans (V_main_arg4 m c)),
    (Pipeline.RDat.FramePost.arr_in h.1 c 5 rfl).trans ((A_eq m (told m c) c 5).trans (V_main_arg5 m c)),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩

end Cert.Kernel5Ideal.Inproj

end
-- ==== Proof.InprojRefRun.lean ====
/-
  The input projection's reference: its five results, the parts are what it computes.
-/
module

public import proofs.«01_k».proof.Proof.InprojRef
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Reference5Ideal.Value

open Cert.Reference5Ideal Cert.Reference5Ideal.Gen

variable (m : (ℓ : Loc nD τ sig) → Buf (Elt Ideal) ℓ) (g : Dev nD → PrngReg)

/-- The projection of the normed rows of the arguments. -/
def bigM (c : Dev nD) := big (hid (m ((c.tc : Thread nD τ).loc main_arg0)) (m ((c.tc : Thread nD τ).loc main_arg1)) (m ((c.tc : Thread nD τ).loc main_arg2))) (m ((c.tc : Thread nD τ).loc main_arg3))

/-- The low-rank projection of the normed rows of the arguments. -/
def lowM (c : Dev nD) := low (hid (m ((c.tc : Thread nD τ).loc main_arg0)) (m ((c.tc : Thread nD τ).loc main_arg1)) (m ((c.tc : Thread nD τ).loc main_arg2))) (m ((c.tc : Thread nD τ).loc main_arg4))

theorem res3 (c : Dev nD) : res_main_v92 m c = ref3 (lowM m c) (m ((c.tc : Thread nD τ).loc main_arg6)) (m ((c.tc : Thread nD τ).loc main_arg7)) := by
  unfold res_main_v92 ref3 cat3 lsg ka kb lowM low hid
  rfl

theorem res4 (c : Dev nD) : res_main_v102 m c = ref4 (bigM m c) := by
  unfold res_main_v102 ref4 cat4 sg bigM big hid
  rfl

/-- Every run of the reference ends with its five results in these parts, and the arguments unchanged. -/
theorem run_parts : θ_run defs (onTc (τ := τ) (main (F := Ideal))) ⟨m, fun _ => 0, g⟩ (fun r => ∀ c : Dev nD,
      r.2.mem ((c.tc : Thread nD τ).loc main_v77) = ref0 (bigM m c)
      ∧ r.2.mem ((c.tc : Thread nD τ).loc main_v81) = ref1 (bigM m c) (m ((c.tc : Thread nD τ).loc main_arg5))
      ∧ r.2.mem ((c.tc : Thread nD τ).loc main_v87) = ref2 (bigM m c)
      ∧ r.2.mem ((c.tc : Thread nD τ).loc main_v92) = ref3 (lowM m c) (m ((c.tc : Thread nD τ).loc main_arg6)) (m ((c.tc : Thread nD τ).loc main_arg7))
      ∧ r.2.mem ((c.tc : Thread nD τ).loc main_v102) = ref4 (bigM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run m g)
  obtain ⟨h0, h1, h2, h3, h4, hr⟩ := h c
  refine ⟨h0.trans ?_, h1.trans ?_, h2.trans ?_, h3.trans (res3 m c), h4.trans (res4 m c), hr⟩
  · unfold ref0 bigM big hid; rfl
  · unfold ref1 sg bigM big hid; rfl
  · unfold ref2 cat2 bigM big hid; rfl

end Cert.Reference5Ideal.Value

end
-- ==== Proof.Modulation.lean ====
/-
  The value of a call: the adaptive modulation. The rows that two scatters put into zeros, what a block holds, what the array holds, and the reference's term.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Routing.OpsSet

@[expose] public section

set_option maxRecDepth 16384

noncomputable section

open Idealize.ShloMosaic Idealize.ShloMosaic.TcCoe Idealize.SL.Sem

namespace Cert.Reference6Ideal.Value

open Cert.Reference6Ideal Cert.Reference6Ideal.Gen

/-- The rows of the conditioning: the sequences', the context's, and zeros. -/
def rows (c : FVec Ideal S2x2048 .f32) (cc : FVec Ideal S2048 .f32) : FVec Ideal S8x2048 .f32 :=
  concatenate S8x2048 0 [⟨S2x2048, c⟩, ⟨S1x2048, broadcastInDim S1x2048 ![1] bcast_S2048_S1x2048_1 cc⟩, ⟨S5x2048, broadcastInDim S5x2048 ![] bcast_S_S5x2048 (constant S_ .f32 0x00000000#32)⟩] concatenates_S2x2048_S1x2048_S5x2048_S8x2048_d0

/-- The reference's result as a function of the rows, the weights and the biases. -/
def ref (z : FVec Ideal S8x2048 .f32) (w : FVec Ideal S1x2048x6144 .f32) (b : FVec Ideal S1x6144 .f32) : FVec Ideal S8x6144 .f32 :=
  addf (Host.dotGeneral dot_S8x2048_S2048x6144_S8x6144_1_0_0_1_n_n none (mulf z (Host.divf (broadcastInDim S8x2048 ![] bcast_S_S8x2048 (constant S_ .f32 0x3F800000#32)) (addf (broadcastInDim S8x2048 ![] bcast_S_S8x2048 (constant S_ .f32 0x3F800000#32)) (Host.exp (Host.negf z))))) (shapeCast _ w shapeCasts_S1x2048x6144_S2048x6144)) (broadcastInDim S8x6144 ![0, 1] bcast_S1x6144_S8x6144_0_1 (broadcastInDim S1x6144 ![1] bcast_S6144_S1x6144_1 (shapeCast _ b shapeCasts_S1x6144_S6144)))

theorem rows_seq (c : FVec Ideal S2x2048 .f32) (cc : FVec Ideal S2048 .f32) (r : Fin 8) (k : Fin 2048) (h : r.val < 2) : rows c cc (ix2 r k) = c (ix2 ⟨r.val, h⟩ k) := by
  obtain ⟨r, hr⟩ := r
  have h' : r = 0 ∨ r = 1 := by simp only at h; omega
  rcases h' with rfl | rfl
  · pointwise [rows]
  · pointwise [rows]

theorem rows_ctx (c : FVec Ideal S2x2048 .f32) (cc : FVec Ideal S2048 .f32) (k : Fin 2048) : rows c cc (ix2 2 k) = cc (ix1 k) := by
  pointwise [rows]

theorem rows_zero (c : FVec Ideal S2x2048 .f32) (cc : FVec Ideal S2048 .f32) (r : Fin 8) (k : Fin 2048) (h : 3 ≤ r.val) : rows c cc (ix2 r k) = (0 : EReal) := by
  obtain ⟨r, hr⟩ := r
  have h' : r = 3 ∨ r = 4 ∨ r = 5 ∨ r = 6 ∨ r = 7 := by simp only at h; omega
  rcases h' with rfl | rfl | rfl | rfl | rfl <;> pointwise [rows]

end Cert.Reference6Ideal.Value

namespace Cert.Kernel6Ideal.Value

open Cert.Kernel6Ideal Cert.Kernel6Ideal.Gen

/-- Where a row of the first scatter lands. -/
theorem lands (idx : IVec S1 32) (h0 : (idx (ix1 0)).toInt = 0) (p : Fin 2) (q : Fin 2048) :
    scatter_S8x2048_S1_S2x2048_01_n_0_0.resultIdx? (ix2 p q) idx = some (ix2 ⟨p.val, by omega⟩ q) := by
  have s0 : scatter_S8x2048_S1_S2x2048_01_n_0_0.start (ix2 p q) idx 0 = 0 := by
    rw [← h0]; exact congrArg (fun z => (idx z).toInt) (funext fun b => by match b with | 0 => rfl)
  have s1 : scatter_S8x2048_S1_S2x2048_01_n_0_0.start (ix2 p q) idx 1 = 0 := rfl
  have w0 : scatter_S8x2048_S1_S2x2048_01_n_0_0.window (ix2 p q) 0 = p.val := rfl
  have w1 : scatter_S8x2048_S1_S2x2048_01_n_0_0.window (ix2 p q) 1 = q.val := rfl
  unfold ScatterDims.resultIdx?
  rw [dif_pos (by
    intro a
    match a with
    | 0 => rw [s0, w0]; refine ⟨by omega, ?_⟩; show _ < (8 : ℤ); omega
    | 1 => rw [s1, w1]; refine ⟨by omega, ?_⟩; show _ < (2048 : ℤ); omega)]
  congr 1
  funext a
  match a with
  | 0 => apply Fin.ext; show (_ : ℤ).toNat = _; rw [s0, w0]; show _ = p.val; omega
  | 1 => apply Fin.ext; show (scatter_S8x2048_S1_S2x2048_01_n_0_0.start (ix2 p q) idx 1 + (scatter_S8x2048_S1_S2x2048_01_n_0_0.window (ix2 p q) 1 : ℤ)).toNat = q.val; rw [s1, w1]; omega

/-- Where the row of the second scatter lands. -/
theorem lands_ctx (idx : IVec S1 32) (h0 : (idx (ix1 0)).toInt = 2) (q : Fin 2048) :
    scatter_S8x2048_S1_S2048_0_0_0_0.resultIdx? (ix1 q) idx = some (ix2 2 q) := by
  have s0 : scatter_S8x2048_S1_S2048_0_0_0_0.start (ix1 q) idx 0 = 2 := by
    rw [← h0]; exact congrArg (fun z => (idx z).toInt) (funext fun b => by match b with | 0 => rfl)
  have s1 : scatter_S8x2048_S1_S2048_0_0_0_0.start (ix1 q) idx 1 = 0 := rfl
  have w0 : scatter_S8x2048_S1_S2048_0_0_0_0.window (ix1 q) 0 = 0 := rfl
  have w1 : scatter_S8x2048_S1_S2048_0_0_0_0.window (ix1 q) 1 = q.val := rfl
  unfold ScatterDims.resultIdx?
  rw [dif_pos (by
    intro a
    match a with
    | 0 => rw [s0, w0]; refine ⟨by omega, ?_⟩; show _ < (8 : ℤ); omega
    | 1 => rw [s1, w1]; refine ⟨by omega, ?_⟩; show _ < (2048 : ℤ); omega)]
  congr 1
  funext a
  match a with
  | 0 => apply Fin.ext; show (_ : ℤ).toNat = _; rw [s0, w0]; rfl
  | 1 => apply Fin.ext; show (scatter_S8x2048_S1_S2048_0_0_0_0.start (ix1 q) idx 1 + (scatter_S8x2048_S1_S2048_0_0_0_0.window (ix1 q) 1 : ℤ)).toNat = q.val; rw [s1, w1]; omega

/-- The row an update starts at. -/
def corner (a : BitVec 32) : IVec S1 32 := broadcastInDim S1 ![] bcast_S_S1 (constantI S_ 32 a)

theorem corner_0 (a : BitVec 32) : corner a (ix1 0) = a := by
  pointwise [corner]

/-- The matrix of zeros. -/
def zero : Vec Ideal S8x2048 .f32 := broadcastInDim S8x2048 ![] bcast_S_S8x2048 (constant (F := Ideal) S_ .f32 0x00000000#32)

theorem zero_apply (r : Fin 8) (q : Fin 2048) : zero (ix2 r q) = (0 : EReal) := by
  pointwise [zero]

/-- The sequences' rows put into zeros. -/
def put (c : Vec Ideal S2x2048 .f32) : Vec Ideal S8x2048 .f32 :=
  Host.scatter scatter_S8x2048_S1_S2x2048_01_n_0_0 (fun _ b => b) zero (corner 0#32) c

/-- And the context's row. -/
def cvec (c : Vec Ideal S2x2048 .f32) (cc : Vec Ideal S2048 .f32) : Vec Ideal S8x2048 .f32 :=
  Host.scatter scatter_S8x2048_S1_S2048_0_0_0_0 (fun _ b => b) (put c) (corner 2#32) cc

/-- The first scatter's entries. -/
theorem put_eq (c : Vec Ideal S2x2048 .f32) (r : Fin 8) (q : Fin 2048) :
    (∀ h : r.val < 2, put c (ix2 r q) = c (ix2 ⟨r.val, h⟩ q)) ∧ (2 ≤ r.val → put c (ix2 r q) = (0 : EReal)) := by
  have at_ : ∀ (j : S2x2048.Idx), scatter_S8x2048_S1_S2x2048_01_n_0_0.resultIdx? j (corner 0#32) = some (ix2 r q) → r.val = (j 0).val ∧ q.val = (j 1).val := by
    intro j h
    have hj : j = ix2 (j 0) (j 1) := by funext a; match a with | 0 => rfl | 1 => rfl
    have h' := (lands (corner 0#32) (by rw [corner_0]; rfl) (j 0) (j 1)).symm.trans ((congrArg (fun z => scatter_S8x2048_S1_S2x2048_01_n_0_0.resultIdx? z (corner 0#32)) hj).symm.trans h)
    have e := Option.some.inj h'
    exact ⟨(congrArg Fin.val (congrFun e 0)).symm, (congrArg Fin.val (congrFun e 1)).symm⟩
  constructor
  · intro h
    refine Routing.scatter_set_hit _ zero (corner 0#32) c (ix2 r q) (c (ix2 ⟨r.val, h⟩ q)) (fun j hj => ?_) (ix2 ⟨r.val, h⟩ q) ?_
    · have := at_ j hj
      have hj : j = ix2 ⟨r.val, h⟩ q := by
        funext a
        match a with
        | 0 => apply Fin.ext; show (j 0).val = r.val; omega
        | 1 => apply Fin.ext; show (j 1).val = q.val; omega
      rw [hj]
    · exact lands (corner 0#32) (by rw [corner_0]; rfl) ⟨r.val, h⟩ q
  · intro h
    refine (Routing.scatter_set_miss _ zero (corner 0#32) c (ix2 r q) (fun j hj => ?_)).trans (zero_apply r q)
    have := at_ j hj
    have a0 : (j 0).val < 2 := (j 0).isLt
    omega

/-- The scatters' rows are the concatenation of the rows. -/
theorem cvec_eq (c : Vec Ideal S2x2048 .f32) (cc : Vec Ideal S2048 .f32) (r : Fin 8) (q : Fin 2048) :
    cvec c cc (ix2 r q) = Cert.Reference6Ideal.Value.rows c cc (ix2 r q) := by
  have at_ : ∀ (j : S2048.Idx), scatter_S8x2048_S1_S2048_0_0_0_0.resultIdx? j (corner 2#32) = some (ix2 r q) → r.val = 2 ∧ q.val = (j 0).val := by
    intro j h
    have hj : j = ix1 (j 0) := by funext a; match a with | 0 => rfl
    have h' := (lands_ctx (corner 2#32) (by rw [corner_0]; rfl) (j 0)).symm.trans ((congrArg (fun z => scatter_S8x2048_S1_S2048_0_0_0_0.resultIdx? z (corner 2#32)) hj).symm.trans h)
    have e := Option.some.inj h'
    exact ⟨(congrArg Fin.val (congrFun e 0)).symm, (congrArg Fin.val (congrFun e 1)).symm⟩
  by_cases h : r.val = 2
  · obtain rfl : r = 2 := Fin.ext h
    rw [Cert.Reference6Ideal.Value.rows_ctx]
    refine Routing.scatter_set_hit _ (put c) (corner 2#32) cc (ix2 2 q) (cc (ix1 q)) (fun j hj => ?_) (ix1 q) (lands_ctx (corner 2#32) (by rw [corner_0]; rfl) q)
    have := at_ j hj
    have hj : j = ix1 q := by
      funext a
      match a with
      | 0 => apply Fin.ext; show (j 0).val = q.val; omega
    rw [hj]
  · refine (Routing.scatter_set_miss _ (put c) (corner 2#32) cc (ix2 r q) (fun j hj => h (at_ j hj).1)).trans ?_
    by_cases h2 : r.val < 2
    · rw [(put_eq c r q).1 h2, Cert.Reference6Ideal.Value.rows_seq c cc r q h2]
    · rw [(put_eq c r q).2 (by omega), Cert.Reference6Ideal.Value.rows_zero c cc r q (by omega)]

variable (m : (ℓ : Loc nD τ sig) → Buf (Elt Ideal) ℓ)

/-- Each window's block index at a grid point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The block of the rows is the rows. -/
theorem blk_c (c : Dev nD) (t : Fin cfg0.N) (r : Fin 8) (k : Fin 2048) :
    iblk m c 0 t (ix2 r k) = Cert.Reference6Ideal.Value.rows (m ((c : Thread nD τ).loc main_arg0)) (m ((c : Thread nD τ).loc main_arg1)) (ix2 r k) := by
  rw [← cvec_eq]
  blk_simp [iblk, idx t]
  entry_read
  have e : (((View.whole main_v4).slice (win0_0.rect t)).emb (ix2 r k)) = ix2 r k := by blk_ext [idx t]
  rw [e]
  unfold cvec put corner zero
  rfl

/-- The weights' block is a range of columns. -/
theorem blk_w (c : Dev nD) (t : Fin cfg0.N) (k : Fin 2048) (l : Fin 768) (q : Fin 6144) (hq : (q : ℕ) = t.val * 768 + l.val) :
    iblk m c 1 t (ix2 k l) = m ((c : Thread nD τ).loc main_arg2) (ix3 0 k q) := by
  blk_simp [iblk, idx t]
  entry_read
  pointwise
  blk_ext [idx t]

/-- And so is the biases'. -/
theorem blk_b (c : Dev nD) (t : Fin cfg0.N) (l : Fin 768) (q : Fin 6144) (hq : (q : ℕ) = t.val * 768 + l.val) :
    iblk m c 2 t (ix2 0 l) = m ((c : Thread nD τ).loc main_arg3) (ix2 0 q) := by
  blk_simp [iblk, idx t]
  entry_read
  pointwise
  blk_ext [idx t]

/-- The reference's result as a function of the arguments. -/
abbrev val (c : Dev nD) : FVec Ideal S8x6144 .f32 :=
  Cert.Reference6Ideal.Value.ref (Cert.Reference6Ideal.Value.rows (m ((c : Thread nD τ).loc main_arg0)) (m ((c : Thread nD τ).loc main_arg1))) (m ((c : Thread nD τ).loc main_arg2)) (m ((c : Thread nD τ).loc main_arg3))

/-- What the body stores in a block's row is the reference's row. -/
theorem row (c : Dev nD) (t : Fin cfg0.N) (r : Fin 8) (l : Fin 768) (q : Fin 6144) (hq : (q : ℕ) = t.val * 768 + l.val) :
    k0_pay1 (iblk m c 0 t) (iblk m c 1 t) (iblk m c 2 t) (ix2 r l) = val m c (ix2 r q) := by
  have hc := blk_c m c t r
  have hw := fun k => blk_w m c t k l q hq
  have hb := blk_b m c t l q hq
  pointwise [k0_pay1, val, Cert.Reference6Ideal.Value.ref]
  simp only [hc, hw, hb, zero_sub]

/-- What the body stores at a block's place is the reference's value at the place's index in the array. -/
theorem point (c : Dev nD) (t : Fin cfg0.N) (y) :
    k0_pay1 (iblk m c 0 t) (iblk m c 1 t) (iblk m c 2 t) y = val m c (((cfg0.win 3).blk t).view.emb y) := by
  idx_vars y
  have ht : t.val < 8 := t.isLt
  have e : ((cfg0.win 3).blk t).view.emb (ix2 y0 y1) = ix2 y0 ⟨t.val * 768 + y1.val, by omega⟩ := by blk_ext [idx t]
  rw [e]
  exact row m c t y0 y1 _ rfl

/-- The result array after the run is the reference's function of the arguments. -/
theorem final (c : Dev nD) : (dats m 0 c).arrAt 3 (cfgs 0).N = val m c := by
  refine (dats m 0 c).arrAt_eq_of_covers 3 _ (by decide +kernel) fun t _ y => ?_
  blk_simp
  rw [after0_3]
  frame_out
  exact point m c t y

end Cert.Kernel6Ideal.Value

end
-- ==== Proof.Bounds.lean ====
/-
  The value of a call: the lower bounds of the forget gates. The first row of the running sum of a softmax over two rows.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Routing.OpsOne

@[expose] public section

set_option maxRecDepth 16384

noncomputable section

open Idealize.ShloMosaic Idealize.ShloMosaic.TcCoe Idealize.SL.Sem

namespace Cert.Reference7Ideal.Value

open Cert.Reference7Ideal Cert.Reference7Ideal.Gen

/-- A fold over two places. -/
theorem fold_two (N : ℕ) (hN : N = 2) (f : EReal → Fin N → EReal) (v : EReal) :
    (List.finRange N).foldl f v = f (f v ⟨0, by omega⟩) ⟨1, by omega⟩ := by
  subst hN; rfl

/-- The softmax over the two rows. -/
def soft (x : FVec Ideal S2x4096 .f32) : FVec Ideal S2x4096 .f32 :=
  Host.divf (Host.exp (subf x (broadcastInDim S2x4096 ![0, 1] bcast_S1x4096_S2x4096_0_1 (broadcastInDim S1x4096 ![1] bcast_S4096_S1x4096_1 (maximumf (broadcastInDim S4096 ![] bcast_S_S4096 (constant S_ .f32 0xFF800000#32)) (Host.reduce FloatOps.maximumf x (constant S_ .f32 0xFF800000#32) reducesTo_S2x4096_S4096_d0 h_S_)))))) (broadcastInDim S2x4096 ![0, 1] bcast_S1x4096_S2x4096_0_1 (broadcastInDim S1x4096 ![1] bcast_S4096_S1x4096_1 (Host.reduceAdd (Host.exp (subf x (broadcastInDim S2x4096 ![0, 1] bcast_S1x4096_S2x4096_0_1 (broadcastInDim S1x4096 ![1] bcast_S4096_S1x4096_1 (maximumf (broadcastInDim S4096 ![] bcast_S_S4096 (constant S_ .f32 0xFF800000#32)) (Host.reduce FloatOps.maximumf x (constant S_ .f32 0xFF800000#32) reducesTo_S2x4096_S4096_d0 h_S_)))))) (constant S_ .f32 0x00000000#32) reducesTo_S2x4096_S4096_d0 h_S_)))

/-- The value the running sum starts from. -/
def start : FVec Ideal S_ .f32 := broadcastInDim S_ ![] bcast_S_S_ (constant S_ .f32 0x00000000#32)

theorem start_apply (i : S_.Idx) : start i = (0 : EReal) := by
  show start _ = _
  rw [show i = ix0 from funext fun a => a.elim0]
  pointwise [start]

/-- The running sum over the rows. -/
def cum (x : FVec Ideal S2x4096 .f32) : FVec Ideal S2x4096 .f32 :=
  Host.reduceWindowAdd ![2, 1] ![1, 1] ![1, 0] ![0, 0] x start reduceWindows_S2x4096_S2x4096_w2s1p1_0_w1s1p0_0 h_S_

/-- Its first row is the first row. -/
theorem cum_first (x : FVec Ideal S2x4096 .f32) (c : Fin 4096) : cum x (ix2 0 c) = x (ix2 0 c) := by
  unfold cum Host.reduceWindowAdd
  rw [Ideal.hostReduceWindowAdd_def]
  unfold Ideal.hostReduceWindowAdd Host.reduceWindow
  dsimp only
  refine (show List.foldl _ _ (List.finRange (Routing.shape2 2 1).numel) = _ from (fold_two _ (Routing.numel_col 2) _ _).trans ?_)
  have h0 : ∀ n a, ((Routing.shape2 2 1).rowMajor.symm n a) = (ix2 (n.cast (Routing.numel_col 2)) (0 : Fin 1) : (Routing.shape2 2 1).Idx) a := fun n a => by rw [Routing.symm_col]; rfl
  have e0 := start_apply (Shape.Idx.first h_S_)
  refine (congrArg₂ (fun a b : EReal => a + b) ((congrArg₂ (fun a b : EReal => a + b) e0 (dif_neg ?low)).trans ((zero_add _).trans e0)) (dif_pos ?high)).trans ?val
  case val =>
    refine (zero_add _).trans ?_
    refine congrArg x (funext fun a => Fin.ext ?_)
    match a with
    | ⟨0, _⟩ => show 0 * 1 + ((Routing.shape2 2 1).rowMajor.symm ⟨1, _⟩ 0).val - 1 = 0; rw [h0]; rfl
    | ⟨1, _⟩ => show c.val * 1 + ((Routing.shape2 2 1).rowMajor.symm ⟨1, _⟩ 1).val - 0 = c.val; rw [h0]; show c.val * 1 + 0 - 0 = c.val; omega
  case high =>
    intro a
    have := c.isLt
    match a with
    | ⟨0, _⟩ => show 1 ≤ 0 * 1 + ((Routing.shape2 2 1).rowMajor.symm ⟨1, _⟩ 0).val ∧ 0 * 1 + ((Routing.shape2 2 1).rowMajor.symm ⟨1, _⟩ 0).val - 1 < 2; rw [h0]; exact (by decide : 1 ≤ 0 * 1 + 1 ∧ 0 * 1 + 1 - 1 < 2)
    | ⟨1, _⟩ => show 0 ≤ c.val * 1 + ((Routing.shape2 2 1).rowMajor.symm ⟨1, _⟩ 1).val ∧ c.val * 1 + ((Routing.shape2 2 1).rowMajor.symm ⟨1, _⟩ 1).val - 0 < 4096; rw [h0]; show 0 ≤ c.val * 1 + 0 ∧ c.val * 1 + 0 - 0 < 4096; omega
  case low =>
    intro hin
    have h := (hin 0).1
    change 1 ≤ 0 * 1 + ((Routing.shape2 2 1).rowMajor.symm ⟨0, _⟩ 0).val at h
    rw [h0] at h
    exact absurd h (by decide : ¬ 1 ≤ 0 * 1 + 0)

/-- The reference's result as a function of its argument. -/
def ref (x : FVec Ideal S2x4096 .f32) : FVec Ideal S1x4096 .f32 :=
  extractStridedSlice S1x4096 ![0, 0] (cum (soft x)) slices_S2x4096_S1x4096_0_0

theorem ref_apply (x : FVec Ideal S2x4096 .f32) (c : Fin 4096) : ref x (ix2 0 c) = soft x (ix2 0 c) := by
  refine Eq.trans ?_ (cum_first (soft x) c)
  pointwise [ref]

end Cert.Reference7Ideal.Value

namespace Cert.Kernel7Ideal.Value

open Cert.Kernel7Ideal Cert.Kernel7Ideal.Gen

/-- What the body stores is the reference's row. -/
theorem row (x : FVec Ideal S2x4096 .f32) : G1 (F := Ideal) x = Cert.Reference7Ideal.Value.ref x := by
  funext i
  obtain ⟨r, c, rfl⟩ : ∃ (r : Fin 1) (c : Fin 4096), i = ix2 r c := ⟨i 0, i 1, by funext a; match a with | 0 => rfl | 1 => rfl⟩
  obtain rfl : r = 0 := Subsingleton.elim _ _
  rw [Cert.Reference7Ideal.Value.ref_apply]
  have hm : ∀ (b : EReal) (f : Fin 2 → EReal), max b (Finset.univ.fold max b f) = Finset.univ.fold max b f :=
    fun b f => max_eq_right ((Finset.le_fold_max _).2 (.inl le_rfl))
  pointwise [G1, k0_pay1, Cert.Reference7Ideal.Value.soft]
  simp only [hm]

end Cert.Kernel7Ideal.Value

end
-- ==== Proof.lean ====
/-
  The certificate's claims.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Region
public import proofs.«01_k».proof.Proof.Gen.Kernel2.Frame
public import proofs.«01_k».proof.Proof.Final
public import proofs.«01_k».proof.Proof.Gen.Kernel3.Frame
public import proofs.«01_k».proof.Proof.Merge
public import proofs.«01_k».proof.Proof.Gen.Kernel4.Frame
public import proofs.«01_k».proof.Proof.Heads
public import proofs.«01_k».proof.Proof.Gen.Kernel5
public import proofs.«01_k».proof.Proof.InprojEnd
public import proofs.«01_k».proof.Proof.InprojRefRun
public import proofs.«01_k».proof.Proof.Gen.Kernel6.Frame
public import proofs.«01_k».proof.Proof.Modulation
public import proofs.«01_k».proof.Proof.Gen.Kernel7.Frame
public import proofs.«01_k».proof.Proof.Bounds
public import Idealize.ShloMosaic.Lib.Quiescent

@[expose] public section

noncomputable section

namespace Cert.Proof

open Idealize.ShloMosaic Idealize.ShloMosaic.TcCoe Idealize.SL.Sem

/-- The two programs run one body. -/
theorem body_eq : Cert.Kernel.cc0_scan_gla (F := Bits) = Cert.KernelIdeal.cc0_scan_gla := rfl

set_option maxHeartbeats 4000000 in
/-- The two programs' body tables have one TensorCore row. -/
theorem tc_eq : Cert.Kernel.defs₀ (F := Bits) .tc = Cert.KernelIdeal.defs₀ (F := Bits) .tc := by
  unfold Cert.Kernel.defs₀ Cert.KernelIdeal.defs₀
  rw [Defs.onTc_tc, Defs.onTc_tc, body_eq]
  generalize @Cert.KernelIdeal.cc0_scan_gla = f
  funext l a
  match l, a with
  | 0, (t, s) => exact rfl
  | ⟨_ + 1, h⟩, _ => exact absurd h (Nat.not_lt.2 (Nat.le_add_left _ _))

/-- The two programs have one body table. -/
theorem defs₀_eq : Cert.Kernel.defs₀ (F := Bits) = Cert.KernelIdeal.defs₀ := by
  funext p
  cases p with
  | tc => exact tc_eq
  | scScalar _ => rfl
  | scVector _ _ => rfl

/-- And one table with the pipelines. -/
theorem defs_eq : Cert.Kernel.defs (F := Bits) = Cert.KernelIdeal.defs := by
  unfold Cert.Kernel.defs Cert.KernelIdeal.defs
  rw [defs₀_eq]; rfl

/-- The kernel's frame on words: its run is the one taken over any values. -/
theorem frame_kernel : Cert.quiescent_Kernel (hKernel := Cert.Kernel.Gen.facts) := by
  intro m ρ _
  rw [defs_eq]
  exact (θ_run Cert.KernelIdeal.defs _ _).mono (fun _ h => h) (Cert.Scan.frame_main (F := Bits) m ρ)

/-- The kernel's frame at exact values. -/
theorem frame_ideal : Cert.quiescent_KernelIdeal (hKernelIdeal := Cert.KernelIdeal.Gen.facts) :=
  fun m ρ _ => Cert.Scan.frame_main (F := Ideal) m ρ

/-- The frame of the reference of the output projection and the final norm. -/
theorem frame_reference2 : Cert.quiescent_Reference2Ideal (hReference2Ideal := Cert.Reference2Ideal.Gen.facts) := by
  intro m ρ _
  refine (θ_run Cert.Reference2Ideal.defs _ _).mono (fun r h => ?_) (Cert.Reference2Ideal.Value.run m ρ)
  exact ⟨fun c => (h c).2, sem_eq_zero_of_no_sems (by decide) r.2⟩

/-- The kernel and the reference of the output projection and the final norm compute one function. -/
theorem value2 : Cert.algebraic_Kernel2Ideal_Reference2Ideal (hKernel2Ideal := Cert.Kernel2Ideal.Gen.facts) (hReference2Ideal := Cert.Reference2Ideal.Gen.facts) := by
  intro m g m' g' _ hag
  refine ⟨fun c => Cert.Reference2Ideal.Value.ref (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · refine (θ_run Cert.Kernel2Ideal.defs _ _).mono (fun r h c => ⟨(h c).1.trans (Cert.Kernel2Ideal.Value.final m c), (h c).2⟩) (Cert.Kernel2Ideal.Value.run_blocks m g)
  · refine (θ_run Cert.Reference2Ideal.defs _ _).mono (fun r h c => ⟨(h c).1.trans ?_, (h c).2⟩) (Cert.Reference2Ideal.Value.run m' g')
    obtain ⟨e0, e1, e2, e3, e4⟩ := hag c
    rw [e0, e1, e2, e3, e4]
    rfl

/-- The frame of the reference of the projections and their merge. -/
theorem frame_reference3 : Cert.quiescent_Reference3Ideal (hReference3Ideal := Cert.Reference3Ideal.Gen.facts) := by
  intro m ρ _
  refine (θ_run Cert.Reference3Ideal.defs _ _).mono (fun r h => ?_) (Cert.Reference3Ideal.Value.run m ρ)
  exact ⟨fun c => (h c).2, sem_eq_zero_of_no_sems (by decide) r.2⟩

/-- The kernel and the reference of the projections and their merge compute one function. -/
theorem value3 : Cert.algebraic_Kernel3Ideal_Reference3Ideal (hKernel3Ideal := Cert.Kernel3Ideal.Gen.facts) (hReference3Ideal := Cert.Reference3Ideal.Gen.facts) := by
  intro m g m' g' _ hag
  refine ⟨fun c => Cert.Reference3Ideal.Value.ref (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)), ?_, ?_⟩
  · refine (θ_run Cert.Kernel3Ideal.defs _ _).mono (fun r h c => ⟨(h c).1.trans (Cert.Kernel3Ideal.Value.final m c), (h c).2⟩) (Cert.Kernel3Ideal.Value.run_blocks m g)
  · refine (θ_run Cert.Reference3Ideal.defs _ _).mono (fun r h c => ⟨(h c).1.trans ?_, (h c).2⟩) (Cert.Reference3Ideal.Value.run m' g')
    obtain ⟨e0, e1, e2, e3, e4, e5, e6⟩ := hag c
    rw [e0, e1, e2, e3, e4, e5, e6]
    rfl

/-- The frame of the reference of the second mixer's head norms. -/
theorem frame_reference4 : Cert.quiescent_Reference4Ideal (hReference4Ideal := Cert.Reference4Ideal.Gen.facts) := by
  intro m ρ _
  refine (θ_run Cert.Reference4Ideal.defs _ _).mono (fun r h => ?_) (Cert.Reference4Ideal.Value.run m ρ)
  exact ⟨fun c => (h c).2, sem_eq_zero_of_no_sems (by decide) r.2⟩

/-- The kernel and the reference of the second mixer's head norms compute one function. -/
theorem value4 : Cert.algebraic_Kernel4Ideal_Reference4Ideal (hKernel4Ideal := Cert.Kernel4Ideal.Gen.facts) (hReference4Ideal := Cert.Reference4Ideal.Gen.facts) := by
  intro m g m' g' _ hag
  refine ⟨fun c => Cert.Reference4Ideal.Value.ref (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · refine (θ_run Cert.Kernel4Ideal.defs _ _).mono (fun r h c => ⟨(h c).1.trans (Cert.Kernel4Ideal.Value.final m c), (h c).2⟩) (Cert.Kernel4Ideal.Value.run_blocks m g)
  · refine (θ_run Cert.Reference4Ideal.defs _ _).mono (fun r h c => ⟨(h c).1.trans ?_, (h c).2⟩) (Cert.Reference4Ideal.Value.run m' g')
    obtain ⟨e0, e1, e2, e3⟩ := hag c
    rw [e0, e1, e2, e3]
    rfl

/-- The two programs of the input projection run one body. -/
theorem body5_eq : Cert.Kernel5.cc0_inproj_latent (F := Bits) = Cert.Kernel5Ideal.cc0_inproj_latent := rfl

set_option maxHeartbeats 4000000 in
/-- Their body tables have one TensorCore row. -/
theorem tc5_eq : Cert.Kernel5.defs₀ (F := Bits) .tc = Cert.Kernel5Ideal.defs₀ (F := Bits) .tc := by
  unfold Cert.Kernel5.defs₀ Cert.Kernel5Ideal.defs₀
  rw [Defs.onTc_tc, Defs.onTc_tc, body5_eq]
  generalize @Cert.Kernel5Ideal.cc0_inproj_latent = f
  funext l a
  match l, a with
  | 0, (t, s) => exact rfl
  | ⟨_ + 1, h⟩, _ => exact absurd h (Nat.not_lt.2 (Nat.le_add_left _ _))

/-- They have one body table. -/
theorem defs5₀_eq : Cert.Kernel5.defs₀ (F := Bits) = Cert.Kernel5Ideal.defs₀ := by
  funext p
  cases p with
  | tc => exact tc5_eq
  | scScalar _ => rfl
  | scVector _ _ => rfl

/-- And one table with the pipelines. -/
theorem defs5_eq : Cert.Kernel5.defs (F := Bits) = Cert.Kernel5Ideal.defs := by
  unfold Cert.Kernel5.defs Cert.Kernel5Ideal.defs
  rw [defs5₀_eq]; rfl

/-- The input projection's frame on words. -/
theorem frame_kernel5 : Cert.quiescent_Kernel5 (hKernel5 := Cert.Kernel5.Gen.facts) := by
  intro m ρ _
  rw [defs5_eq]
  exact (θ_run Cert.Kernel5Ideal.defs _ _).mono (fun _ h => h) (Cert.Kernel5Ideal.Inproj.frame_main (F := Bits) m ρ)

/-- The input projection's frame at exact values. -/
theorem frame_ideal5 : Cert.quiescent_Kernel5Ideal (hKernel5Ideal := Cert.Kernel5Ideal.Gen.facts) :=
  fun m ρ _ => Cert.Kernel5Ideal.Inproj.frame_main (F := Ideal) m ρ

/-- The frame of the input projection's reference. -/
theorem frame_reference5 : Cert.quiescent_Reference5Ideal (hReference5Ideal := Cert.Reference5Ideal.Gen.facts) := by
  intro m ρ _
  refine (θ_run Cert.Reference5Ideal.defs _ _).mono (fun r h => ?_) (Cert.Reference5Ideal.Value.run_parts m ρ)
  exact ⟨fun c => (h c).2.2.2.2.2, sem_eq_zero_of_no_sems (by decide) r.2⟩

/-- The kernel and the reference of the input projection compute the same five functions. -/
theorem value5 : Cert.algebraic_Kernel5Ideal_Reference5Ideal (hKernel5Ideal := Cert.Kernel5Ideal.Gen.facts) (hReference5Ideal := Cert.Reference5Ideal.Gen.facts) := by
  intro m g m' g' _ hag
  refine ⟨_, _, _, _, _, Cert.Kernel5Ideal.Inproj.run_values m g, ?_⟩
  refine (θ_run Cert.Reference5Ideal.defs _ _).mono (fun r h c => ?_) (Cert.Reference5Ideal.Value.run_parts m' g')
  obtain ⟨h0, h1, h2, h3, h4, hr⟩ := h c
  obtain ⟨e0, e1, e2, e3, e4, e5, e6, e7⟩ := hag c
  unfold Cert.Reference5Ideal.Value.bigM at h0 h1 h2 h4
  unfold Cert.Reference5Ideal.Value.lowM at h3
  rw [e0, e1, e2, e3] at h0 h1 h2 h4
  rw [e5] at h1
  rw [e0, e1, e2, e4, e6, e7] at h3
  exact ⟨h0, h1, h2, h3, h4, hr⟩

/-- The frame of the modulation's reference. -/
theorem frame_reference6 : Cert.quiescent_Reference6Ideal (hReference6Ideal := Cert.Reference6Ideal.Gen.facts) := by
  intro m ρ _
  refine (θ_run Cert.Reference6Ideal.defs _ _).mono (fun r h => ?_) (Cert.Reference6Ideal.Value.run m ρ)
  exact ⟨fun c => (h c).2, sem_eq_zero_of_no_sems (by decide) r.2⟩

/-- The kernel and the reference of the modulation compute one function. -/
theorem value6 : Cert.algebraic_Kernel6Ideal_Reference6Ideal (hKernel6Ideal := Cert.Kernel6Ideal.Gen.facts) (hReference6Ideal := Cert.Reference6Ideal.Gen.facts) := by
  intro m g m' g' _ hag
  refine ⟨fun c => Cert.Kernel6Ideal.Value.val m c, ?_, ?_⟩
  · refine (θ_run Cert.Kernel6Ideal.defs _ _).mono (fun r h c => ⟨(h c).1.trans (Cert.Kernel6Ideal.Value.final m c), (h c).2⟩) (Cert.Kernel6Ideal.Value.run_blocks m g)
  · refine (θ_run Cert.Reference6Ideal.defs _ _).mono (fun r h c => ⟨(h c).1.trans ?_, (h c).2⟩) (Cert.Reference6Ideal.Value.run m' g')
    obtain ⟨e0, e1, e2, e3⟩ := hag c
    rw [e0, e1, e2, e3]
    rfl

/-- The frame of the lower bounds' reference. -/
theorem frame_reference7 : Cert.quiescent_Reference7Ideal (hReference7Ideal := Cert.Reference7Ideal.Gen.facts) := by
  intro m ρ _
  refine (θ_run Cert.Reference7Ideal.defs _ _).mono (fun r h => ?_) (Cert.Reference7Ideal.Value.run m ρ)
  exact ⟨fun c => (h c).2, sem_eq_zero_of_no_sems (by decide) r.2⟩

/-- The kernel and the reference of the lower bounds compute one function. -/
theorem value7 : Cert.algebraic_Kernel7Ideal_Reference7Ideal (hKernel7Ideal := Cert.Kernel7Ideal.Gen.facts) (hReference7Ideal := Cert.Reference7Ideal.Gen.facts) := by
  intro m g m' g' _ hag
  refine ⟨fun c => Cert.Reference7Ideal.Value.ref (m ((c.tc : Thread Cert.Kernel7Ideal.nD Cert.Kernel7Ideal.τ).loc Cert.Kernel7Ideal.main_arg0)), ?_, ?_⟩
  · refine (θ_run Cert.Kernel7Ideal.defs _ _).mono (fun r h c => ⟨(h c).1.trans (Cert.Kernel7Ideal.Value.row _), (h c).2⟩) (Cert.Kernel7Ideal.Value.run m g)
  · refine (θ_run Cert.Reference7Ideal.defs _ _).mono (fun r h c => ⟨(h c).1.trans ?_, (h c).2⟩) (Cert.Reference7Ideal.Value.run m' g')
    rw [hag c]
    rfl

theorem claim : Cert.Claim :=
  ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    frame_kernel, frame_ideal,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    frame_kernel5, frame_ideal5, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    trivial, trivial, value2, trivial, value3, trivial, value4, trivial, value5, trivial, value6, trivial, value7⟩

end Cert.Proof

end
